-- ==== Defs.lean ====
def Pre_Kernel [hPre_ids_in_table : Cert.Pre_ids_in_table.Facts] (m : (ℓ : Loc Cert.Kernel.nD Cert.Kernel.τ Cert.Kernel.sig) → Buf (Elt Bits) ℓ) : Prop :=
  ∀ c : Dev Cert.Kernel.nD,
    (Cert.Pre_ids_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] [hPre_ids_in_table : Cert.Pre_ids_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_ids_in_table : Cert.Pre_ids_in_table.Facts) (hPre_in_range : Cert.Pre_in_range.Facts),
    quiescent_Kernel (hKernel := hKernel) (hPre_ids_in_table := hPre_ids_in_table)
    ∧ quiescent_KernelIdeal (hKernelIdeal := hKernelIdeal) (hPre_ids_in_table := hPre_ids_in_table)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_ids_in_table.lean ====
abbrev S16384 : Shape := ⟨1, ![16384]⟩
abbrev S16384x5 : Shape := ⟨2, ![16384, 5]⟩
abbrev S100000x128 : Shape := ⟨2, ![100000, 128]⟩
abbrev S20x32 : Shape := ⟨2, ![20, 32]⟩
abbrev S1x32 : Shape := ⟨2, ![1, 32]⟩
abbrev S1 : Shape := ⟨1, ![1]⟩
abbrev S256x288 : Shape := ⟨2, ![256, 288]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : IVec S16384x5 32) (main_arg3 : FVec F S100000x128 .f32) (main_arg4 : FVec F S100000x128 .f32) (main_arg5 : FVec F S20x32 .f32) (main_arg6 : FVec F S1x32 .f32) (main_arg7 : FVec F S1 .f32) (main_arg8 : FVec F S256x288 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S64x128 .f32) (main_arg17 : FVec F S64 .f32) (main_arg18 : FVec F S64 .f32) (main_arg19 : FVec F S64 .f32) (main_arg20 : FVec F S1x64 .f32) (main_arg21 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 100000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Pre_in_range.lean ====
abbrev S16384 : Shape := ⟨1, ![16384]⟩
abbrev S16384x5 : Shape := ⟨2, ![16384, 5]⟩
abbrev S100000x128 : Shape := ⟨2, ![100000, 128]⟩
abbrev S20x32 : Shape := ⟨2, ![20, 32]⟩
abbrev S1x32 : Shape := ⟨2, ![1, 32]⟩
abbrev S1 : Shape := ⟨1, ![1]⟩
abbrev S256x288 : Shape := ⟨2, ![256, 288]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x5 : S_.BroadcastsInDim S16384x5 (![] : Fin 0 → Fin S16384x5.rank)
  reducesTo_S16384x5_S_d0_1 : S16384x5.ReducesTo [0, 1] S_
  bcast_S_S100000x128 : S_.BroadcastsInDim S100000x128 (![] : Fin 0 → Fin S100000x128.rank)
  reducesTo_S100000x128_S_d0_1 : S100000x128.ReducesTo [0, 1] S_
  bcast_S_S20x32 : S_.BroadcastsInDim S20x32 (![] : Fin 0 → Fin S20x32.rank)
  reducesTo_S20x32_S_d0_1 : S20x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_
  bcast_S_S256x288 : S_.BroadcastsInDim S256x288 (![] : Fin 0 → Fin S256x288.rank)
  reducesTo_S256x288_S_d0_1 : S256x288.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part5 {F : FTy → Type} [FloatOps F] (main_arg18 : FVec F S64 .f32) (main_v82 : IVec S_ 1) (main_v83 : FVec F S64 .f32) : IVec S_ 1 :=
  let main_cst_34 : FVec F S_ .f32 := constant S_ .f32 0x7F800000#32
  let main_v84 : FVec F S64 .f32 := broadcastInDim S64 ![] bcast_S_S64 main_cst_34
  let main_v85 : IVec S64 1 := cmpf .olt main_v83 main_v84
  let main_c_35 : IVec S_ 1 := constantI S_ 1 1#1
  let main_v86 : IVec S_ 1 := (fun x v => Host.reduce IntOp.andi x v reducesTo_S64_S_d0 h_S_) main_v85 main_c_35
  let main_v87 : IVec S_ 1 := andi main_v82 main_v86
  let main_v88 : FVec F S64 .f32 := Host.absf main_arg18
  let main_cst_36 : FVec F S_ .f32 := constant S_ .f32 0x7F800000#32
  let main_v89 : FVec F S64 .f32 := broadcastInDim S64 ![] bcast_S_S64 main_cst_36
  let main_v90 : IVec S64 1 := cmpf .olt main_v88 main_v89
  let main_c_37 : IVec S_ 1 := constantI S_ 1 1#1
  let main_v91 : IVec S_ 1 := (fun x v => Host.reduce IntOp.andi x v reducesTo_S64_S_d0 h_S_) main_v90 main_c_37
  let main_v92 : IVec S_ 1 := andi main_v87 main_v91
  main_v92

def fn_part4 {F : FTy → Type} [FloatOps F] (main_arg14 : FVec F S128 .f32) (main_arg15 : FVec F S128 .f32) (main_arg16 : FVec F S64x128 .f32) (main_arg17 : FVec F S64 .f32) (main_arg18 : FVec F S64 .f32) (main_v62 : IVec S_ 1) (main_v65 : IVec S128x256 1) (main_c_27 : IVec S_ 1) : IVec S_ 1 :=
  let main_v66 : IVec S_ 1 := (fun x v => Host.reduce IntOp.andi x v reducesTo_S128x256_S_d0_1 h_S_) main_v65 main_c_27
  let main_v67 : IVec S_ 1 := andi main_v62 main_v66
  let main_v68 : FVec F S128 .f32 := Host.absf main_arg14
  let main_cst_28 : FVec F S_ .f32 := constant S_ .f32 0x7F800000#32
  let main_v69 : FVec F S128 .f32 := broadcastInDim S128 ![] bcast_S_S128 main_cst_28
  let main_v70 : IVec S128 1 := cmpf .olt main_v68 main_v69
  let main_c_29 : IVec S_ 1 := constantI S_ 1 1#1
  let main_v71 : IVec S_ 1 := (fun x v => Host.reduce IntOp.andi x v reducesTo_S128_S_d0 h_S_) main_v70 main_c_29
  let main_v72 : IVec S_ 1 := andi main_v67 main_v71
  let main_v73 : FVec F S128 .f32 := Host.absf main_arg15
  let main_cst_30 : FVec F S_ .f32 := constant S_ .f32 0x7F800000#32
  let main_v74 : FVec F S128 .f32 := broadcastInDim S128 ![] bcast_S_S128 main_cst_30
  let main_v75 : IVec S128 1 := cmpf .olt main_v73 main_v74
  let main_c_31 : IVec S_ 1 := constantI S_ 1 1#1
  let main_v76 : IVec S_ 1 := (fun x v => Host.reduce IntOp.andi x v reducesTo_S128_S_d0 h_S_) main_v75 main_c_31
  let main_v77 : IVec S_ 1 := andi main_v72 main_v76
  let main_v78 : FVec F S64x128 .f32 := Host.absf main_arg16
  let main_cst_32 : FVec F S_ .f32 := constant S_ .f32 0x7F800000#32
  let main_v79 : FVec F S64x128 .f32 := broadcastInDim S64x128 ![] bcast_S_S64x128 main_cst_32
  let main_v80 : IVec S64x128 1 := cmpf .olt main_v78 main_v79
  let main_c_33 : IVec S_ 1 := constantI S_ 1 1#1
  let main_v81 : IVec S_ 1 := (fun x v => Host.reduce IntOp.andi x v reducesTo_S64x128_S_d0_1 h_S_) main_v80 main_c_33
  let main_v82 : IVec S_ 1 := andi main_v77 main_v81
  let main_v83 : FVec F S64 .f32 := Host.absf main_arg17
  fn_part5 (F := F) main_arg18 main_v82 main_v83

def fn_part3 {F : FTy → Type} [FloatOps F] (main_arg10 : FVec F S256 .f32) (main_arg11 : FVec F S256 .f32) (main_arg12 : FVec F S128x256 .f32) (main_arg14 : FVec F S128 .f32) (main_arg15 : FVec F S128 .f32) (main_arg16 : FVec F S64x128 .f32) (main_arg17 : FVec F S64 .f32) (main_arg18 : FVec F S64 .f32) (main_v47 : IVec S_ 1) (main_v48 : FVec F S256x288 .f32) (main_cst_20 : FVec F S_ .f32) : IVec S_ 1 :=
  let main_v49 : FVec F S256x288 .f32 := broadcastInDim S256x288 ![] bcast_S_S256x288 main_cst_20
  let main_v50 : IVec S256x288 1 := cmpf .olt main_v48 main_v49
  let main_c_21 : IVec S_ 1 := constantI S_ 1 1#1
  let main_v51 : IVec S_ 1 := (fun x v => Host.reduce IntOp.andi x v reducesTo_S256x288_S_d0_1 h_S_) main_v50 main_c_21
  let main_v52 : IVec S_ 1 := andi main_v47 main_v51
  let main_v53 : FVec F S256 .f32 := Host.absf main_arg10
  let main_cst_22 : FVec F S_ .f32 := constant S_ .f32 0x7F800000#32
  let main_v54 : FVec F S256 .f32 := broadcastInDim S256 ![] bcast_S_S256 main_cst_22
  let main_v55 : IVec S256 1 := cmpf .olt main_v53 main_v54
  let main_c_23 : IVec S_ 1 := constantI S_ 1 1#1
  let main_v56 : IVec S_ 1 := (fun x v => Host.reduce IntOp.andi x v reducesTo_S256_S_d0 h_S_) main_v55 main_c_23
  let main_v57 : IVec S_ 1 := andi main_v52 main_v56
  let main_v58 : FVec F S256 .f32 := Host.absf main_arg11
  let main_cst_24 : FVec F S_ .f32 := constant S_ .f32 0x7F800000#32
  let main_v59 : FVec F S256 .f32 := broadcastInDim S256 ![] bcast_S_S256 main_cst_24
  let main_v60 : IVec S256 1 := cmpf .olt main_v58 main_v59
  let main_c_25 : IVec S_ 1 := constantI S_ 1 1#1
  let main_v61 : IVec S_ 1 := (fun x v => Host.reduce IntOp.andi x v reducesTo_S256_S_d0 h_S_) main_v60 main_c_25
  let main_v62 : IVec S_ 1 := andi main_v57 main_v61
  let main_v63 : FVec F S128x256 .f32 := Host.absf main_arg12
  let main_cst_26 : FVec F S_ .f32 := constant S_ .f32 0x7F800000#32
  let main_v64 : FVec F S128x256 .f32 := broadcastInDim S128x256 ![] bcast_S_S128x256 main_cst_26
  let main_v65 : IVec S128x256 1 := cmpf .olt main_v63 main_v64
  let main_c_27 : IVec S_ 1 := constantI S_ 1 1#1
  fn_part4 (F := F) main_arg14 main_arg15 main_arg16 main_arg17 main_arg18 main_v62 main_v65 main_c_27

def fn_part2 {F : FTy → Type} [FloatOps F] (main_arg5 : FVec F S20x32 .f32) (main_arg6 : FVec F S1x32 .f32) (main_arg7 : FVec F S1 .f32) (main_arg8 : FVec F S256x288 .f32) (main_arg10 : FVec F S256 .f32) (main_arg11 : FVec F S256 .f32) (main_arg12 : FVec F S128x256 .f32) (main_arg14 : FVec F S128 .f32) (main_arg15 : FVec F S128 .f32) (main_arg16 : FVec F S64x128 .f32) (main_arg17 : FVec F S64 .f32) (main_arg18 : FVec F S64 .f32) (main_v27 : IVec S_ 1) (main_v31 : IVec S_ 1) : IVec S_ 1 :=
  let main_v32 : IVec S_ 1 := andi main_v27 main_v31
  let main_v33 : FVec F S20x32 .f32 := Host.absf main_arg5
  let main_cst_14 : FVec F S_ .f32 := constant S_ .f32 0x7F800000#32
  let main_v34 : FVec F S20x32 .f32 := broadcastInDim S20x32 ![] bcast_S_S20x32 main_cst_14
  let main_v35 : IVec S20x32 1 := cmpf .olt main_v33 main_v34
  let main_c_15 : IVec S_ 1 := constantI S_ 1 1#1
  let main_v36 : IVec S_ 1 := (fun x v => Host.reduce IntOp.andi x v reducesTo_S20x32_S_d0_1 h_S_) main_v35 main_c_15
  let main_v37 : IVec S_ 1 := andi main_v32 main_v36
  let main_v38 : FVec F S1x32 .f32 := Host.absf main_arg6
  let main_cst_16 : FVec F S_ .f32 := constant S_ .f32 0x7F800000#32
  let main_v39 : FVec F S1x32 .f32 := broadcastInDim S1x32 ![] bcast_S_S1x32 main_cst_16
  let main_v40 : IVec S1x32 1 := cmpf .olt main_v38 main_v39
  let main_c_17 : IVec S_ 1 := constantI S_ 1 1#1
  let main_v41 : IVec S_ 1 := (fun x v => Host.reduce IntOp.andi x v reducesTo_S1x32_S_d0_1 h_S_) main_v40 main_c_17
  let main_v42 : IVec S_ 1 := andi main_v37 main_v41
  let main_v43 : FVec F S1 .f32 := Host.absf main_arg7
  let main_cst_18 : FVec F S_ .f32 := constant S_ .f32 0x7F800000#32
  let main_v44 : FVec F S1 .f32 := broadcastInDim S1 ![] bcast_S_S1 main_cst_18
  let main_v45 : IVec S1 1 := cmpf .olt main_v43 main_v44
  let main_c_19 : IVec S_ 1 := constantI S_ 1 1#1
  let main_v46 : IVec S_ 1 := (fun x v => Host.reduce IntOp.andi x v reducesTo_S1_S_d0 h_S_) main_v45 main_c_19
  let main_v47 : IVec S_ 1 := andi main_v42 main_v46
  let main_v48 : FVec F S256x288 .f32 := Host.absf main_arg8
  let main_cst_20 : FVec F S_ .f32 := constant S_ .f32 0x7F800000#32
  fn_part3 (F := F) main_arg10 main_arg11 main_arg12 main_arg14 main_arg15 main_arg16 main_arg17 main_arg18 main_v47 main_v48 main_cst_20

def fn_part1 {F : FTy → Type} [FloatOps F] (main_arg2 : IVec S16384x5 32) (main_arg3 : FVec F S100000x128 .f32) (main_arg4 : FVec F S100000x128 .f32) (main_arg5 : FVec F S20x32 .f32) (main_arg6 : FVec F S1x32 .f32) (main_arg7 : FVec F S1 .f32) (main_arg8 : FVec F S256x288 .f32) (main_arg10 : FVec F S256 .f32) (main_arg11 : FVec F S256 .f32) (main_arg12 : FVec F S128x256 .f32) (main_arg14 : FVec F S128 .f32) (main_arg15 : FVec F S128 .f32) (main_arg16 : FVec F S64x128 .f32) (main_arg17 : FVec F S64 .f32) (main_arg18 : FVec F S64 .f32) (main_v14 : IVec S_ 1) (main_c_7 : IVec S_ 32) : IVec S_ 1 :=
  let main_v15 : IVec S16384x5 32 := broadcastInDim S16384x5 ![] bcast_S_S16384x5 main_c_7
  let main_v16 : IVec S16384x5 1 := cmpi .sge main_arg2 main_v15
  let main_c_8 : IVec S_ 1 := constantI S_ 1 1#1
  let main_v17 : IVec S_ 1 := (fun x v => Host.reduce IntOp.andi x v reducesTo_S16384x5_S_d0_1 h_S_) main_v16 main_c_8
  let main_v18 : IVec S_ 1 := andi main_v14 main_v17
  let main_c_9 : IVec S_ 32 := constantI S_ 32 20#32
  let main_v19 : IVec S16384x5 32 := broadcastInDim S16384x5 ![] bcast_S_S16384x5 main_c_9
  let main_v20 : IVec S16384x5 1 := cmpi .slt main_arg2 main_v19
  let main_c_10 : IVec S_ 1 := constantI S_ 1 1#1
  let main_v21 : IVec S_ 1 := (fun x v => Host.reduce IntOp.andi x v reducesTo_S16384x5_S_d0_1 h_S_) main_v20 main_c_10
  let main_v22 : IVec S_ 1 := andi main_v18 main_v21
  let main_v23 : FVec F S100000x128 .f32 := Host.absf main_arg3
  let main_cst : FVec F S_ .f32 := constant S_ .f32 0x7F800000#32
  let main_v24 : FVec F S100000x128 .f32 := broadcastInDim S100000x128 ![] bcast_S_S100000x128 main_cst
  let main_v25 : IVec S100000x128 1 := cmpf .olt main_v23 main_v24
  let main_c_11 : IVec S_ 1 := constantI S_ 1 1#1
  let main_v26 : IVec S_ 1 := (fun x v => Host.reduce IntOp.andi x v reducesTo_S100000x128_S_d0_1 h_S_) main_v25 main_c_11
  let main_v27 : IVec S_ 1 := andi main_v22 main_v26
  let main_v28 : FVec F S100000x128 .f32 := Host.absf main_arg4
  let main_cst_12 : FVec F S_ .f32 := constant S_ .f32 0x7F800000#32
  let main_v29 : FVec F S100000x128 .f32 := broadcastInDim S100000x128 ![] bcast_S_S100000x128 main_cst_12
  let main_v30 : IVec S100000x128 1 := cmpf .olt main_v28 main_v29
  let main_c_13 : IVec S_ 1 := constantI S_ 1 1#1
  let main_v31 : IVec S_ 1 := (fun x v => Host.reduce IntOp.andi x v reducesTo_S100000x128_S_d0_1 h_S_) main_v30 main_c_13
  fn_part2 (F := F) main_arg5 main_arg6 main_arg7 main_arg8 main_arg10 main_arg11 main_arg12 main_arg14 main_arg15 main_arg16 main_arg17 main_arg18 main_v27 main_v31

def fn {F : FTy → Type} [FloatOps F] (main_arg0 : IVec S16384 32) (main_arg1 : IVec S16384 32) (main_arg2 : IVec S16384x5 32) (main_arg3 : FVec F S100000x128 .f32) (main_arg4 : FVec F S100000x128 .f32) (main_arg5 : FVec F S20x32 .f32) (main_arg6 : FVec F S1x32 .f32) (main_arg7 : FVec F S1 .f32) (main_arg8 : FVec F S256x288 .f32) (main_arg9 : FVec F S256 .f32) (main_arg10 : FVec F S256 .f32) (main_arg11 : FVec F S256 .f32) (main_arg12 : FVec F S128x256 .f32) (main_arg13 : FVec F S128 .f32) (main_arg14 : FVec F S128 .f32) (main_arg15 : FVec F S128 .f32) (main_arg16 : FVec F S64x128 .f32) (main_arg17 : FVec F S64 .f32) (main_arg18 : FVec F S64 .f32) (main_arg19 : FVec F S64 .f32) (main_arg20 : FVec F S1x64 .f32) (main_arg21 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 100000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  let main_c_7 : IVec S_ 32 := constantI S_ 32 0#32
  fn_part1 (F := F) main_arg2 main_arg3 main_arg4 main_arg5 main_arg6 main_arg7 main_arg8 main_arg10 main_arg11 main_arg12 main_arg14 main_arg15 main_arg16 main_arg17 main_arg18 main_v14 main_c_7
-- ==== Kernel.lean ====
abbrev S16384 : Shape := ⟨1, ![16384]⟩
abbrev S16384x5 : Shape := ⟨2, ![16384, 5]⟩
abbrev S100000x128 : Shape := ⟨2, ![100000, 128]⟩
abbrev S20x32 : Shape := ⟨2, ![20, 32]⟩
abbrev S1x32 : Shape := ⟨2, ![1, 32]⟩
abbrev S1 : Shape := ⟨1, ![1]⟩
abbrev S256x288 : Shape := ⟨2, ![256, 288]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S128x128 : Shape := ⟨2, ![128, 128]⟩
abbrev S16384x256 : Shape := ⟨2, ![16384, 256]⟩
abbrev S4x128 : Shape := ⟨2, ![4, 128]⟩
abbrev S512x128 : Shape := ⟨2, ![512, 128]⟩
abbrev S_ : Shape := ⟨0, ![]⟩
abbrev S1x128 : Shape := ⟨2, ![1, 128]⟩
abbrev S24x32 : Shape := ⟨2, ![24, 32]⟩
abbrev S16384x32 : Shape := ⟨2, ![16384, 32]⟩
abbrev S8192x5 : Shape := ⟨2, ![8192, 5]⟩
abbrev S8192x32 : Shape := ⟨2, ![8192, 32]⟩
abbrev S1x24 : Shape := ⟨2, ![1, 24]⟩
abbrev S1x120 : Shape := ⟨2, ![1, 120]⟩
abbrev S5x120 : Shape := ⟨2, ![5, 120]⟩
abbrev S8192x120 : Shape := ⟨2, ![8192, 120]⟩
abbrev S8192 : Shape := ⟨1, ![8192]⟩
abbrev S8192x1 : Shape := ⟨2, ![8192, 1]⟩
abbrev S120x32 : Shape := ⟨2, ![120, 32]⟩
abbrev S256x256 : Shape := ⟨2, ![256, 256]⟩
abbrev S256x32 : Shape := ⟨2, ![256, 32]⟩
abbrev S1x256 : Shape := ⟨2, ![1, 256]⟩
abbrev S1x1 : Shape := ⟨2, ![1, 1]⟩
abbrev S1x1x16384 : Shape := ⟨3, ![1, 1, 16384]⟩
abbrev S8192x256 : Shape := ⟨2, ![8192, 256]⟩
abbrev S16384x128 : Shape := ⟨2, ![16384, 128]⟩
abbrev S16384x64 : Shape := ⟨2, ![16384, 64]⟩
abbrev S1x16384 : Shape := ⟨2, ![1, 16384]⟩

abbrev nBuf : Table → Nat
  | .hbm => 45
  | .local .tc .vmem => 29
  | .local .scVector .vmem => 2
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384x5, .i32⟩
  | .hbm, ⟨3, _⟩ => ⟨S100000x128, .f32⟩
  | .hbm, ⟨4, _⟩ => ⟨S100000x128, .f32⟩
  | .hbm, ⟨5, _⟩ => ⟨S20x32, .f32⟩
  | .hbm, ⟨6, _⟩ => ⟨S1x32, .f32⟩
  | .hbm, ⟨7, _⟩ => ⟨S1, .f32⟩
  | .hbm, ⟨8, _⟩ => ⟨S256x288, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S128x256, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S64x128, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S1, .f32⟩
  | .hbm, ⟨22, _⟩ => ⟨S128x128, .i32⟩
  | .hbm, ⟨23, _⟩ => ⟨S128x128, .i32⟩
  | .hbm, ⟨24, _⟩ => ⟨S16384x256, .f32⟩
  | .hbm, ⟨25, _⟩ => ⟨S_, .f32⟩
  | .hbm, ⟨26, _⟩ => ⟨S24x32, .f32⟩
  | .hbm, ⟨27, _⟩ => ⟨S_, .i32⟩
  | .hbm, ⟨28, _⟩ => ⟨S1, .i32⟩
  | .hbm, ⟨29, _⟩ => ⟨S24x32, .f32⟩
  | .hbm, ⟨30, _⟩ => ⟨S16384x32, .bf16⟩
  | .hbm, ⟨31, _⟩ => ⟨S256x256, .f32⟩
  | .hbm, ⟨32, _⟩ => ⟨S256x32, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x64, .f32⟩
  | .hbm, ⟨40, _⟩ => ⟨S1x64, .f32⟩
  | .hbm, ⟨41, _⟩ => ⟨S1x64, .f32⟩
  | .hbm, ⟨42, _⟩ => ⟨S1x1, .f32⟩
  | .hbm, ⟨43, _⟩ => ⟨S1x1x16384, .f32⟩
  | .hbm, ⟨44, _⟩ => ⟨S16384, .f32⟩
  | .local .tc .vmem, ⟨0, _⟩ => ⟨S8192x5, .i32⟩
  | .local .tc .vmem, ⟨1, _⟩ => ⟨S8192x5, .i32⟩
  | .local .tc .vmem, ⟨2, _⟩ => ⟨S24x32, .f32⟩
  | .local .tc .vmem, ⟨3, _⟩ => ⟨S1x32, .f32⟩
  | .local .tc .vmem, ⟨4, _⟩ => ⟨S8192x32, .bf16⟩
  | .local .tc .vmem, ⟨5, _⟩ => ⟨S8192x32, .bf16⟩
  | .local .tc .vmem, ⟨6, _⟩ => ⟨S8192x256, .f32⟩
  | .local .tc .vmem, ⟨7, _⟩ => ⟨S8192x256, .f32⟩
  | .local .tc .vmem, ⟨8, _⟩ => ⟨S8192x32, .bf16⟩
  | .local .tc .vmem, ⟨9, _⟩ => ⟨S8192x32, .bf16⟩
  | .local .tc .vmem, ⟨10, _⟩ => ⟨S256x256, .f32⟩
  | .local .tc .vmem, ⟨11, _⟩ => ⟨S256x32, .f32⟩
  | .local .tc .vmem, ⟨12, _⟩ => ⟨S1x256, .f32⟩
  | .local .tc .vmem, ⟨13, _⟩ => ⟨S1x256, .f32⟩
  | .local .tc .vmem, ⟨14, _⟩ => ⟨S1x256, .f32⟩
  | .local .tc .vmem, ⟨15, _⟩ => ⟨S128x256, .f32⟩
  | .local .tc .vmem, ⟨16, _⟩ => ⟨S1x128, .f32⟩
  | .local .tc .vmem, ⟨17, _⟩ => ⟨S1x128, .f32⟩
  | .local .tc .vmem, ⟨18, _⟩ => ⟨S1x128, .f32⟩
  | .local .tc .vmem, ⟨19, _⟩ => ⟨S64x128, .f32⟩
  | .local .tc .vmem, ⟨20, _⟩ => ⟨S1x64, .f32⟩
  | .local .tc .vmem, ⟨21, _⟩ => ⟨S1x64, .f32⟩
  | .local .tc .vmem, ⟨22, _⟩ => ⟨S1x64, .f32⟩
  | .local .tc .vmem, ⟨23, _⟩ => ⟨S1x64, .f32⟩
  | .local .tc .vmem, ⟨24, _⟩ => ⟨S1x1, .f32⟩
  | .local .tc .vmem, ⟨25, _⟩ => ⟨S1x1x16384, .f32⟩
  | .local .tc .vmem, ⟨26, _⟩ => ⟨S16384x256, .f32⟩
  | .local .tc .vmem, ⟨27, _⟩ => ⟨S1x256, .f32⟩
  | .local .tc .vmem, ⟨28, _⟩ => ⟨S1x256, .f32⟩
  | .local .scVector .vmem, ⟨0, _⟩ => ⟨S4x128, .i32⟩
  | .local .scVector .vmem, ⟨1, _⟩ => ⟨S512x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v0_scv : Ref sig .scVector := ⟨.hbm, 22, rfl⟩
abbrev main_v1_scv : Ref sig .scVector := ⟨.hbm, 23, rfl⟩
abbrev main_arg3_scv : Ref sig .scVector := ⟨.hbm, 3, rfl⟩
abbrev main_arg4_scv : Ref sig .scVector := ⟨.hbm, 4, rfl⟩
abbrev main_v2_scv : Ref sig .scVector := ⟨.hbm, 24, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc2_stg5_0 : Ref sig .tc := ⟨.vmem, 13, rfl⟩
abbrev cc2_stg6_0 : Ref sig .tc := ⟨.vmem, 14, rfl⟩
abbrev cc2_stg7_0 : Ref sig .tc := ⟨.vmem, 15, rfl⟩
abbrev cc2_stg8_0 : Ref sig .tc := ⟨.vmem, 16, rfl⟩
abbrev cc2_stg9_0 : Ref sig .tc := ⟨.vmem, 17, rfl⟩
abbrev cc2_stg10_0 : Ref sig .tc := ⟨.vmem, 18, rfl⟩
abbrev cc2_stg11_0 : Ref sig .tc := ⟨.vmem, 19, rfl⟩
abbrev cc2_stg12_0 : Ref sig .tc := ⟨.vmem, 20, rfl⟩
abbrev cc2_stg13_0 : Ref sig .tc := ⟨.vmem, 21, rfl⟩
abbrev cc2_stg14_0 : Ref sig .tc := ⟨.vmem, 22, rfl⟩
abbrev cc2_stg15_0 : Ref sig .tc := ⟨.vmem, 23, rfl⟩
abbrev cc2_stg16_0 : Ref sig .tc := ⟨.vmem, 24, rfl⟩
abbrev cc2_stg17_0 : Ref sig .tc := ⟨.vmem, 25, rfl⟩
abbrev cc2_scratch0 : Ref sig .tc := ⟨.vmem, 26, rfl⟩
abbrev cc2_scratch1 : Ref sig .tc := ⟨.vmem, 27, rfl⟩
abbrev cc2_scratch2 : Ref sig .tc := ⟨.vmem, 28, rfl⟩
abbrev cc0_scratch0 : Ref sig .scVector := ⟨.vmem, 0, rfl⟩
abbrev cc0_scratch1 : Ref sig .scVector := ⟨.vmem, 1, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem8_0 : DmaSem sig := 21
abbrev cc2_sem9_0 : DmaSem sig := 22
abbrev cc2_sem10_0 : DmaSem sig := 23
abbrev cc2_sem11_0 : DmaSem sig := 24
abbrev cc2_sem12_0 : DmaSem sig := 25
abbrev cc2_sem13_0 : DmaSem sig := 26
abbrev cc2_sem14_0 : DmaSem sig := 27
abbrev cc2_sem15_0 : DmaSem sig := 28
abbrev cc2_sem16_0 : DmaSem sig := 29
abbrev cc2_sem17_0 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_91_r0 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_91_r1 : BitVec 32 := 0#32
  ![v2.toNat, 0]
def k0_off3 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c128_i32_91_r3 : BitVec 32 := 128#32
  ![v2.toNat, 128]
abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x5 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S24x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x32 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![3], ![false]⟩

def k2_cond1 (i : grid2.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k2_mult1 (i : grid2.Coords) : BitVec 32 :=
  let arg0 : BitVec 32 := BitVec.ofNat 32 (i 0).val
  let c8192_i32 : BitVec 32 := 8192#32
  let v6 : BitVec 32 := Scalar.muli arg0 c8192_i32
  v6
def k2_off1 (i : grid2.Coords) : Fin 2 → Nat :=
  let arg0 : BitVec 32 := BitVec.ofNat 32 (i 0).val
  let c8192_i32 : BitVec 32 := 8192#32
  let v6 : BitVec 32 := Scalar.muli arg0 c8192_i32
  let v7 : BitVec 32 := v6
  let v26 : Index := Scalar.indexCast v7
  let c0_12 : Index := 0#32
  ![v26.toNat, 0]
def k2_cond3 (i : grid2.Coords) : BitVec 1 :=
  let arg0 : BitVec 32 := BitVec.ofNat 32 (i 0).val
  let c2_i32_0 : BitVec 32 := 2#32
  let v3 : BitVec 1 := Scalar.cmpi .eq arg0 c2_i32_0
  let v4 : BitVec 32 := Scalar.extui v3
  let c0_i32_1 : BitVec 32 := 0#32
  let v5 : BitVec 1 := Scalar.cmpi .ne v4 c0_i32_1
  v5

def cc2_transform_0 (i : grid2.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage2_0 : Fin 2 → Memref sig .tc .vmem S8192x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8192x32 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S1x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S1x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S1x1 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S1x1x16384 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S16384x5 : Shape := ⟨2, ![16384, 5]⟩
abbrev S100000x128 : Shape := ⟨2, ![100000, 128]⟩
abbrev S20x32 : Shape := ⟨2, ![20, 32]⟩
abbrev S1x32 : Shape := ⟨2, ![1, 32]⟩
abbrev S1 : Shape := ⟨1, ![1]⟩
abbrev S256x288 : Shape := ⟨2, ![256, 288]⟩
abbrev S256 : Shape := ⟨1, ![256]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x5x1 : Shape := ⟨3, ![16384, 5, 1]⟩
abbrev S1x1x1 : Shape := ⟨3, ![1, 1, 1]⟩
abbrev S16384x5x32 : Shape := ⟨3, ![16384, 5, 32]⟩
abbrev S16384x1x1 : Shape := ⟨3, ![16384, 1, 1]⟩
abbrev S16384x32 : Shape := ⟨2, ![16384, 32]⟩
abbrev S16384x288 : Shape := ⟨2, ![16384, 288]⟩
abbrev S288x256 : Shape := ⟨2, ![288, 256]⟩
abbrev S16384x256 : Shape := ⟨2, ![16384, 256]⟩
abbrev S1x256 : Shape := ⟨2, ![1, 256]⟩
abbrev S256x128 : Shape := ⟨2, ![256, 128]⟩
abbrev S1x128 : Shape := ⟨2, ![1, 128]⟩
abbrev S128x64 : Shape := ⟨2, ![128, 64]⟩
abbrev S16384x64 : Shape := ⟨2, ![16384, 64]⟩
abbrev S64x1 : Shape := ⟨2, ![64, 1]⟩

abbrev nBuf : Space → Nat
  | .hbm => 287
  | .vmem => 0
  | .smem => 0
  | _ => 0

abbrev hbmTy0_0 (i : Nat) : BufTy := match i % 128 with
  | 0 => ⟨S16384, .i32⟩
  | 1 => ⟨S16384, .i32⟩
  | 2 => ⟨S16384x5, .i32⟩
  | 3 => ⟨S100000x128, .f32⟩
  | 4 => ⟨S100000x128, .f32⟩
  | 5 => ⟨S20x32, .f32⟩
  | 6 => ⟨S1x32, .f32⟩
  | 7 => ⟨S1, .f32⟩
  | 8 => ⟨S256x288, .f32⟩
  | 9 => ⟨S256, .f32⟩
  | 10 => ⟨S256, .f32⟩
  | 11 => ⟨S256, .f32⟩
  | 12 => ⟨S128x256, .f32⟩
  | 13 => ⟨S128, .f32⟩
  | 14 => ⟨S128, .f32⟩
  | 15 => ⟨S128, .f32⟩
  | 16 => ⟨S64x128, .f32⟩
  | 17 => ⟨S64, .f32⟩
  | 18 => ⟨S64, .f32⟩
  | 19 => ⟨S64, .f32⟩
  | 20 => ⟨S1x64, .f32⟩
  | 21 => ⟨S1, .f32⟩
  | 22 => ⟨S_, .i32⟩
  | 23 => ⟨S16384, .i32⟩
  | 24 => ⟨S16384, .i1⟩
  | 25 => ⟨S_, .i32⟩
  | 26 => ⟨S16384, .i32⟩
  | 27 => ⟨S16384, .i32⟩
  | 28 => ⟨S16384, .i32⟩
  | 29 => ⟨S16384x1, .i32⟩
  | 30 => ⟨S1, .i32⟩
  | 31 => ⟨S_, .i32⟩
  | 32 => ⟨S16384x1, .i32⟩
  | 33 => ⟨S16384x1, .i1⟩
  | 34 => ⟨S1x1, .i32⟩
  | 35 => ⟨S16384x1, .i32⟩
  | 36 => ⟨S16384x1, .i1⟩
  | 37 => ⟨S16384x1, .i1⟩
  | 38 => ⟨S_, .i1⟩
  | 39 => ⟨S16384, .i1⟩
  | 40 => ⟨S16384x128, .f32⟩
  | 41 => ⟨S16384x128, .i1⟩
  | 42 => ⟨S_, .f32⟩
  | 43 => ⟨S16384x128, .f32⟩
  | 44 => ⟨S16384x128, .f32⟩
  | 45 => ⟨S_, .i32⟩
  | 46 => ⟨S16384, .i32⟩
  | 47 => ⟨S16384, .i1⟩
  | 48 => ⟨S_, .i32⟩
  | 49 => ⟨S16384, .i32⟩
  | 50 => ⟨S16384, .i32⟩
  | 51 => ⟨S16384, .i32⟩
  | 52 => ⟨S16384x1, .i32⟩
  | 53 => ⟨S1, .i32⟩
  | 54 => ⟨S_, .i32⟩
  | 55 => ⟨S16384x1, .i32⟩
  | 56 => ⟨S16384x1, .i1⟩
  | 57 => ⟨S1x1, .i32⟩
  | 58 => ⟨S16384x1, .i32⟩
  | 59 => ⟨S16384x1, .i1⟩
  | 60 => ⟨S16384x1, .i1⟩
  | 61 => ⟨S_, .i1⟩
  | 62 => ⟨S16384, .i1⟩
  | 63 => ⟨S16384x128, .f32⟩
  | 64 => ⟨S16384x128, .i1⟩
  | 65 => ⟨S_, .f32⟩
  | 66 => ⟨S16384x128, .f32⟩
  | 67 => ⟨S16384x128, .f32⟩
  | 68 => ⟨S_, .i32⟩
  | 69 => ⟨S16384x5, .i32⟩
  | 70 => ⟨S16384x5, .i1⟩
  | 71 => ⟨S_, .i32⟩
  | 72 => ⟨S16384x5, .i32⟩
  | 73 => ⟨S16384x5, .i32⟩
  | 74 => ⟨S16384x5, .i32⟩
  | 75 => ⟨S16384x5x1, .i32⟩
  | 76 => ⟨S1, .i32⟩
  | 77 => ⟨S_, .i32⟩
  | 78 => ⟨S16384x5x1, .i32⟩
  | 79 => ⟨S16384x5x1, .i1⟩
  | 80 => ⟨S1x1x1, .i32⟩
  | 81 => ⟨S16384x5x1, .i32⟩
  | 82 => ⟨S16384x5x1, .i1⟩
  | 83 => ⟨S16384x5x1, .i1⟩
  | 84 => ⟨S_, .i1⟩
  | 85 => ⟨S16384x5, .i1⟩
  | 86 => ⟨S16384x5x32, .f32⟩
  | 87 => ⟨S16384x5x32, .i1⟩
  | 88 => ⟨S_, .f32⟩
  | 89 => ⟨S16384x5x32, .f32⟩
  | 90 => ⟨S16384x5x32, .f32⟩
  | 91 => ⟨S16384x5x1, .f32⟩
  | 92 => ⟨S1x1x1, .f32⟩
  | 93 => ⟨S16384x5x1, .f32⟩
  | 94 => ⟨S16384x5x1, .f32⟩
  | 95 => ⟨S_, .f32⟩
  | 96 => ⟨S16384x1, .f32⟩
  | 97 => ⟨S_, .f32⟩
  | 98 => ⟨S16384x1, .f32⟩
  | 99 => ⟨S16384x1, .f32⟩
  | 100 => ⟨S16384x1x1, .f32⟩
  | 101 => ⟨S16384x5x1, .f32⟩
  | 102 => ⟨S16384x5x1, .f32⟩
  | 103 => ⟨S16384x5x1, .f32⟩
  | 104 => ⟨S_, .f32⟩
  | 105 => ⟨S16384x1, .f32⟩
  | 106 => ⟨S16384x1x1, .f32⟩
  | 107 => ⟨S16384x5x1, .f32⟩
  | 108 => ⟨S16384x5x1, .f32⟩
  | 109 => ⟨S16384x5x32, .f32⟩
  | 110 => ⟨S16384x5x32, .f32⟩
  | 111 => ⟨S_, .f32⟩
  | 112 => ⟨S16384x32, .f32⟩
  | 113 => ⟨S16384x288, .f32⟩
  | 114 => ⟨S288x256, .f32⟩
  | 115 => ⟨S16384x256, .f32⟩
  | 116 => ⟨S1x256, .f32⟩
  | 117 => ⟨S16384x256, .f32⟩
  | 118 => ⟨S16384x256, .f32⟩
  | 119 => ⟨S_, .f32⟩
  | 120 => ⟨S256, .f32⟩
  | 121 => ⟨S_, .f32⟩
  | 122 => ⟨S256, .f32⟩
  | 123 => ⟨S256, .f32⟩
  | 124 => ⟨S_, .i32⟩
  | 125 => ⟨S_, .f32⟩
  | 126 => ⟨S256, .f32⟩
  | 127 => ⟨S1x256, .f32⟩
  | _ => ⟨S16384, .i32⟩

abbrev hbmTy0_1 (i : Nat) : BufTy := match i % 128 with
  | 0 => ⟨S_, .f32⟩
  | 1 => ⟨S1x256, .f32⟩
  | 2 => ⟨S1x256, .f32⟩
  | 3 => ⟨S16384x256, .f32⟩
  | 4 => ⟨S16384x256, .f32⟩
  | 5 => ⟨S16384x256, .f32⟩
  | 6 => ⟨S_, .f32⟩
  | 7 => ⟨S_, .f32⟩
  | 8 => ⟨S_, .f32⟩
  | 9 => ⟨S_, .f32⟩
  | 10 => ⟨S256, .f32⟩
  | 11 => ⟨S256, .f32⟩
  | 12 => ⟨S256, .f32⟩
  | 13 => ⟨S_, .f32⟩
  | 14 => ⟨S_, .i1⟩
  | 15 => ⟨S_, .f32⟩
  | 16 => ⟨S_, .f32⟩
  | 17 => ⟨S256, .f32⟩
  | 18 => ⟨S256, .f32⟩
  | 19 => ⟨S1x256, .f32⟩
  | 20 => ⟨S16384x256, .f32⟩
  | 21 => ⟨S16384x256, .f32⟩
  | 22 => ⟨S1x256, .f32⟩
  | 23 => ⟨S16384x256, .f32⟩
  | 24 => ⟨S16384x256, .f32⟩
  | 25 => ⟨S_, .f32⟩
  | 26 => ⟨S256, .f32⟩
  | 27 => ⟨S256, .f32⟩
  | 28 => ⟨S256, .f32⟩
  | 29 => ⟨S1x256, .f32⟩
  | 30 => ⟨S16384x256, .f32⟩
  | 31 => ⟨S16384x256, .f32⟩
  | 32 => ⟨S1x256, .f32⟩
  | 33 => ⟨S16384x256, .f32⟩
  | 34 => ⟨S16384x256, .f32⟩
  | 35 => ⟨S_, .f32⟩
  | 36 => ⟨S16384x256, .f32⟩
  | 37 => ⟨S16384x256, .f32⟩
  | 38 => ⟨S256x128, .f32⟩
  | 39 => ⟨S16384x128, .f32⟩
  | 40 => ⟨S1x128, .f32⟩
  | 41 => ⟨S16384x128, .f32⟩
  | 42 => ⟨S16384x128, .f32⟩
  | 43 => ⟨S_, .f32⟩
  | 44 => ⟨S128, .f32⟩
  | 45 => ⟨S_, .f32⟩
  | 46 => ⟨S128, .f32⟩
  | 47 => ⟨S128, .f32⟩
  | 48 => ⟨S_, .i32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S16384x128, .f32⟩
  | 56 => ⟨S16384x128, .f32⟩
  | 57 => ⟨S16384x128, .f32⟩
  | 58 => ⟨S_, .f32⟩
  | 59 => ⟨S_, .f32⟩
  | 60 => ⟨S_, .f32⟩
  | 61 => ⟨S_, .f32⟩
  | 62 => ⟨S128, .f32⟩
  | 63 => ⟨S128, .f32⟩
  | 64 => ⟨S128, .f32⟩
  | 65 => ⟨S_, .f32⟩
  | 66 => ⟨S_, .i1⟩
  | 67 => ⟨S_, .f32⟩
  | 68 => ⟨S_, .f32⟩
  | 69 => ⟨S128, .f32⟩
  | 70 => ⟨S128, .f32⟩
  | 71 => ⟨S1x128, .f32⟩
  | 72 => ⟨S16384x128, .f32⟩
  | 73 => ⟨S16384x128, .f32⟩
  | 74 => ⟨S1x128, .f32⟩
  | 75 => ⟨S16384x128, .f32⟩
  | 76 => ⟨S16384x128, .f32⟩
  | 77 => ⟨S_, .f32⟩
  | 78 => ⟨S128, .f32⟩
  | 79 => ⟨S128, .f32⟩
  | 80 => ⟨S128, .f32⟩
  | 81 => ⟨S1x128, .f32⟩
  | 82 => ⟨S16384x128, .f32⟩
  | 83 => ⟨S16384x128, .f32⟩
  | 84 => ⟨S1x128, .f32⟩
  | 85 => ⟨S16384x128, .f32⟩
  | 86 => ⟨S16384x128, .f32⟩
  | 87 => ⟨S_, .f32⟩
  | 88 => ⟨S16384x128, .f32⟩
  | 89 => ⟨S16384x128, .f32⟩
  | 90 => ⟨S128x64, .f32⟩
  | 91 => ⟨S16384x64, .f32⟩
  | 92 => ⟨S1x64, .f32⟩
  | 93 => ⟨S16384x64, .f32⟩
  | 94 => ⟨S16384x64, .f32⟩
  | 95 => ⟨S_, .f32⟩
  | 96 => ⟨S64, .f32⟩
  | 97 => ⟨S_, .f32⟩
  | 98 => ⟨S64, .f32⟩
  | 99 => ⟨S64, .f32⟩
  | 100 => ⟨S_, .i32⟩
  | 101 => ⟨S_, .f32⟩
  | 102 => ⟨S64, .f32⟩
  | 103 => ⟨S1x64, .f32⟩
  | 104 => ⟨S_, .f32⟩
  | 105 => ⟨S1x64, .f32⟩
  | 106 => ⟨S1x64, .f32⟩
  | 107 => ⟨S16384x64, .f32⟩
  | 108 => ⟨S16384x64, .f32⟩
  | 109 => ⟨S16384x64, .f32⟩
  | 110 => ⟨S_, .f32⟩
  | 111 => ⟨S_, .f32⟩
  | 112 => ⟨S_, .f32⟩
  | 113 => ⟨S_, .f32⟩
  | 114 => ⟨S64, .f32⟩
  | 115 => ⟨S64, .f32⟩
  | 116 => ⟨S64, .f32⟩
  | 117 => ⟨S_, .f32⟩
  | 118 => ⟨S_, .i1⟩
  | 119 => ⟨S_, .f32⟩
  | 120 => ⟨S_, .f32⟩
  | 121 => ⟨S64, .f32⟩
  | 122 => ⟨S64, .f32⟩
  | 123 => ⟨S1x64, .f32⟩
  | 124 => ⟨S16384x64, .f32⟩
  | 125 => ⟨S16384x64, .f32⟩
  | 126 => ⟨S1x64, .f32⟩
  | 127 => ⟨S16384x64, .f32⟩
  | _ => ⟨S16384, .i32⟩

abbrev hbmTy0_2 (i : Nat) : BufTy := match i % 128 with
  | 0 => ⟨S16384x64, .f32⟩
  | 1 => ⟨S_, .f32⟩
  | 2 => ⟨S64, .f32⟩
  | 3 => ⟨S64, .f32⟩
  | 4 => ⟨S64, .f32⟩
  | 5 => ⟨S1x64, .f32⟩
  | 6 => ⟨S16384x64, .f32⟩
  | 7 => ⟨S16384x64, .f32⟩
  | 8 => ⟨S1x64, .f32⟩
  | 9 => ⟨S16384x64, .f32⟩
  | 10 => ⟨S16384x64, .f32⟩
  | 11 => ⟨S_, .f32⟩
  | 12 => ⟨S16384x64, .f32⟩
  | 13 => ⟨S16384x64, .f32⟩
  | 14 => ⟨S64x1, .f32⟩
  | 15 => ⟨S16384x1, .f32⟩
  | 16 => ⟨S1x1, .f32⟩
  | 17 => ⟨S16384x1, .f32⟩
  | 18 => ⟨S16384x1, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S_, .f32⟩
  | 25 => ⟨S16384x1, .f32⟩
  | 26 => ⟨S16384x1, .f32⟩
  | 27 => ⟨S16384, .f32⟩
  | 28 => ⟨S_, .f32⟩
  | 29 => ⟨S16384, .f32⟩
  | 30 => ⟨S16384, .f32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v0 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v1 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_call2_cst : Ref sig .tc := ⟨.hbm, 88, rfl⟩
abbrev main_call2_v15 : Ref sig .tc := ⟨.hbm, 89, rfl⟩
abbrev main_v2 : Ref sig .tc := ⟨.hbm, 90, rfl⟩
abbrev main_v3 : Ref sig .tc := ⟨.hbm, 91, rfl⟩
abbrev main_v4 : Ref sig .tc := ⟨.hbm, 92, rfl⟩
abbrev main_v5 : Ref sig .tc := ⟨.hbm, 93, rfl⟩
abbrev main_v6 : Ref sig .tc := ⟨.hbm, 94, rfl⟩
abbrev main_cst : Ref sig .tc := ⟨.hbm, 95, rfl⟩
abbrev main_v7 : Ref sig .tc := ⟨.hbm, 96, rfl⟩
abbrev main_cst_0 : Ref sig .tc := ⟨.hbm, 97, rfl⟩
abbrev main_v8 : Ref sig .tc := ⟨.hbm, 98, rfl⟩
abbrev main_v9 : Ref sig .tc := ⟨.hbm, 99, rfl⟩
abbrev main_v10 : Ref sig .tc := ⟨.hbm, 100, rfl⟩
abbrev main_v11 : Ref sig .tc := ⟨.hbm, 101, rfl⟩
abbrev main_v12 : Ref sig .tc := ⟨.hbm, 102, rfl⟩
abbrev main_v13 : Ref sig .tc := ⟨.hbm, 103, rfl⟩
abbrev main_cst_1 : Ref sig .tc := ⟨.hbm, 104, rfl⟩
abbrev main_v14 : Ref sig .tc := ⟨.hbm, 105, rfl⟩
abbrev main_v15 : Ref sig .tc := ⟨.hbm, 106, rfl⟩
abbrev main_v16 : Ref sig .tc := ⟨.hbm, 107, rfl⟩
abbrev main_v17 : Ref sig .tc := ⟨.hbm, 108, rfl⟩
abbrev main_v18 : Ref sig .tc := ⟨.hbm, 109, rfl⟩
abbrev main_v19 : Ref sig .tc := ⟨.hbm, 110, rfl⟩
abbrev main_cst_2 : Ref sig .tc := ⟨.hbm, 111, rfl⟩
abbrev main_v20 : Ref sig .tc := ⟨.hbm, 112, rfl⟩
abbrev main_v21 : Ref sig .tc := ⟨.hbm, 113, rfl⟩
abbrev main_v22 : Ref sig .tc := ⟨.hbm, 114, rfl⟩
abbrev main_v23 : Ref sig .tc := ⟨.hbm, 115, rfl⟩
abbrev main_v24 : Ref sig .tc := ⟨.hbm, 116, rfl⟩
abbrev main_v25 : Ref sig .tc := ⟨.hbm, 117, rfl⟩
abbrev main_v26 : Ref sig .tc := ⟨.hbm, 118, rfl⟩
abbrev main_cst_3 : Ref sig .tc := ⟨.hbm, 119, rfl⟩
abbrev main_v27 : Ref sig .tc := ⟨.hbm, 120, rfl⟩
abbrev main_cst_4 : Ref sig .tc := ⟨.hbm, 121, rfl⟩
abbrev main_v28 : Ref sig .tc := ⟨.hbm, 122, rfl⟩
abbrev main_v29 : Ref sig .tc := ⟨.hbm, 123, rfl⟩
abbrev main_c : Ref sig .tc := ⟨.hbm, 124, rfl⟩
abbrev main_call3_cst : Ref sig .tc := ⟨.hbm, 125, rfl⟩
abbrev main_call3_v0 : Ref sig .tc := ⟨.hbm, 126, rfl⟩
abbrev main_call3_v1 : Ref sig .tc := ⟨.hbm, 127, rfl⟩
abbrev main_call3_cst_0 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_call3_v5 : Ref sig .tc := ⟨.hbm, 132, rfl⟩
abbrev main_call3_v6 : Ref sig .tc := ⟨.hbm, 133, rfl⟩
abbrev main_call3_v7 : Ref sig .tc := ⟨.hbm, 134, rfl⟩
abbrev main_call3_cst_1 : Ref sig .tc := ⟨.hbm, 135, rfl⟩
abbrev main_call3_v8 : Ref sig .tc := ⟨.hbm, 136, rfl⟩
abbrev main_call3_cst_2 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_cst_3 : Ref sig .tc := ⟨.hbm, 141, rfl⟩
abbrev main_call3_v12 : Ref sig .tc := ⟨.hbm, 142, rfl⟩
abbrev main_call3_cst_4 : Ref sig .tc := ⟨.hbm, 143, rfl⟩
abbrev main_call3_call0_v0 : Ref sig .tc := ⟨.hbm, 144, rfl⟩
abbrev main_call3_call0_v1 : Ref sig .tc := ⟨.hbm, 145, rfl⟩
abbrev main_v30 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩
abbrev main_v34 : Ref sig .tc := ⟨.hbm, 150, rfl⟩
abbrev main_v35 : Ref sig .tc := ⟨.hbm, 151, rfl⟩
abbrev main_v36 : Ref sig .tc := ⟨.hbm, 152, rfl⟩
abbrev main_cst_5 : Ref sig .tc := ⟨.hbm, 153, rfl⟩
abbrev main_v37 : Ref sig .tc := ⟨.hbm, 154, rfl⟩
abbrev main_v38 : Ref sig .tc := ⟨.hbm, 155, rfl⟩
abbrev main_v39 : Ref sig .tc := ⟨.hbm, 156, rfl⟩
abbrev main_v40 : Ref sig .tc := ⟨.hbm, 157, rfl⟩
abbrev main_v41 : Ref sig .tc := ⟨.hbm, 158, rfl⟩
abbrev main_v42 : Ref sig .tc := ⟨.hbm, 159, rfl⟩
abbrev main_v43 : Ref sig .tc := ⟨.hbm, 160, rfl⟩
abbrev main_v44 : Ref sig .tc := ⟨.hbm, 161, rfl⟩
abbrev main_v45 : Ref sig .tc := ⟨.hbm, 162, rfl⟩
abbrev main_call4_cst : Ref sig .tc := ⟨.hbm, 163, rfl⟩
abbrev main_call4_v0 : Ref sig .tc := ⟨.hbm, 164, rfl⟩
abbrev main_v46 : Ref sig .tc := ⟨.hbm, 165, rfl⟩
abbrev main_v47 : Ref sig .tc := ⟨.hbm, 166, rfl⟩
abbrev main_v48 : Ref sig .tc := ⟨.hbm, 167, rfl⟩
abbrev main_v49 : Ref sig .tc := ⟨.hbm, 168, rfl⟩
abbrev main_v50 : Ref sig .tc := ⟨.hbm, 169, rfl⟩
abbrev main_v51 : Ref sig .tc := ⟨.hbm, 170, rfl⟩
abbrev main_cst_6 : Ref sig .tc := ⟨.hbm, 171, rfl⟩
abbrev main_v52 : Ref sig .tc := ⟨.hbm, 172, rfl⟩
abbrev main_cst_7 : Ref sig .tc := ⟨.hbm, 173, rfl⟩
abbrev main_v53 : Ref sig .tc := ⟨.hbm, 174, rfl⟩
abbrev main_v54 : Ref sig .tc := ⟨.hbm, 175, rfl⟩
abbrev main_c_8 : Ref sig .tc := ⟨.hbm, 176, rfl⟩
abbrev main_call5_cst : Ref sig .tc := ⟨.hbm, 177, rfl⟩
abbrev main_call5_v0 : Ref sig .tc := ⟨.hbm, 178, rfl⟩
abbrev main_call5_v1 : Ref sig .tc := ⟨.hbm, 179, rfl⟩
abbrev main_call5_cst_0 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_call5_v5 : Ref sig .tc := ⟨.hbm, 184, rfl⟩
abbrev main_call5_v6 : Ref sig .tc := ⟨.hbm, 185, rfl⟩
abbrev main_call5_v7 : Ref sig .tc := ⟨.hbm, 186, rfl⟩
abbrev main_call5_cst_1 : Ref sig .tc := ⟨.hbm, 187, rfl⟩
abbrev main_call5_v8 : Ref sig .tc := ⟨.hbm, 188, rfl⟩
abbrev main_call5_cst_2 : Ref sig .tc := ⟨.hbm, 189, rfl⟩
abbrev main_call5_v9 : Ref sig .tc := ⟨.hbm, 190, rfl⟩
abbrev main_call5_v10 : Ref sig .tc := ⟨.hbm, 191, rfl⟩
abbrev main_call5_v11 : Ref sig .tc := ⟨.hbm, 192, rfl⟩
abbrev main_call5_cst_3 : Ref sig .tc := ⟨.hbm, 193, rfl⟩
abbrev main_call5_v12 : Ref sig .tc := ⟨.hbm, 194, rfl⟩
abbrev main_call5_cst_4 : Ref sig .tc := ⟨.hbm, 195, rfl⟩
abbrev main_call5_call0_v0 : Ref sig .tc := ⟨.hbm, 196, rfl⟩
abbrev main_call5_call0_v1 : Ref sig .tc := ⟨.hbm, 197, rfl⟩
abbrev main_v55 : Ref sig .tc := ⟨.hbm, 198, rfl⟩
abbrev main_v56 : Ref sig .tc := ⟨.hbm, 199, rfl⟩
abbrev main_v57 : Ref sig .tc := ⟨.hbm, 200, rfl⟩
abbrev main_v58 : Ref sig .tc := ⟨.hbm, 201, rfl⟩
abbrev main_v59 : Ref sig .tc := ⟨.hbm, 202, rfl⟩
abbrev main_v60 : Ref sig .tc := ⟨.hbm, 203, rfl⟩
abbrev main_v61 : Ref sig .tc := ⟨.hbm, 204, rfl⟩
abbrev main_cst_9 : Ref sig .tc := ⟨.hbm, 205, rfl⟩
abbrev main_v62 : Ref sig .tc := ⟨.hbm, 206, rfl⟩
abbrev main_v63 : Ref sig .tc := ⟨.hbm, 207, rfl⟩
abbrev main_v64 : Ref sig .tc := ⟨.hbm, 208, rfl⟩
abbrev main_v65 : Ref sig .tc := ⟨.hbm, 209, rfl⟩
abbrev main_v66 : Ref sig .tc := ⟨.hbm, 210, rfl⟩
abbrev main_v67 : Ref sig .tc := ⟨.hbm, 211, rfl⟩
abbrev main_v68 : Ref sig .tc := ⟨.hbm, 212, rfl⟩
abbrev main_v69 : Ref sig .tc := ⟨.hbm, 213, rfl⟩
abbrev main_v70 : Ref sig .tc := ⟨.hbm, 214, rfl⟩
abbrev main_call6_cst : Ref sig .tc := ⟨.hbm, 215, rfl⟩
abbrev main_call6_v0 : Ref sig .tc := ⟨.hbm, 216, rfl⟩
abbrev main_v71 : Ref sig .tc := ⟨.hbm, 217, rfl⟩
abbrev main_v72 : Ref sig .tc := ⟨.hbm, 218, rfl⟩
abbrev main_v73 : Ref sig .tc := ⟨.hbm, 219, rfl⟩
abbrev main_v74 : Ref sig .tc := ⟨.hbm, 220, rfl⟩
abbrev main_v75 : Ref sig .tc := ⟨.hbm, 221, rfl⟩
abbrev main_v76 : Ref sig .tc := ⟨.hbm, 222, rfl⟩
abbrev main_cst_10 : Ref sig .tc := ⟨.hbm, 223, rfl⟩
abbrev main_v77 : Ref sig .tc := ⟨.hbm, 224, rfl⟩
abbrev main_cst_11 : Ref sig .tc := ⟨.hbm, 225, rfl⟩
abbrev main_v78 : Ref sig .tc := ⟨.hbm, 226, rfl⟩
abbrev main_v79 : Ref sig .tc := ⟨.hbm, 227, rfl⟩
abbrev main_c_12 : Ref sig .tc := ⟨.hbm, 228, rfl⟩
abbrev main_call7_cst : Ref sig .tc := ⟨.hbm, 229, rfl⟩
abbrev main_call7_v0 : Ref sig .tc := ⟨.hbm, 230, rfl⟩
abbrev main_call7_v1 : Ref sig .tc := ⟨.hbm, 231, rfl⟩
abbrev main_call7_cst_0 : Ref sig .tc := ⟨.hbm, 232, rfl⟩
abbrev main_call7_v2 : Ref sig .tc := ⟨.hbm, 233, rfl⟩
abbrev main_call7_v3 : Ref sig .tc := ⟨.hbm, 234, rfl⟩
abbrev main_call7_v4 : Ref sig .tc := ⟨.hbm, 235, rfl⟩
abbrev main_call7_v5 : Ref sig .tc := ⟨.hbm, 236, rfl⟩
abbrev main_call7_v6 : Ref sig .tc := ⟨.hbm, 237, rfl⟩
abbrev main_call7_v7 : Ref sig .tc := ⟨.hbm, 238, rfl⟩
abbrev main_call7_cst_1 : Ref sig .tc := ⟨.hbm, 239, rfl⟩
abbrev main_call7_v8 : Ref sig .tc := ⟨.hbm, 240, rfl⟩
abbrev main_call7_cst_2 : Ref sig .tc := ⟨.hbm, 241, rfl⟩
abbrev main_call7_v9 : Ref sig .tc := ⟨.hbm, 242, rfl⟩
abbrev main_call7_v10 : Ref sig .tc := ⟨.hbm, 243, rfl⟩
abbrev main_call7_v11 : Ref sig .tc := ⟨.hbm, 244, rfl⟩
abbrev main_call7_cst_3 : Ref sig .tc := ⟨.hbm, 245, rfl⟩
abbrev main_call7_v12 : Ref sig .tc := ⟨.hbm, 246, rfl⟩
abbrev main_call7_cst_4 : Ref sig .tc := ⟨.hbm, 247, rfl⟩
abbrev main_call7_call0_v0 : Ref sig .tc := ⟨.hbm, 248, rfl⟩
abbrev main_call7_call0_v1 : Ref sig .tc := ⟨.hbm, 249, rfl⟩
abbrev main_v80 : Ref sig .tc := ⟨.hbm, 250, rfl⟩
abbrev main_v81 : Ref sig .tc := ⟨.hbm, 251, rfl⟩
abbrev main_v82 : Ref sig .tc := ⟨.hbm, 252, rfl⟩
abbrev main_v83 : Ref sig .tc := ⟨.hbm, 253, rfl⟩
abbrev main_v84 : Ref sig .tc := ⟨.hbm, 254, rfl⟩
abbrev main_v85 : Ref sig .tc := ⟨.hbm, 255, rfl⟩
abbrev main_v86 : Ref sig .tc := ⟨.hbm, 256, rfl⟩
abbrev main_cst_13 : Ref sig .tc := ⟨.hbm, 257, rfl⟩
abbrev main_v87 : Ref sig .tc := ⟨.hbm, 258, rfl⟩
abbrev main_v88 : Ref sig .tc := ⟨.hbm, 259, rfl⟩
abbrev main_v89 : Ref sig .tc := ⟨.hbm, 260, rfl⟩
abbrev main_v90 : Ref sig .tc := ⟨.hbm, 261, rfl⟩
abbrev main_v91 : Ref sig .tc := ⟨.hbm, 262, rfl⟩
abbrev main_v92 : Ref sig .tc := ⟨.hbm, 263, rfl⟩
abbrev main_v93 : Ref sig .tc := ⟨.hbm, 264, rfl⟩
abbrev main_v94 : Ref sig .tc := ⟨.hbm, 265, rfl⟩
abbrev main_v95 : Ref sig .tc := ⟨.hbm, 266, rfl⟩
abbrev main_call8_cst : Ref sig .tc := ⟨.hbm, 267, rfl⟩
abbrev main_call8_v0 : Ref sig .tc := ⟨.hbm, 268, rfl⟩
abbrev main_v96 : Ref sig .tc := ⟨.hbm, 269, rfl⟩
abbrev main_v97 : Ref sig .tc := ⟨.hbm, 270, rfl⟩
abbrev main_v98 : Ref sig .tc := ⟨.hbm, 271, rfl⟩
abbrev main_v99 : Ref sig .tc := ⟨.hbm, 272, rfl⟩
abbrev main_v100 : Ref sig .tc := ⟨.hbm, 273, rfl⟩
abbrev main_v101 : Ref sig .tc := ⟨.hbm, 274, rfl⟩
abbrev main_v102 : Ref sig .tc := ⟨.hbm, 275, rfl⟩
abbrev main_v103 : Ref sig .tc := ⟨.hbm, 276, rfl⟩
abbrev main_cst_14 : Ref sig .tc := ⟨.hbm, 277, rfl⟩
abbrev main_v104 : Ref sig .tc := ⟨.hbm, 278, rfl⟩
abbrev main_v105 : Ref sig .tc := ⟨.hbm, 279, rfl⟩
abbrev main_cst_15 : Ref sig .tc := ⟨.hbm, 280, rfl⟩
abbrev main_v106 : Ref sig .tc := ⟨.hbm, 281, rfl⟩
abbrev main_v107 : Ref sig .tc := ⟨.hbm, 282, rfl⟩
abbrev main_v108 : Ref sig .tc := ⟨.hbm, 283, rfl⟩
abbrev main_cst_16 : Ref sig .tc := ⟨.hbm, 284, rfl⟩
abbrev main_v109 : Ref sig .tc := ⟨.hbm, 285, rfl⟩
abbrev main_v110 : Ref sig .tc := ⟨.hbm, 286, rfl⟩

abbrev nD : Nat := 1
abbrev τ : Topo := Topo.v7x

variable {F : FTy → Type} [FloatOps F]
-- ==== Proof.GatherBatch.lean ====
/-
  SEVERAL INDIRECT GATHERS OUTSTANDING ON ONE SEMAPHORE.

  A tile that fires a gather while earlier ones are still in flight on the same DMA semaphore cannot use the rule for a
  gather that finds its semaphore at zero. Here the ROWS of all those gathers are the members of one counted batch
  (`Transfers.Batch`): a gather of `o` rows is the batch's next `o` members (`issueGather`), a wait for one gather
  consumes `o` rows' units, and the last wait hands every row back. `rowDone` is what one row delivers, and
  `rowsDone_join` puts a gather's rows together again: the destination written with the rows of the table the list
  names, the table's share and the list's share.
-/
module

public import Idealize.ShloMosaic.Lib.SparseCore.Stream
public import Idealize.ShloMosaic.Lib.Batch
public import Idealize.ShloMosaic.Lib.Tactic

@[expose] public section

noncomputable section

namespace Cert.Proof

open Idealize.ShloMosaic Idealize.ShloMosaic.SparseCore
open Idealize.SL Idealize.SL.RA
open Idealize.SL.BI (sProp Storable bigSep bigSep_insert bigSep_map bigSep_empty)
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} {Name : Type} [DecidableEq Name]
variable {U : Type} [URA U] {Lvl : Type}

local notation "𝕄" => MT nD τ sig Ix (Elt F) Name U Lvl

/-- Assertions that entail one another are equal. -/
theorem eqOf {P R : sProp 𝕄} (h : P ⊢ R) (h' : R ⊢ P) : P = R := BI.Entails.antisymm h h'

section Pending

variable {n : ℕ}

/-- The members of a batch still to be issued from the `k`-th on are the next `o` and those from `k + o` on. -/
theorem pending_split (Φ : Fin n → sProp 𝕄) (k o : ℕ) (hk : k + o ≤ n) :
    bigSep (Transfers.pending k) Φ
      = iprop(bigSep Finset.univ (fun j : Fin o => Φ ⟨k + j, by omega⟩) ∗ bigSep (Transfers.pending (k + o)) Φ) := by
  induction o with
  | zero =>
    rw [show (Finset.univ : Finset (Fin 0)) = ∅ from rfl, bigSep_empty]
    exact (eqOf emp_sep.1 emp_sep.2).symm
  | succ o ih =>
    have h1 : bigSep (Transfers.pending (k + o)) Φ = iprop(Φ ⟨k + o, by omega⟩ ∗ bigSep (Transfers.pending (k + (o + 1))) Φ) := by
      rw [Transfers.pending_succ (by omega : k + o < n), bigSep_insert (Transfers.not_mem_pending_succ _)]
      rfl
    have h2 : bigSep Finset.univ (fun j : Fin (o + 1) => Φ ⟨k + j, by omega⟩)
        = iprop(bigSep Finset.univ (fun j : Fin o => Φ ⟨k + j, by omega⟩) ∗ Φ ⟨k + o, by omega⟩) := by
      rw [Fin.univ_castSuccEmb, Finset.cons_eq_insert, bigSep_insert (by simp), BI.bigSep_map]
      change iprop(Φ ⟨k + o, by omega⟩ ∗ bigSep Finset.univ (fun j : Fin o => Φ ⟨k + j, by omega⟩)) = _
      refine eqOf ?_ ?_
      · iintro ⟨Ha, Hb⟩
        isplitl [Hb] <;> iassumption
      · iintro ⟨Ha, Hb⟩
        isplitl [Hb] <;> iassumption
    rw [ih (by omega), h1, h2]
    refine eqOf ?_ ?_
    · iintro ⟨Ha, Hb, Hc⟩
      isplitl [Ha Hb]; · isplitl [Ha] <;> iassumption
      iexact Hc
    · iintro ⟨⟨Ha, Hb⟩, Hc⟩
      isplitl [Ha]; · iexact Ha
      isplitl [Hb] <;> iassumption

end Pending

variable {Λ : Labels}
variable (c : Thread nD τ) {sp : Space} {s₀ s si : Shape} {e : EltTy} {a : Nat}

/-- What ROW `j` of a gather delivers: the destination's row holding the table's row that entry `j` of the list names;
    entry `j` of the list; and one of the `o` pieces of the table's share. -/
def rowDone (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) : sProp 𝕄 :=
  iprop(((dst.view.loc c ↦[(dst.view.slice (s.rowRect hg.axis' j)).set]{fullShare}
            ((dst.view.slice (s.rowRect hg.axis' j)).write (Elt F) fd
              (fun i => src.view.read (Elt F) fs (hg.rowIdx (rows (offs.view.read (Elt F) fo) hn hin j) i)) Finset.univ))
          ∗ (offs.view.loc c ↦[{offs.view.emb (si.rowMajor.symm (j.cast hn.symm))}]{qo} fo))
        ∗ (src.view.loc c ↦[src.view.set]{pieceOf q _ ho j} fs))

instance rowDone_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) (j : Fin (s.size hg.axis')) :
    Storable (upEmb : UEmb _ 𝕄) (rowDone (Ix := Ix) (Name := Name) (U := U) (Lvl := Lvl) c src dst hg offs hn ho q qo fs fd fo hin j) := by
  unfold rowDone; infer_instance

/-- The list's entries, numbered in row-major order, are each of its positions once. -/
theorem entries_bijective {o : ℕ} (hn : si.numel = o) : Function.Bijective (fun j : Fin o => si.rowMajor.symm (j.cast hn.symm)) :=
  si.rowMajor.symm.bijective.comp (finCongr hn.symm).bijective

/-- A gather's rows together: the destination holding the whole payload, the table's share and the list's share. -/
theorem rowsDone_join (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c)) (fo : Buf (Elt F) (offs.view.loc c))
    (hin : ∀ x, (offs.view.read (Elt F) fo x).toNat < s₀.size hg.axis) :
    bigSep Finset.univ (rowDone (Ix := Ix) (Name := Name) (U := U) (Lvl := Lvl) c src dst hg offs hn ho q qo fs fd fo hin)
      ⊢ (iprop((dst.view.loc c ↦[dst.view.set]{fullShare}
              (dst.view.write (Elt F) fd (gatherPayload hg (src.view.read (Elt F) fs) (rows (offs.view.read (Elt F) fo) hn hin)) Finset.univ))
          ∗ (src.view.loc c ↦[src.view.set]{q} fs) ∗ (offs.view.loc c ↦[offs.view.set]{qo} fo)) : sProp 𝕄) := by
  unfold rowDone
  iintro H
  ihave H := Transfers.bigSep_sep_out _ _ _ $$ H
  icases H with ⟨H, Hs⟩
  ihave Hs := (Entails.of_eq (pointsTo_piecesOf (src.view.set) fs ho q).symm) $$ Hs
  ihave H := Transfers.bigSep_sep_out _ _ _ $$ H
  icases H with ⟨Hd, Ho⟩
  ihave Ho := (Entails.of_eq (pointsTo_entries c offs.view _ (entries_bijective hn) qo fo).symm) $$ Ho
  isplitl [Hd]
  · have hw := pointsTo_rows_write (Ix := Ix) (Name := Name) (U := U) (Lvl := Lvl) c dst.view hg.axis' fd
      (fun j i => src.view.read (Elt F) fs (hg.rowIdx (rows (offs.view.read (Elt F) fo) hn hin j) i))
      (gatherPayload hg (src.view.read (Elt F) fs) (rows (offs.view.read (Elt F) fo) hn hin))
      (fun j i => by unfold gatherPayload; rw [Shape.Gathers.idx_rowRect_emb])
    iapply (show _ ⊢ _ from hw)
    iexact Hd
  isplitl [Hs] <;> iassumption

variable [Preorder Lvl] {defs : Defs nD τ sig (Elt F) Λ} (EC : UEmb Counters (MT nD τ sig Ix (Elt F) Name U Lvl)) (𝒱 : Variants) (bd : Option 𝒱.V)
variable {α : Type} {Q : α → sProp (MT nD τ sig Ix (Elt F) Name U Lvl)} {n : ℕ}

/-- FIRING A GATHER as the next `o` members of a batch of rows. The tile holds a share of the table, the destination
    outright, a share of the list (every word of it a row of the table) and the batch with `k` rows fired, nothing yet
    waited for; each of the gather's rows credits the semaphore `N`, and what row `j` delivers makes member `k + j`. It
    continues with `k + o` rows fired. -/
theorem issueGather [Infinite Name] [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {cont : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) {N : ℕ} (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {Dl : Fin n → sProp 𝕄} {k o k' : ℕ} (hoo : s.size hg.axis' = o) (hkk : k + o = k') (hk : k' ≤ n)
    (hD : ∀ j : Fin (s.size hg.axis'), rowDone (Ix := Ix) (Name := Name) (U := U) (Lvl := Lvl) c src dst hg offs hn ho q qo fs fd fo hin j ⊢ Dl ⟨k + j, by omega⟩) :
    iprop((src.view.loc c ↦[src.view.set]{q} fs) ∗ (dst.view.loc c ↦[dst.view.set]{fullShare} fd)
        ∗ (offs.view.loc c ↦[offs.view.set]{qo} fo) ∗ Transfers.Batch EC c (.dma sem) ι N Dl k 0)
      ⊢ iprop((Transfers.Batch EC c (.dma sem) ι N Dl k' 0 -∗ wp frame (wpE defs 𝒱 c bd) Set.univ (cont ⟨⟩) Q)
          -∗ wp frame (wpE defs 𝒱 c bd) Set.univ (enqueueIndirectGather hp src dst hg offs hn sem hsrc he hsp hr >>= cont) Q) := by
  subst hoo hkk
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  unfold Transfers.Batch
  iintro ⟨Hs, Hd, Ho, ⟨%γ, %γ₀, %κ, #Hinv, HI, H0, Hcr⟩⟩ Hk
  ihave HI' := (Entails.of_eq (pending_split (fun t => ExclCount.count EC (γ t) 0) k (s.size hg.axis') hk)) $$ HI
  icases HI' with ⟨Hγ, HI⟩
  ihave Hd' := (Entails.of_eq (pointsTo_rows c dst.view hg.axis' fullShare fd)) $$ Hd
  ihave Ho' := (Entails.of_eq (pointsTo_entries c offs.view S.entry (entries_bijective hn) qo fo)) $$ Ho
  ihave Hs' := (Entails.of_eq (pointsTo_piecesOf (src.view.set) fs ho q)) $$ Hs
  iapply (wp_enqueueIndirectDma 𝒱 c bd Set.univ (qo := qo) (fo := fo) (rd := rd) ι (s.size hg.axis' * N) hA hrd
    (sum_rowCredit_eq _ hN rfl)) $$ [Hd' Ho' Hs' Hγ]
  · have hrow : ∀ j : Fin (s.size hg.axis'), iprop(inv κ (Transfers.batchBody EC (c, SemLoc.dma sem) N Dl γ γ₀)
          ∗ ((((dst.view.loc c ↦[(dst.view.slice (s.rowRect hg.axis' j)).set]{fullShare} fd) ∗ S.heldEntry qo fo j)
            ∗ (src.view.loc c ↦[src.view.set]{pieceOf q _ ho j} fs)) ∗ ExclCount.count EC (γ ⟨k + j, by omega⟩) 0))
        ⊢ iprop(S.heldEntry qo fo j ∗ (S.heldEntry qo fo j -∗ rowRes c (rd j))) := fun j => by
      iintro ⟨#Hinv, ⟨⟨Hr, He⟩, Hp⟩, Hc⟩
      isplitl [He]; · iexact He
      iintro He
      unfold rowRes
      iexists pieceOf q _ ho j, fs, iprop((dst.view.loc c ↦[(dst.view.slice (s.rowRect hg.axis' j)).set]{fullShare}
        ((dst.view.slice (s.rowRect hg.axis' j)).write (Elt F) fd
          (fun i => src.view.read (Elt F) fs (hg.rowIdx (rows (offs.view.read (Elt F) fo) hn hin j) i)) Finset.univ)) ∗ S.heldEntry qo fo j)
      isplitl [Hp]; · iexact Hp
      isplitl [Hr He]
      · iapply writeUpdate_frame
        isplitl [Hr]
        · iapply (pointsTo_writeUpdate c (v := dst.view.slice (s.rowRect hg.axis' j)) subset_rfl) $$ Hr
        · iexact He
      · have hcu := Transfers.batch_creditUpdate EC (g := (c, SemLoc.dma sem)) (N := N) (D := Dl) (γ := γ) (γ₀ := γ₀) (ι := κ) ⟨k + j, by omega⟩ (hD j)
        have ham : (rd j).dst.view.amount (.dma sem) = N := hN j
        rw [ham]
        iapply hcu
        isplitr; · iexact Hinv
        iexact Hc
    unfold Stream.res
    ihave H1 := Transfers.bigSep_sep_in _ _ _ $$ [Hd' Ho']; · isplitl [Hd'] <;> iassumption
    ihave H2 := Transfers.bigSep_sep_in _ _ _ $$ [H1 Hs']; · isplitl [H1] <;> iassumption
    ihave H3 := Transfers.bigSep_sep_in _ _ _ $$ [H2 Hγ]; · isplitl [H2] <;> iassumption
    iapply (Transfers.bigSep_mono_pers Finset.univ _ _ _ fun j _ => hrow j)
    isplitr; · iexact Hinv
    iexact H3
  · iintro Hcr'
    iapply Hk
    iexists γ, γ₀, κ
    isplitr; · iexact Hinv
    isplitl [HI]; · iexact HI
    isplitl [H0]; · iexact H0
    rw [show (k + s.size hg.axis') * N - 0 = (k * N - 0) + s.size hg.axis' * N by rw [Nat.add_mul]; omega, ← tallyAt_add]
    icombine Hcr Hcr' as H
    iexact H

end Cert.Proof

end
-- ==== Proof.Setup.lean ====
/-
  The program as the SparseCore launch theorem sees it: its configuration, the ghost state the proof runs over (the
  handshakes' rounds, the two TensorCore pipelines' rounds, the transfers' counters) and the launch facts.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.GatherBatch

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The labels of the two TensorCore pipelines' program, over which the SparseCore call is laid. -/
abbrev ΛP : Labels := Pipeline.Sig Λ₀ (Fin 2) fun p => (pcfgs (F := F) p).Adm
/-- The SparseCore call's configuration. -/
abbrev K : SparseCore.Cfg τ sig (ΛP (F := F)) 1 := sc (F := F)
/-- The program under the SparseCore call. -/
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UPipe : Type := URounds (GSem nD τ sig) Unit
/-- The whole ghost state. -/
abbrev UU : Type := UH × (UPipe × Counters)

end Cert.Proof

end
-- ==== Proof.Gathers.lean ====
/-
  One HALF of a tile's task: the 512 rows of a table its 512 ids name, fetched by four gathers of 128 rows each, all
  four in flight on one semaphore, and the four waits. The rows land in the tile's row buffer (`gathered`).
-/
module

public import proofs.«01_k».proof.Proof.Setup

@[expose] public section

noncomputable section

namespace Cert.Proof

open Cert.KernelIdeal Cert.KernelIdeal.Gen

open Idealize.ShloMosaic
open Idealize.ShloMosaic.SparseCore (S V T gatherPayload rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The tile's id list and its row buffer. -/
abbrev lstV : Memref sig .scVector .vmem S4x128 .i32 := Memref.whole cc0_scratch0
abbrev rowV : Memref sig .scVector .vmem S512x128 .f32 := Memref.whole cc0_scratch1

theorem blkInb (g : Fin 4) : ∀ a, (![128 * g.val, 0] : Fin 2 → ℕ) a + S128x128.size a ≤ S512x128.size a := by
  revert g; decide
theorem lstInb (g : Fin 4) : ∀ a, (![g.val, 0] : Fin 2 → ℕ) a + S1x128.size a ≤ S4x128.size a := by
  revert g; decide

/-- Block `g` of the row buffer, row `g` of the id list, and a table's every row, as the task addresses them. -/
abbrev blk (g : Fin 4) : Memref sig .scVector .vmem S128x128 .f32 :=
  rowV.slice (Rect.unit (s := S512x128) ![128 * g.val, 0] S128x128.size (blkInb g)) (fun _ => rfl)
abbrev lst (g : Fin 4) : Memref sig .scVector .vmem S128 .i32 :=
  (lstV.slice (Rect.unit (s := S4x128) ![g.val, 0] S1x128.size (lstInb g)) (fun _ => rfl)).squeeze S128 squeezes_S1x128_S128
abbrev allRows (tab : Memref sig .scVector .hbm S100000x128 .f32) : Memref sig .scVector .hbm S100000x128 .f32 :=
  tab.slice (Rect.unit (s := S100000x128) ![0, 0] S100000x128.size inb_S100000x128_S100000x128_0_0) (fun _ => rfl)

/-- The semaphore the four gathers share. -/
abbrev gsem : DmaSem sig := cc0_scratch2.sem

section Prog

variable {p : Proc τ} (hp : p.kind = .scVector)

variable {c : Fin τ.nSC} {j : Fin τ.nSub} {α : Type}

/-- Gather `g` fired, and waited for. -/
def fire (tab : Memref sig .scVector .hbm S100000x128 .f32) (g : Fin 4) : Prog (TpuEff nD τ sig (Elt F) Λ₀ (.scVector c j)) PUnit :=
  SparseCore.enqueueIndirectGather rfl (allRows tab) (blk g) gathers_S100000x128_S128x128 (lst g) rfl gsem (View.wordExact_bits rfl) rfl (Or.inl rfl)
def await (tab : Memref sig .scVector .hbm S100000x128 .f32) (g : Fin 4) : Prog (TpuEff nD τ sig (Elt F) Λ₀ (.scVector c j)) PUnit :=
  SparseCore.waitIndirectGather gsem (allRows tab) (blk g) (View.wordExact_bits rfl) (View.wordExact_bits rfl)

theorem await_bind (tab : Memref sig .scVector .hbm S100000x128 .f32) (g : Fin 4) (k : PUnit → Prog (TpuEff nD τ sig (Elt F) Λ₀ (.scVector c j)) α) :
    await tab g >>= k = .op (.waitDma2 gsem (allRows tab) (blk g) (View.wordExact_bits rfl) (View.wordExact_bits rfl)) k := rfl

/-- The four gathers fired, then waited for, then the rest. -/
@[irreducible] def fourGathers (tab : Memref sig .scVector .hbm S100000x128 .f32) (rest : Prog (TpuEff nD τ sig (Elt F) Λ₀ (.scVector c j)) α) :
    Prog (TpuEff nD τ sig (Elt F) Λ₀ (.scVector c j)) α :=
  fire tab 0 >>= fun _ => fire tab 1 >>= fun _ => fire tab 2 >>= fun _ => fire tab 3 >>= fun _ =>
  await tab 0 >>= fun _ => await tab 1 >>= fun _ => await tab 2 >>= fun _ => await tab 3 >>= fun _ => rest

end Prog

/-! ## The values -/

/-- The row an id names (an id in range names itself). -/
def rowIx (w : BitVec 32) : Fin 100000 := ⟨w.toNat % 100000, Nat.mod_lt _ (by decide)⟩

/-- The row buffer after the four gathers: row `r` is the table's row named by entry `r` of the list, read row-major. -/
def gathered (tf : S100000x128.Idx → Elt F .f32) (fo : S4x128.Idx → Elt F .i32) : S512x128.Idx → Elt F .f32 := fun x =>
  tf (ix2 (rowIx (fo (ix2 ⟨(x 0).val / 128, by have := (x 0).isLt; simp at this; omega⟩ ⟨(x 0).val % 128, Nat.mod_lt _ (by decide)⟩))) (x 1))

theorem blk_emb (g : Fin 4) (y : S128x128.Idx) :
    (blk g).view.emb y = (ix2 ⟨128 * g.val + (y 0).val, by have := (y 0).isLt; simp at this; omega⟩ (y 1) : S512x128.Idx) := by
  funext a
  match a with
  | ⟨0, _⟩ => exact Fin.ext (show 128 * g.val + 1 * (y 0).val = 128 * g.val + (y 0).val by omega)
  | ⟨1, _⟩ => exact Fin.ext (show 0 + 1 * (y 1).val = (y 1).val by omega)

theorem lst_emb : ∀ (g : Fin 4) (k : Fin 128), (lst g).view.emb (S128.rowMajor.symm k) = (ix2 g k : S4x128.Idx) := by
  decide +kernel

theorem allRows_emb (tab : Memref sig .scVector .hbm S100000x128 .f32) (y : S100000x128.Idx) :
    (allRows tab).view.emb y = tab.view.emb y := by
  show tab.view.emb _ = tab.view.emb y
  congr 1
  funext a
  match a with
  | ⟨0, _⟩ => exact Fin.ext (show 0 + 1 * (y 0).val = (y 0).val by omega)
  | ⟨1, _⟩ => exact Fin.ext (show 0 + 1 * (y 1).val = (y 1).val by omega)

theorem mem_blk (g : Fin 4) (x : S512x128.Idx) : x ∈ (blk g).view.set ↔ (x 0).val / 128 = g.val := by
  constructor
  · intro h
    obtain ⟨y, -, rfl⟩ := Finset.mem_map.mp h
    rw [blk_emb]
    have := (y 0).isLt; simp at this
    show (128 * g.val + (y 0).val) / 128 = g.val
    omega
  · intro h
    refine Finset.mem_map.mpr ⟨ix2 ⟨(x 0).val % 128, Nat.mod_lt _ (by decide)⟩ (x 1), Finset.mem_univ _, ?_⟩
    rw [blk_emb, eq_ix2 x]
    refine (ix2_inj _ _ _ _).mpr ⟨Fin.ext ?_, rfl⟩
    show 128 * g.val + (x 0).val % 128 = (x 0).val
    omega

theorem blk_disjoint : ∀ g ∈ (Finset.univ : Finset (Fin 4)), ∀ g' ∈ (Finset.univ : Finset (Fin 4)), g ≠ g' →
    Disjoint (blk g).view.set (blk g').view.set := fun g _ g' _ h =>
  Finset.disjoint_left.mpr fun x hx hx' => h (Fin.ext (((mem_blk g x).mp hx).symm.trans ((mem_blk g' x).mp hx')))

theorem blk_cover : Finset.biUnion (β := S512x128.Idx) (Finset.univ : Finset (Fin 4)) (fun g => (blk g).view.set) = Finset.univ := by
  ext x
  simp only [Finset.mem_biUnion, Finset.mem_univ, true_and, iff_true]
  exact ⟨⟨(x 0).val / 128, by have := (x 0).isLt; simp at this; omega⟩, (mem_blk _ x).mpr rfl⟩

theorem mem_lst (g : Fin 4) (x : S4x128.Idx) : x ∈ (lst g).view.set ↔ x 0 = g := by
  constructor
  · intro h
    obtain ⟨y, -, rfl⟩ := Finset.mem_map.mp h
    obtain ⟨k, rfl⟩ := S128.rowMajor.symm.surjective y
    rw [show (lst g).view.emb (S128.rowMajor.symm k) = (ix2 g k : S4x128.Idx) from lst_emb g k]
    rfl
  · rintro rfl
    refine Finset.mem_map.mpr ⟨S128.rowMajor.symm (x 1), Finset.mem_univ _, ?_⟩
    exact (lst_emb (x 0) (x 1)).trans (eq_ix2 x).symm

theorem lst_disjoint : ∀ g ∈ (Finset.univ : Finset (Fin 4)), ∀ g' ∈ (Finset.univ : Finset (Fin 4)), g ≠ g' →
    Disjoint (lst g).view.set (lst g').view.set := fun g _ g' _ h =>
  Finset.disjoint_left.mpr fun x hx hx' => h (((mem_lst g x).mp hx).symm.trans ((mem_lst g' x).mp hx'))

theorem lst_cover : Finset.biUnion (β := S4x128.Idx) (Finset.univ : Finset (Fin 4)) (fun g => (lst g).view.set) = Finset.univ := by
  ext x
  simp only [Finset.mem_biUnion, Finset.mem_univ, true_and, iff_true]
  exact ⟨x 0, (mem_lst _ x).mpr rfl⟩

/-! ## The run -/

section Run

variable (d : Dev nD) (c : Fin τ.nSC) (j : Fin τ.nSub)
variable (tab : Memref sig .scVector .hbm S100000x128 .f32)

/-- A whole buffer of the tile, held as its four blocks. -/
theorem rowV_blocks (f : Buf (Elt F) (rowV.view.loc (V d c j))) :
    (rowV.view.loc (V d c j) ↦{fullShare} f : sProp 𝕄) = bigSep Finset.univ fun g : Fin 4 => (blk g).view.loc (V d c j) ↦[(blk g).view.set]{fullShare} f := by
  rw [← pointsTo_biUnion Finset.univ (ℓ := rowV.view.loc (V d c j)) (fun g => (blk g).view.set) blk_disjoint, blk_cover]

theorem lstV_rows (f : Buf (Elt F) (lstV.view.loc (V d c j))) :
    (lstV.view.loc (V d c j) ↦{fullShare} f : sProp 𝕄) = bigSep Finset.univ fun g : Fin 4 => (lst g).view.loc (V d c j) ↦[(lst g).view.set]{fullShare} f := by
  rw [← pointsTo_biUnion Finset.univ (ℓ := lstV.view.loc (V d c j)) (fun g => (lst g).view.set) lst_disjoint, lst_cover]

theorem lst_inRange (fo : Buf (Elt F) (lstV.view.loc (V d c j))) (hin : ∀ x : S4x128.Idx, (fo x).toNat < 100000) (g : Fin 4) :
    ∀ x, ((lst g).view.read (Elt F) fo x).toNat < S100000x128.size gathers_S100000x128_S128x128.axis := fun x => by
  rw [show (lst g).view.read (Elt F) fo x = fo ((lst g).view.emb x) from (View.read_apply _ _).trans (cast_eq _ _)]
  exact hin _

/-- What row `k` of gather `g` delivers. -/
def member (q : PosShare TreeShare) (fs : Buf (Elt F) ((allRows tab).view.loc (V d c j))) (fd : Buf (Elt F) (rowV.view.loc (V d c j)))
    (fo : Buf (Elt F) (lstV.view.loc (V d c j))) (hin : ∀ x : S4x128.Idx, (fo x).toNat < 100000) (g : Fin 4) (k : Fin 128) : sProp 𝕄 :=
  rowDone (Ix := HIx 1) (Name := ℕ) (U := UU) (Lvl := ℕ) (V d c j) (allRows tab) (blk g) gathers_S100000x128_S128x128 (lst g) rfl (by decide)
    (Idealize.ShloMosaic.pieceOf q 4 (by decide) g) fullShare fs fd fo (lst_inRange d c j fo hin g) k

/-- The batch's members: 512 rows, gather by gather. -/
def members (q : PosShare TreeShare) (fs : Buf (Elt F) ((allRows tab).view.loc (V d c j))) (fd : Buf (Elt F) (rowV.view.loc (V d c j)))
    (fo : Buf (Elt F) (lstV.view.loc (V d c j))) (hin : ∀ x : S4x128.Idx, (fo x).toNat < 100000) (t : Fin (4 * 128)) : sProp 𝕄 :=
  member d c j tab q fs fd fo hin (finProdFinEquiv.symm t).1 (finProdFinEquiv.symm t).2

instance members_storable (q : PosShare TreeShare) (fs : Buf (Elt F) ((allRows tab).view.loc (V d c j))) (fd : Buf (Elt F) (rowV.view.loc (V d c j)))
    (fo : Buf (Elt F) (lstV.view.loc (V d c j))) (hin : ∀ x : S4x128.Idx, (fo x).toNat < 100000) (t : Fin (4 * 128)) :
    Storable (upEmb : UEmb _ 𝕄) (members d c j tab q fs fd fo hin t) := by
  unfold members member; exact rowDone_storable (Ix := HIx 1) (Name := ℕ) (U := UU) (Lvl := ℕ) _ _ _ _ _ _ _ _ _ _ _ _ _ _

theorem members_at (q : PosShare TreeShare) (fs : Buf (Elt F) ((allRows tab).view.loc (V d c j))) (fd : Buf (Elt F) (rowV.view.loc (V d c j)))
    (fo : Buf (Elt F) (lstV.view.loc (V d c j))) (hin : ∀ x : S4x128.Idx, (fo x).toNat < 100000) (g : Fin 4) {k : ℕ} (hk : k = 128 * g.val)
    (i : Fin 128) (h : k + i.val < 4 * 128) : members d c j tab q fs fd fo hin ⟨k + i.val, h⟩ = member d c j tab q fs fd fo hin g i := by
  unfold members
  rw [show (⟨k + i.val, h⟩ : Fin (4 * 128)) = finProdFinEquiv (g, i) from Fin.ext (by show k + i.val = i.val + 128 * g.val; omega),
    Equiv.symm_apply_apply]

/-- Element `y` of what gather `g` lands is the table's row named by the list's entry. -/
theorem block_value (tab : Memref sig .scVector .hbm S100000x128 .f32) (fs : tab.view.ty.Contents (Elt F)) (fo : S4x128.Idx → Elt F .i32) (g : Fin 4)
    (hin : ∀ x, ((lst g).view.read (Elt F) fo x).toNat < S100000x128.size gathers_S100000x128_S128x128.axis) (y : S128x128.Idx) :
    gatherPayload gathers_S100000x128_S128x128 ((allRows tab).view.read (Elt F) fs)
        (rows (F := F) (o := 128) ((lst g).view.read (Elt F) fo) rfl hin) y
      = gathered (tab.view.read (Elt F) fs) fo ((blk g).view.emb y) := by
  have h0 := (y 0).isLt
  simp at h0
  rw [blk_emb]
  unfold gathered gatherPayload
  rw [View.read_apply, View.read_apply, allRows_emb]
  refine congrArg (fun z => cast _ (fs (tab.view.emb z))) ?_
  have hrow : (rows (F := F) (o := 128) ((lst g).view.read (Elt F) fo) rfl hin (y 0) : Fin 100000)
      = rowIx (fo (ix2 g (y 0))) := by
    refine Fin.ext ?_
    have e : (lst g).view.read (Elt F) fo (S128.rowMajor.symm ((y 0).cast rfl)) = fo (ix2 g (y 0)) := by
      rw [show (lst g).view.read (Elt F) fo (S128.rowMajor.symm ((y 0).cast rfl)) = fo ((lst g).view.emb (S128.rowMajor.symm (y 0))) from
        (View.read_apply _ _).trans (cast_eq _ _)]
      exact congrArg fo (lst_emb g (y 0))
    have h1 := hin (S128.rowMajor.symm ((y 0).cast rfl))
    show ((lst g).view.read (Elt F) fo (S128.rowMajor.symm ((y 0).cast rfl))).toNat = (fo (ix2 g (y 0))).toNat % 100000
    rw [e] at h1 ⊢
    exact (Nat.mod_eq_of_lt h1).symm
  refine (eq_ix2 _).trans ((ix2_inj _ _ _ _).mpr ⟨?_, ?_⟩)
  · refine (Shape.Gathers.idx_axis gathers_S100000x128_S128x128 _ y).trans (hrow.trans ?_)
    congr 2
    refine (ix2_inj _ _ _ _).mpr ⟨Fin.ext ?_, Fin.ext ?_⟩
    · show g.val = (128 * g.val + (y 0).val) / 128
      omega
    · show (y 0).val = (128 * g.val + (y 0).val) % 128
      omega
  · exact Fin.ext (Shape.Gathers.idx_of_ne gathers_S100000x128_S128x128 _ y 1 (by decide))

/-- A gather's delivery put together: its block of the row buffer at the gathered rows, its piece of the table's share,
    and its row of the list. -/
theorem block_join (q : PosShare TreeShare) (fs : Buf (Elt F) ((allRows tab).view.loc (V d c j))) (fd : Buf (Elt F) (rowV.view.loc (V d c j)))
    (fo : Buf (Elt F) (lstV.view.loc (V d c j))) (hin : ∀ x : S4x128.Idx, (fo x).toNat < 100000) (g : Fin 4) :
    bigSep Finset.univ (member d c j tab q fs fd fo hin g)
      ⊢ (iprop(((blk g).view.loc (V d c j) ↦[(blk g).view.set]{fullShare} gathered (tab.view.read (Elt F) fs) fo)
          ∗ ((allRows tab).view.loc (V d c j) ↦[(allRows tab).view.set]{Idealize.ShloMosaic.pieceOf q 4 (by decide) g} fs)
          ∗ ((lst g).view.loc (V d c j) ↦[(lst g).view.set]{fullShare} fo)) : sProp 𝕄) := by
  refine (rowsDone_join (Ix := HIx 1) (Name := ℕ) (U := UU) (Lvl := ℕ) (V d c j) (allRows tab) (blk g) gathers_S100000x128_S128x128 (lst g) rfl (by decide)
    (Idealize.ShloMosaic.pieceOf q 4 (by decide) g) fullShare fs fd fo (lst_inRange d c j fo hin g)).trans ?_
  iintro ⟨Hd, Hs, Ho⟩
  isplitl [Hd]
  · iapply (Entails.of_eq (pointsTo_congr (ℓ := (blk g).view.loc (V d c j)) (q := fullShare) ?_)) $$ Hd
    intro x hx
    obtain ⟨y, -, rfl⟩ := Finset.mem_map.mp hx
    rw [View.write_emb_of_mem _ _ (Finset.mem_univ _)]
    exact block_value tab _ fo g (lst_inRange d c j fo hin g) y
  isplitl [Hs] <;> iassumption

theorem parts_out (Φ Ψ Χ : Fin 4 → sProp 𝕄) :
    (bigSep Finset.univ fun g => iprop(Φ g ∗ Ψ g ∗ Χ g)) ⊢ iprop(bigSep Finset.univ Φ ∗ bigSep Finset.univ Ψ ∗ bigSep Finset.univ Χ) := by
  iintro H
  ihave H := Transfers.bigSep_sep_out _ _ _ $$ H
  icases H with ⟨Ha, H⟩
  ihave H := Transfers.bigSep_sep_out _ _ _ $$ H
  icases H with ⟨Hb, Hc⟩
  isplitl [Ha]; · iexact Ha
  isplitl [Hb] <;> iassumption

/-- The whole batch put together. -/
theorem members_join (q : PosShare TreeShare) (fs : Buf (Elt F) ((allRows tab).view.loc (V d c j))) (fd : Buf (Elt F) (rowV.view.loc (V d c j)))
    (fo : Buf (Elt F) (lstV.view.loc (V d c j))) (hin : ∀ x : S4x128.Idx, (fo x).toNat < 100000) :
    bigSep Finset.univ (members d c j tab q fs fd fo hin)
      ⊢ (iprop((rowV.view.loc (V d c j) ↦{fullShare} gathered (tab.view.read (Elt F) fs) fo)
          ∗ ((allRows tab).view.loc (V d c j) ↦[(allRows tab).view.set]{q} fs)
          ∗ (lstV.view.loc (V d c j) ↦{fullShare} fo)) : sProp 𝕄) := by
  rw [rowV_blocks d c j, lstV_rows d c j, pointsTo_piecesOf ((allRows tab).view.set) fs (o := 4) (by decide) q,
    bigSep_univ_equiv (finProdFinEquiv (m := 4) (n := 128)), bigSep_univ_prod]
  refine (bigSep_mono (Ψ := fun g => iprop(((blk g).view.loc (V d c j) ↦[(blk g).view.set]{fullShare} gathered (tab.view.read (Elt F) fs) fo)
          ∗ ((allRows tab).view.loc (V d c j) ↦[(allRows tab).view.set]{Idealize.ShloMosaic.pieceOf q 4 (by decide) g} fs)
          ∗ ((lst g).view.loc (V d c j) ↦[(lst g).view.set]{fullShare} fo))) fun g _ => ?_).trans ?_
  · refine (Entails.of_eq (bigSep_congr fun i _ => ?_)).trans (block_join d c j tab q fs fd fo hin g)
    unfold members
    rw [Equiv.symm_apply_apply]
  · exact parts_out _ _ _

theorem bigSep_fin4 (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) by decide, bigSep_insert (by decide),
    bigSep_insert (by decide), bigSep_insert (by decide), bigSep_singleton]
  rfl

/-- What one row of 128 words, and a block of 128 rows, credit the semaphore. -/
def rowCredit : ℕ :=
  ((blk 0).slice (S128x128.rowRect gathers_S100000x128_S128x128.axis' ⟨0, by decide⟩)
    (S128x128.stride_rowRect gathers_S100000x128_S128x128.axis' ⟨0, by decide⟩)).view.dmaCredit
theorem rowCredit_eq (g : Fin 4) (i : Fin (S128x128.size gathers_S100000x128_S128x128.axis')) :
    ((blk g).slice (S128x128.rowRect gathers_S100000x128_S128x128.axis' i)
      (S128x128.stride_rowRect gathers_S100000x128_S128x128.axis' i)).view.dmaCredit = rowCredit := rfl
theorem blkCredit_eq (g : Fin 4) : (blk g).view.dmaCredit = 128 * rowCredit := by
  show (blk 0).view.dmaCredit = 128 * rowCredit
  decide
theorem rowCredit_pos : 0 < rowCredit := by decide

/-- Gather `g` fired, the gathers before it in flight. -/
theorem wp_fire {α : Type} {Q : α → sProp 𝕄} (cont : PUnit → Prog (TpuEff nD τ sig (Elt F) Λ₀ (.scVector c j)) α)
    (q : PosShare TreeShare) (fs : Buf (Elt F) ((allRows tab).view.loc (V d c j))) (fd : Buf (Elt F) (rowV.view.loc (V d c j)))
    (fo : Buf (Elt F) (lstV.view.loc (V d c j))) (hin : ∀ x : S4x128.Idx, (fo x).toNat < 100000) (g : Fin 4)
    {k k' : ℕ} (hk : k = 128 * g.val) (hk' : k + 128 = k') :
    iprop(((allRows tab).view.loc (V d c j) ↦[(allRows tab).view.set]{Idealize.ShloMosaic.pieceOf q 4 (by decide) g} fs)
        ∗ ((blk g).view.loc (V d c j) ↦[(blk g).view.set]{fullShare} fd)
        ∗ ((lst g).view.loc (V d c j) ↦[(lst g).view.set]{fullShare} fo)
        ∗ Transfers.Batch (countersEmb : UEmb Counters 𝕄) (V d c j) (.dma gsem) (default : HIx 1) rowCredit (members d c j tab q fs fd fo hin) k 0)
      ⊢ iprop((Transfers.Batch (countersEmb : UEmb Counters 𝕄) (V d c j) (.dma gsem) (default : HIx 1) rowCredit (members d c j tab q fs fd fo hin) k' 0
          -∗ wp frame (wpE (Ix := HIx 1) (Name := ℕ) (U := UU) (Lvl := ℕ) (defs₀ (F := F)) 𝒱₀ (V d c j) none) Set.univ (cont ⟨⟩) Q)
        -∗ wp frame (wpE (Ix := HIx 1) (Name := ℕ) (U := UU) (Lvl := ℕ) (defs₀ (F := F)) 𝒱₀ (V d c j) none) Set.univ (fire tab g >>= cont) Q) := by
  have hg := g.isLt
  have hD : ∀ i : Fin 128, rowDone (Ix := HIx 1) (Name := ℕ) (U := UU) (Lvl := ℕ) (V d c j) (allRows tab) (blk g) gathers_S100000x128_S128x128 (lst g) rfl (by decide)
      (Idealize.ShloMosaic.pieceOf q 4 (by decide) g) fullShare fs fd fo (lst_inRange d c j fo hin g) i
      ⊢ members d c j tab q fs fd fo hin ⟨k + i.val, by have := i.isLt; omega⟩ := fun i =>
    Entails.of_eq (members_at d c j tab q fs fd fo hin g hk i (by have := i.isLt; omega)).symm
  exact issueGather (V d c j) (countersEmb : UEmb Counters 𝕄) 𝒱₀ none (default : HIx 1) (rowCredit_eq g) (by decide) (lst_inRange d c j fo hin g)
    (o := 128) rfl hk' (by omega) hD

/-- THE FOUR GATHERS AND THEIR WAITS. -/
theorem wp_fourGathers {α : Type} {Q : α → sProp 𝕄} (rest : Prog (TpuEff nD τ sig (Elt F) Λ₀ (.scVector c j)) α)
    (q : PosShare TreeShare) (fs : Buf (Elt F) ((allRows tab).view.loc (V d c j))) (fd : Buf (Elt F) (rowV.view.loc (V d c j)))
    (fo : Buf (Elt F) (lstV.view.loc (V d c j))) (hin : ∀ x : S4x128.Idx, (fo x).toNat < 100000)
    (O : CellTallies nD τ sig (HIx 1)) (W : Waits sig (HIx 1)) :
    iprop(((allRows tab).view.loc (V d c j) ↦[(allRows tab).view.set]{q} fs) ∗ (rowV.view.loc (V d c j) ↦{fullShare} fd)
        ∗ (lstV.view.loc (V d c j) ↦{fullShare} fo) ∗ semVal (V d c j, .dma gsem) 0 ∗ owes (V d c j) O W
        ∗ Transfers.MayWaits (V d c j) (default : HIx 1) O)
      ⊢ iprop((iprop(((allRows tab).view.loc (V d c j) ↦[(allRows tab).view.set]{q} fs)
            ∗ (rowV.view.loc (V d c j) ↦{fullShare} gathered (tab.view.read (Elt F) fs) fo)
            ∗ (lstV.view.loc (V d c j) ↦{fullShare} fo) ∗ semVal (V d c j, .dma gsem) 0
            ∗ owes (V d c j) O (insert (SemLoc.dma gsem, default) W))
          -∗ wp frame (wpE (Ix := HIx 1) (Name := ℕ) (U := UU) (Lvl := ℕ) (defs₀ (F := F)) 𝒱₀ (V d c j) none) Set.univ rest Q)
        -∗ wp frame (wpE (Ix := HIx 1) (Name := ℕ) (U := UU) (Lvl := ℕ) (defs₀ (F := F)) 𝒱₀ (V d c j) none) Set.univ (fourGathers tab rest) Q) := by
  iintro ⟨Ht, Hr, Hl, Hsem, HO, #Hmw⟩ Hk
  imod (Transfers.batch_alloc' (Val := Elt F) (Ix := HIx 1) (Name := ℕ) (U := UU) (Lvl := ℕ) (sm := SemLoc.dma gsem) (E := Set.univ)
    (countersEmb : UEmb Counters 𝕄) (c := V d c j) (default : HIx 1) rowCredit (members d c j tab q fs fd fo hin)) $$ Hsem with Hb
  ihave Ht' := (Entails.of_eq ((pointsTo_piecesOf ((allRows tab).view.set) fs (o := 4) (by decide) q).trans (bigSep_fin4 _))) $$ Ht
  ihave Hr' := (Entails.of_eq ((rowV_blocks d c j fd).trans (bigSep_fin4 _))) $$ Hr
  ihave Hl' := (Entails.of_eq ((lstV_rows d c j fo).trans (bigSep_fin4 _))) $$ Hl
  icases Ht' with ⟨Ht0, Ht1, Ht2, Ht3⟩
  icases Hr' with ⟨Hr0, Hr1, Hr2, Hr3⟩
  icases Hl' with ⟨Hl0, Hl1, Hl2, Hl3⟩
  unfold fourGathers
  iapply (wp_fire d c j tab _ q fs fd fo hin 0 (k := 0) (k' := 128) rfl rfl) $$ [Ht0 Hr0 Hl0 Hb]
  · isplitl [Ht0]; · iexact Ht0
    isplitl [Hr0]; · iexact Hr0
    isplitl [Hl0]; · iexact Hl0
    iexact Hb
  iintro Hb
  iapply (wp_fire d c j tab _ q fs fd fo hin 1 (k := 128) (k' := 256) rfl rfl) $$ [Ht1 Hr1 Hl1 Hb]
  · isplitl [Ht1]; · iexact Ht1
    isplitl [Hr1]; · iexact Hr1
    isplitl [Hl1]; · iexact Hl1
    iexact Hb
  iintro Hb
  iapply (wp_fire d c j tab _ q fs fd fo hin 2 (k := 256) (k' := 384) rfl rfl) $$ [Ht2 Hr2 Hl2 Hb]
  · isplitl [Ht2]; · iexact Ht2
    isplitl [Hr2]; · iexact Hr2
    isplitl [Hl2]; · iexact Hl2
    iexact Hb
  iintro Hb
  iapply (wp_fire d c j tab _ q fs fd fo hin 3 (k := 384) (k' := 512) rfl rfl) $$ [Ht3 Hr3 Hl3 Hb]
  · isplitl [Ht3]; · iexact Ht3
    isplitl [Hr3]; · iexact Hr3
    isplitl [Hl3]; · iexact Hl3
    iexact Hb
  iintro Hb
  rw [await_bind]
  iapply (Transfers.wp_waitBatchMulO (countersEmb : UEmb Counters 𝕄) 𝒱₀ (V d c j) none (default : HIx 1) 128 (blkCredit_eq 0)
    (n := 4 * 128) (D := members d c j tab q fs fd fo hin) (j := 512) (u := 0) (by omega)) $$ [Hb HO]
  · isplitl [Hb]; · iexact Hb
    isplitl [HO]; · iexact HO
    iapply (Transfers.MayWaits.elim (SemLoc.dma gsem)) $$ Hmw
  iintro ⟨Hb, HO⟩
  rw [await_bind]
  iapply (Transfers.wp_waitBatchMulO (countersEmb : UEmb Counters 𝕄) 𝒱₀ (V d c j) none (default : HIx 1) 128 (blkCredit_eq 1)
    (n := 4 * 128) (D := members d c j tab q fs fd fo hin) (j := 512) (u := 0 + 128 * rowCredit) (by omega)) $$ [Hb HO]
  · isplitl [Hb]; · iexact Hb
    isplitl [HO]; · iexact HO
    iapply (Transfers.MayWaits.elim (SemLoc.dma gsem)) $$ Hmw
  iintro ⟨Hb, HO⟩
  rw [await_bind]
  iapply (Transfers.wp_waitBatchMulO (countersEmb : UEmb Counters 𝕄) 𝒱₀ (V d c j) none (default : HIx 1) 128 (blkCredit_eq 2)
    (n := 4 * 128) (D := members d c j tab q fs fd fo hin) (j := 512) (u := 0 + 128 * rowCredit + 128 * rowCredit) (by omega)) $$ [Hb HO]
  · isplitl [Hb]; · iexact Hb
    isplitl [HO]; · iexact HO
    iapply (Transfers.MayWaits.elim (SemLoc.dma gsem)) $$ Hmw
  iintro ⟨Hb, HO⟩
  rw [await_bind]
  iapply (Transfers.wp_waitBatchAllO (countersEmb : UEmb Counters 𝕄) 𝒱₀ (V d c j) none (default : HIx 1) (blkCredit_eq 3) rowCredit_pos
    (n := 4 * 128) (D := members d c j tab q fs fd fo hin) (u := 0 + 128 * rowCredit + 128 * rowCredit + 128 * rowCredit) (by omega)) $$ [Hb HO]
  · isplitl [Hb]; · iexact Hb
    isplitl [HO]; · iexact HO
    iapply (Transfers.MayWaits.elim (SemLoc.dma gsem)) $$ Hmw
  iintro ⟨Hd, Hsem, HO⟩
  iapply Hk
  simp only [Finset.insert_idem]
  ihave Hd := (members_join d c j tab q fs fd fo hin) $$ Hd
  icases Hd with ⟨Hr, Ht, Hl⟩
  isplitl [Ht]; · iexact Ht
  isplitl [Hr]; · iexact Hr
  isplitl [Hl]; · iexact Hl
  isplitl [Hsem]; · iexact Hsem
  iexact HO

end Run

end Cert.Proof

end
-- ==== Proof.Tile.lean ====
/-
  The TILE'S TASK, with the values it computes: tile `(c, s)` (number `2 s + c` of 32) copies its four rows of user ids
  into its list, gathers the 512 user rows they name, writes them to the left half of its 512 rows of the output, then
  does the same with the item ids, the item table and the right half.
-/
module

public import proofs.«01_k».proof.Proof.Gathers

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The operands -/

abbrev uidV : Memref sig .scVector .hbm S128x128 .i32 := Memref.whole main_v0_scv
abbrev iidV : Memref sig .scVector .hbm S128x128 .i32 := Memref.whole main_v1_scv
abbrev utabV : Memref sig .scVector .hbm S100000x128 .f32 := Memref.whole main_arg3_scv
abbrev itabV : Memref sig .scVector .hbm S100000x128 .f32 := Memref.whole main_arg4_scv
abbrev outV : Memref sig .scVector .hbm S16384x256 .f32 := Memref.whole main_v2_scv

abbrev cV (L : grid0.Coords) : Fin τ.nSC := (L 0).castLE hcore0
abbrev jV (L : grid0.Coords) : Fin τ.nSub := (L 1).castLE hsub0

/-- A tile's rows of ids, and its two blocks of the output, as the task addresses them. -/
abbrev uidK (L : grid0.Coords) : Memref sig .scVector .hbm S4x128 .i32 :=
  uidV.slice (Rect.unit (s := S128x128) (k0_off1 L) S4x128.size (k0_off1_inb L)) (fun _ => rfl)
abbrev iidK (L : grid0.Coords) : Memref sig .scVector .hbm S4x128 .i32 :=
  iidV.slice (Rect.unit (s := S128x128) (k0_off1 L) S4x128.size (k0_off1_inb L)) (fun _ => rfl)
abbrev leftK (L : grid0.Coords) : Memref sig .scVector .hbm S512x128 .f32 :=
  outV.slice (Rect.unit (s := S16384x256) (k0_off2 L) S512x128.size (k0_off2_inb L)) (fun _ => rfl)
abbrev rightK (L : grid0.Coords) : Memref sig .scVector .hbm S512x128 .f32 :=
  outV.slice (Rect.unit (s := S16384x256) (k0_off3 L) S512x128.size (k0_off3_inb L)) (fun _ => rfl)

/-- A tile's number. -/
def num (L : grid0.Coords) : Fin 32 := ⟨2 * (L 1).val + (L 0).val, by
  have h0 : (L 0).val < 2 := (L 0).isLt
  have h1 : (L 1).val < 16 := (L 1).isLt
  omega⟩

theorem uidK_emb (L : grid0.Coords) (y : S4x128.Idx) :
    (uidK L).view.emb y = (ix2 ⟨4 * (num L).val + (y 0).val, by have := (y 0).isLt; have := (num L).isLt; simp at *; omega⟩ (y 1) : S128x128.Idx) := by
  funext a
  match a with
  | ⟨0, _⟩ => exact Fin.ext (show k0_off1 L 0 + 1 * (y 0).val = 4 * (2 * (L 1).val + (L 0).val) + (y 0).val by
      rw [k0_off1_eq]; show 8 * (L 1).val + 4 * (L 0).val + 1 * (y 0).val = _; omega)
  | ⟨1, _⟩ => exact Fin.ext (show k0_off1 L 1 + 1 * (y 1).val = (y 1).val by
      rw [k0_off1_eq]; show 0 + 1 * (y 1).val = _; omega)
theorem iidK_emb (L : grid0.Coords) (y : S4x128.Idx) : (iidK L).view.emb y = (uidK L).view.emb y := rfl

theorem leftK_emb (L : grid0.Coords) (y : S512x128.Idx) :
    (leftK L).view.emb y = (ix2 ⟨512 * (num L).val + (y 0).val, by have := (y 0).isLt; have := (num L).isLt; simp at *; omega⟩
      ⟨(y 1).val, by have := (y 1).isLt; simp at *; omega⟩ : S16384x256.Idx) := by
  funext a
  match a with
  | ⟨0, _⟩ => exact Fin.ext (show k0_off2 L 0 + 1 * (y 0).val = 512 * (2 * (L 1).val + (L 0).val) + (y 0).val by
      rw [k0_off2_eq]; show 1024 * (L 1).val + 512 * (L 0).val + 1 * (y 0).val = _; omega)
  | ⟨1, _⟩ => exact Fin.ext (show k0_off2 L 1 + 1 * (y 1).val = (y 1).val by
      rw [k0_off2_eq]; show 0 + 1 * (y 1).val = _; omega)

theorem rightK_emb (L : grid0.Coords) (y : S512x128.Idx) :
    (rightK L).view.emb y = (ix2 ⟨512 * (num L).val + (y 0).val, by have := (y 0).isLt; have := (num L).isLt; simp at *; omega⟩
      ⟨128 + (y 1).val, by have := (y 1).isLt; simp at *; omega⟩ : S16384x256.Idx) := by
  funext a
  match a with
  | ⟨0, _⟩ => exact Fin.ext (show k0_off3 L 0 + 1 * (y 0).val = 512 * (2 * (L 1).val + (L 0).val) + (y 0).val by
      rw [k0_off3_eq]; show 1024 * (L 1).val + 512 * (L 0).val + 1 * (y 0).val = _; omega)
  | ⟨1, _⟩ => exact Fin.ext (show k0_off3 L 1 + 1 * (y 1).val = 128 + (y 1).val by
      rw [k0_off3_eq]; show 128 + 1 * (y 1).val = _; omega)

theorem mem_uidK (L : grid0.Coords) (x : S128x128.Idx) : x ∈ (uidK L).view.set ↔ (x 0).val / 4 = (num L).val := by
  constructor
  · intro h
    obtain ⟨y, -, rfl⟩ := Finset.mem_map.mp h
    rw [uidK_emb]
    have := (y 0).isLt; simp at this
    show (4 * (num L).val + (y 0).val) / 4 = (num L).val
    omega
  · intro h
    refine Finset.mem_map.mpr ⟨ix2 ⟨(x 0).val % 4, Nat.mod_lt _ (by decide)⟩ (x 1), Finset.mem_univ _, ?_⟩
    rw [uidK_emb, eq_ix2 x]
    refine (ix2_inj _ _ _ _).mpr ⟨Fin.ext ?_, rfl⟩
    show 4 * (num L).val + (x 0).val % 4 = (x 0).val
    omega

theorem mem_leftK (L : grid0.Coords) (x : S16384x256.Idx) :
    x ∈ (leftK L).view.set ↔ (x 0).val / 512 = (num L).val ∧ (x 1).val < 128 := by
  constructor
  · intro h
    obtain ⟨y, -, rfl⟩ := Finset.mem_map.mp h
    rw [leftK_emb]
    have := (y 0).isLt; have := (y 1).isLt; simp at *
    show (512 * (num L).val + (y 0).val) / 512 = (num L).val ∧ (y 1).val < 128
    omega
  · intro ⟨h, h'⟩
    refine Finset.mem_map.mpr ⟨ix2 ⟨(x 0).val % 512, Nat.mod_lt _ (by decide)⟩ ⟨(x 1).val, h'⟩, Finset.mem_univ _, ?_⟩
    rw [leftK_emb]
    refine Eq.trans ((ix2_inj _ _ _ _).mpr ⟨Fin.ext ?_, rfl⟩) (eq_ix2 x).symm
    show 512 * (num L).val + (x 0).val % 512 = (x 0).val
    omega

theorem mem_rightK (L : grid0.Coords) (x : S16384x256.Idx) :
    x ∈ (rightK L).view.set ↔ (x 0).val / 512 = (num L).val ∧ ¬ (x 1).val < 128 := by
  constructor
  · intro h
    obtain ⟨y, -, rfl⟩ := Finset.mem_map.mp h
    rw [rightK_emb]
    have := (y 0).isLt; simp at this
    have h1 : ¬ 128 + (y 1).val < 128 := by omega
    refine ⟨?_, h1⟩
    show (512 * (num L).val + (y 0).val) / 512 = (num L).val
    omega
  · intro ⟨h, h'⟩
    have := (x 1).isLt; simp at this
    refine Finset.mem_map.mpr ⟨ix2 ⟨(x 0).val % 512, Nat.mod_lt _ (by decide)⟩ ⟨(x 1).val - 128, by omega⟩, Finset.mem_univ _, ?_⟩
    rw [rightK_emb]
    refine Eq.trans ((ix2_inj _ _ _ _).mpr ⟨Fin.ext ?_, Fin.ext ?_⟩) (eq_ix2 x).symm
    · show 512 * (num L).val + (x 0).val % 512 = (x 0).val
      omega
    · show 128 + ((x 1).val - 128) = (x 1).val
      omega

/-! ## The values -/

/-- The row of `tab` that id number `r` names (the ids laid out 128 to a row). -/
def rowOfId (ids : S128x128.Idx → Elt F .i32) (r : Fin 16384) : Fin 100000 :=
  rowIx (ids (ix2 ⟨r.val / 128, by have := r.isLt; omega⟩ ⟨r.val % 128, Nat.mod_lt _ (by decide)⟩))

/-- The SparseCore call's output: row `r` is user row `iu r` followed by item row `ii r`. -/
def scOut (iu ii : S128x128.Idx → Elt F .i32) (tu ti : S100000x128.Idx → Elt F .f32) : S16384x256.Idx → Elt F .f32 := fun x =>
  if h : (x 1).val < 128 then tu (ix2 (rowOfId (F := F) iu (x 0)) ⟨(x 1).val, h⟩)
  else ti (ix2 (rowOfId (F := F) ii (x 0)) ⟨(x 1).val - 128, by have := (x 1).isLt; simp at this; omega⟩)

/-- A tile's four rows of ids. -/
def idsOf (L : grid0.Coords) (ids : S128x128.Idx → Elt F .i32) : S4x128.Idx → Elt F .i32 := fun y => ids ((uidK L).view.emb y)

/-- The row of the table under element `y` of the tile's row buffer is the one its id names. -/
theorem gathered_idsOf (L : grid0.Coords) (ids : S128x128.Idx → Elt F .i32) (tf : S100000x128.Idx → Elt F .f32) (y : S512x128.Idx) :
    gathered tf (idsOf (F := F) L ids) y
      = tf (ix2 (rowOfId (F := F) ids ⟨512 * (num L).val + (y 0).val, by have := (y 0).isLt; have := (num L).isLt; simp at *; omega⟩) (y 1)) := by
  have := (y 0).isLt; simp at this
  unfold gathered idsOf rowOfId
  rw [uidK_emb]
  refine congrArg (fun z => tf (ix2 (rowIx (ids z)) (y 1))) ?_
  refine (ix2_inj _ _ _ _).mpr ⟨Fin.ext ?_, Fin.ext ?_⟩
  · show 4 * (num L).val + (y 0).val / 128 = (512 * (num L).val + (y 0).val) / 128
    omega
  · show (y 0).val % 128 = (512 * (num L).val + (y 0).val) % 128
    omega

theorem left_value (L : grid0.Coords) (iu ii : S128x128.Idx → Elt F .i32) (tu ti : S100000x128.Idx → Elt F .f32) (y : S512x128.Idx) :
    gathered tu (idsOf (F := F) L iu) y = scOut iu ii tu ti ((leftK L).view.emb y) := by
  have h : (y 1).val < 128 := (y 1).isLt
  rw [gathered_idsOf, leftK_emb]
  unfold scOut
  split
  · rfl
  · rename_i hn
    exact absurd h hn

theorem right_value (L : grid0.Coords) (iu ii : S128x128.Idx → Elt F .i32) (tu ti : S100000x128.Idx → Elt F .f32) (y : S512x128.Idx) :
    gathered ti (idsOf (F := F) L ii) y = scOut iu ii tu ti ((rightK L).view.emb y) := by
  rw [gathered_idsOf, rightK_emb]
  unfold scOut
  refine Eq.trans ?_ (dif_neg (Nat.not_lt.mpr (Nat.le_add_right 128 _))).symm
  refine congrArg (fun z => ti (ix2 _ z)) (Fin.ext ?_)
  show (y 1).val = 128 + (y 1).val - 128
  omega

/-! ## The program -/

/-- The task, its two halves each as four gathers and the rest. -/
def tileProg (L : grid0.Coords) : Prog (TpuEff nD τ sig (Elt F) Λ₀ (.scVector (cV L) (jV L))) PUnit := do
  Prog.lift (.enqueueDma (uidK L) (.here lstV) (.dma cc0_scoped0.sem) (View.wordExact_bits rfl) (Memref.isWhole_whole _).wordExact ⟨Or.inl rfl, trivial⟩)
  Prog.lift (.waitDma2 cc0_scoped0.sem (uidK L) lstV (View.wordExact_bits rfl) (Memref.isWhole_whole _).wordExact)
  fourGathers utabV do
    Prog.lift (.enqueueDma rowV (.here (leftK L)) (.dma cc0_scoped1.sem) (Memref.isWhole_whole _).wordExact (View.wordExact_bits rfl) ⟨Or.inl rfl, trivial⟩)
    Prog.lift (.waitDma2 cc0_scoped1.sem rowV (leftK L) (Memref.isWhole_whole _).wordExact (View.wordExact_bits rfl))
    Prog.lift (.enqueueDma (iidK L) (.here lstV) (.dma cc0_scoped2.sem) (View.wordExact_bits rfl) (Memref.isWhole_whole _).wordExact ⟨Or.inl rfl, trivial⟩)
    Prog.lift (.waitDma2 cc0_scoped2.sem (iidK L) lstV (View.wordExact_bits rfl) (Memref.isWhole_whole _).wordExact)
    fourGathers itabV do
      Prog.lift (.enqueueDma rowV (.here (rightK L)) (.dma cc0_scoped3.sem) (Memref.isWhole_whole _).wordExact (View.wordExact_bits rfl) ⟨Or.inl rfl, trivial⟩)
      Prog.lift (.waitDma2 cc0_scoped3.sem rowV (rightK L) (Memref.isWhole_whole _).wordExact (View.wordExact_bits rfl))
      pure ⟨⟩

set_option maxRecDepth 65536 in
theorem gk_eq (L : grid0.Coords) :
    cc0_gk (F := F) L uidV (Memref.isWhole_whole _) iidV (Memref.isWhole_whole _) utabV (Memref.isWhole_whole _) itabV (Memref.isWhole_whole _)
        outV (Memref.isWhole_whole _) lstV (Memref.isWhole_whole _) rowV (Memref.isWhole_whole _) cc0_scratch2 cc0_scoped0 cc0_scoped1 cc0_scoped2 cc0_scoped3
      = tileProg L := by
  rw [cc0_gk_eq_skeleton]
  unfold cc0_gk_skel
  rw [k0_part1_eq_skeleton, k0_part2_eq_skeleton, k0_part3_eq_skeleton]
  unfold tileProg fourGathers
  rfl

/-! ## The run -/

section Run

variable (d : Dev nD) (L : grid0.Coords)
variable (iu ii : S128x128.Idx → Elt F .i32) (tu ti : S100000x128.Idx → Elt F .f32)

/-- What a task is handed: its rows of ids, its share of the tables, its two blocks of the output at contents `f`. -/
def taskRes (f : S16384x256.Idx → Elt F .f32) : sProp 𝕄 :=
  iprop(((uidK L).view.loc (V d (cV L) (jV L)) ↦[(uidK L).view.set]{fullShare} iu)
    ∗ ((iidK L).view.loc (V d (cV L) (jV L)) ↦[(iidK L).view.set]{fullShare} ii)
    ∗ (utabV.view.loc (V d (cV L) (jV L)) ↦{Idealize.ShloMosaic.pieceOf fullShare 32 (by decide) (num L)} tu)
    ∗ (itabV.view.loc (V d (cV L) (jV L)) ↦{Idealize.ShloMosaic.pieceOf fullShare 32 (by decide) (num L)} ti)
    ∗ ((leftK L).view.loc (V d (cV L) (jV L)) ↦[(leftK L).view.set]{fullShare} f)
    ∗ ((rightK L).view.loc (V d (cV L) (jV L)) ↦[(rightK L).view.set]{fullShare} f))

instance taskRes_storable (f : S16384x256.Idx → Elt F .f32) : Storable (upEmb : UEmb _ 𝕄) (taskRes d L iu ii tu ti f) := by
  unfold taskRes; infer_instance

/-- The tile's semaphores: the one the gathers share and the four copies'. -/
theorem ownSems0_V :
    (SparseCore.Cfg.ownSems0 (V d (cV L) (jV L)) : sProp 𝕄)
      = iprop(semVal (V d (cV L) (jV L), .dma cc0_scratch2.sem) 0 ∗ semVal (V d (cV L) (jV L), .dma cc0_scoped0.sem) 0
          ∗ semVal (V d (cV L) (jV L), .dma cc0_scoped1.sem) 0 ∗ semVal (V d (cV L) (jV L), .dma cc0_scoped2.sem) 0
          ∗ semVal (V d (cV L) (jV L), .dma cc0_scoped3.sem) 0
          ∗ bigSep ((((((SparseCore.Cfg.ownCells (V d (cV L) (jV L))).erase (V d (cV L) (jV L), .dma cc0_scratch2.sem)).erase (V d (cV L) (jV L), .dma cc0_scoped0.sem)).erase
              (V d (cV L) (jV L), .dma cc0_scoped1.sem)).erase (V d (cV L) (jV L), .dma cc0_scoped2.sem)).erase (V d (cV L) (jV L), .dma cc0_scoped3.sem)) fun g => semVal g 0) := by
  have hm : ∀ a : DmaSem sig, (SemLoc.dma a : SemLoc sig).isScoped .scVector = true →
      ((V d (cV L) (jV L), SemLoc.dma a) : GSem nD τ sig) ∈ SparseCore.Cfg.ownCells (V d (cV L) (jV L)) := fun a ha =>
    SparseCore.Cfg.mem_ownCells.mpr ⟨rfl, ha⟩
  have hne : ∀ a b : DmaSem sig, a ≠ b → ((V d (cV L) (jV L), SemLoc.dma a) : GSem nD τ sig) ≠ (V d (cV L) (jV L), SemLoc.dma b) :=
    fun a b h e => h (by injection e with _ e; injection e)
  unfold SparseCore.Cfg.ownSems0
  rw [SparseCore.bigSep_erase' (hm cc0_scratch2.sem (by decide)),
    SparseCore.bigSep_erase' (Finset.mem_erase.mpr ⟨hne _ _ (by decide), hm cc0_scoped0.sem (by decide)⟩),
    SparseCore.bigSep_erase' (Finset.mem_erase.mpr ⟨hne _ _ (by decide), Finset.mem_erase.mpr ⟨hne _ _ (by decide), hm cc0_scoped1.sem (by decide)⟩⟩),
    SparseCore.bigSep_erase' (Finset.mem_erase.mpr ⟨hne _ _ (by decide), Finset.mem_erase.mpr ⟨hne _ _ (by decide), Finset.mem_erase.mpr ⟨hne _ _ (by decide),
      hm cc0_scoped2.sem (by decide)⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc0_scoped3.sem (by decide)⟩⟩⟩⟩)]

/-- The tile's list and row buffer among its own buffers. -/
theorem ownBufs_V :
    (SparseCore.Cfg.ownBufs (V d (cV L) (jV L)) : sProp 𝕄)
      = iprop((∃ f, lstV.view.loc (V d (cV L) (jV L)) ↦{fullShare} f) ∗ (∃ f, rowV.view.loc (V d (cV L) (jV L)) ↦{fullShare} f)
          ∗ bigSep (((SparseCore.Cfg.ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

theorem allRows_univ (tab : Memref sig .scVector .hbm S100000x128 .f32) (htab : tab.view.set = Finset.univ) :
    (allRows tab).view.set = Finset.univ := by
  rw [← htab]
  ext x
  constructor
  · intro h
    obtain ⟨y, -, rfl⟩ := Finset.mem_map.mp h
    exact Finset.mem_map.mpr ⟨y, Finset.mem_univ _, (allRows_emb tab y).symm⟩
  · intro h
    obtain ⟨y, -, rfl⟩ := Finset.mem_map.mp h
    exact Finset.mem_map.mpr ⟨y, Finset.mem_univ _, allRows_emb tab y⟩

theorem utab_rows (q : PosShare TreeShare) (f : S100000x128.Idx → Elt F .f32) :
    (utabV.view.loc (V d (cV L) (jV L)) ↦{q} f : sProp 𝕄) = ((allRows utabV).view.loc (V d (cV L) (jV L)) ↦[(allRows utabV).view.set]{q} f) := by
  rw [allRows_univ utabV (View.set_whole _)]
theorem itab_rows (q : PosShare TreeShare) (f : S100000x128.Idx → Elt F .f32) :
    (itabV.view.loc (V d (cV L) (jV L)) ↦{q} f : sProp 𝕄) = ((allRows itabV).view.loc (V d (cV L) (jV L)) ↦[(allRows itabV).view.set]{q} f) := by
  rw [allRows_univ itabV (View.set_whole _)]

/-- A COPY INTO THE LIST and its wait. -/
theorem wp_fetch {α : Type} {Q : α → sProp 𝕄} (c : Fin τ.nSC) (j : Fin τ.nSub) (src : Memref sig .scVector .hbm S4x128 .i32) (sem : DmaSem sig)
    (h1 : src.view.WordExact) (rest : Prog (TpuEff nD τ sig (Elt F) Λ₀ (.scVector c j)) α)
    (f : Buf (Elt F) (src.view.loc (V d c j))) (fl : Buf (Elt F) (lstV.view.loc (V d c j))) (O : CellTallies nD τ sig (HIx 1)) (W : Waits sig (HIx 1)) :
    iprop((src.view.loc (V d c j) ↦[src.view.set]{fullShare} f) ∗ (lstV.view.loc (V d c j) ↦{fullShare} fl)
        ∗ semVal (V d c j, .dma sem) 0 ∗ owes (V d c j) O W ∗ Transfers.MayWaits (V d c j) (default : HIx 1) O)
      ⊢ iprop((iprop((src.view.loc (V d c j) ↦[src.view.set]{fullShare} f) ∗ (lstV.view.loc (V d c j) ↦{fullShare} src.view.read (Elt F) f)
            ∗ semVal (V d c j, .dma sem) 0 ∗ owes (V d c j) O (insert (SemLoc.dma sem, default) W))
          -∗ wp frame (wpE (Ix := HIx 1) (Name := ℕ) (U := UU) (Lvl := ℕ) (defs₀ (F := F)) 𝒱₀ (V d c j) none) Set.univ rest Q)
        -∗ wp frame (wpE (Ix := HIx 1) (Name := ℕ) (U := UU) (Lvl := ℕ) (defs₀ (F := F)) 𝒱₀ (V d c j) none) Set.univ
          (Prog.lift (.enqueueDma src (.here lstV) (.dma sem) h1 (Memref.isWhole_whole _).wordExact ⟨Or.inl rfl, trivial⟩) >>= fun _ =>
            Prog.lift (.waitDma2 sem src lstV h1 (Memref.isWhole_whole _).wordExact) >>= fun _ => rest) Q) := by
  iintro ⟨Hs, Hl, Hsem, HO, #Hmw⟩ Hk
  sl_exec
  ihave Hl := (Entails.of_eq (congrArg (fun g => (lstV.view.loc (V d c j) ↦{fullShare} g : sProp 𝕄))
    (show View.write (Elt F) lstV.view fl (wp_fetch.sl.dma0 d c j src f) Finset.univ = src.view.read (Elt F) f from View.write_whole_univ _ _ _))) $$ Hl
  iapply Hk
  isplitl [Hs]; · iexact Hs
  isplitl [Hl]; · iexact Hl
  isplitl [Hsem]; · iexact Hsem
  iexact HO

/-- A COPY OUT OF THE ROW BUFFER and its wait. -/
theorem wp_store {α : Type} {Q : α → sProp 𝕄} (c : Fin τ.nSC) (j : Fin τ.nSub) (dst : Memref sig .scVector .hbm S512x128 .f32) (sem : DmaSem sig)
    (h1 : dst.view.WordExact) (rest : Prog (TpuEff nD τ sig (Elt F) Λ₀ (.scVector c j)) α)
    (fr : Buf (Elt F) (rowV.view.loc (V d c j))) (f g : Buf (Elt F) (dst.view.loc (V d c j)))
    (hg : ∀ y : S512x128.Idx, dst.view.read (Elt F) g y = fr y) (O : CellTallies nD τ sig (HIx 1)) (W : Waits sig (HIx 1)) :
    iprop((rowV.view.loc (V d c j) ↦{fullShare} fr) ∗ (dst.view.loc (V d c j) ↦[dst.view.set]{fullShare} f)
        ∗ semVal (V d c j, .dma sem) 0 ∗ owes (V d c j) O W ∗ Transfers.MayWaits (V d c j) (default : HIx 1) O)
      ⊢ iprop((iprop((rowV.view.loc (V d c j) ↦{fullShare} fr) ∗ (dst.view.loc (V d c j) ↦[dst.view.set]{fullShare} g)
            ∗ semVal (V d c j, .dma sem) 0 ∗ owes (V d c j) O (insert (SemLoc.dma sem, default) W))
          -∗ wp frame (wpE (Ix := HIx 1) (Name := ℕ) (U := UU) (Lvl := ℕ) (defs₀ (F := F)) 𝒱₀ (V d c j) none) Set.univ rest Q)
        -∗ wp frame (wpE (Ix := HIx 1) (Name := ℕ) (U := UU) (Lvl := ℕ) (defs₀ (F := F)) 𝒱₀ (V d c j) none) Set.univ
          (Prog.lift (.enqueueDma rowV (.here dst) (.dma sem) (Memref.isWhole_whole _).wordExact h1 ⟨Or.inl rfl, trivial⟩) >>= fun _ =>
            Prog.lift (.waitDma2 sem rowV dst (Memref.isWhole_whole _).wordExact h1) >>= fun _ => rest) Q) := by
  iintro ⟨Hr, Hd, Hsem, HO, #Hmw⟩ Hk
  sl_exec
  ihave Hd := (Entails.of_eq (pointsTo_congr (ℓ := dst.view.loc (V d c j)) (q := fullShare) (g := g) (fun x hx => by
    obtain ⟨y, -, rfl⟩ := Finset.mem_map.mp hx
    have e := hg y
    rw [View.read_apply] at e
    have he : (dst.view.slice (Rect.whole S512x128)).emb y = dst.view.emb y := by
      show dst.view.emb ((Rect.whole S512x128).emb y) = dst.view.emb y
      rw [Rect.emb_whole_apply]
    rw [View.writes_singleton, ← he, View.write_emb_of_mem _ _ (Finset.mem_univ _), he]
    rw [show wp_store.sl.dma0 d c j fr y = fr y from rfl, ← e, cast_cast, cast_eq]))) $$ Hd
  iapply Hk
  isplitl [Hr]; · iexact Hr
  isplitl [Hd]; · iexact Hd
  isplitl [Hsem]; · iexact Hsem
  iexact HO

set_option maxHeartbeats 4000000 in
/-- The task's run. -/
theorem tile_body (hF : (K (F := F)).Facts) (hu : ∀ x, (iu x).toNat < 100000) (hi : ∀ x, (ii x).toNat < 100000)
    (f0 : S16384x256.Idx → Elt F .f32)
    (O : CellTallies nD τ sig (HIx 1)) (W : Waits sig (HIx 1)) (hO : ∀ g, O g none = 0) :
    iprop(levAts (K (F := F)).L (K (F := F)).lev ∗ emp
        ∗ taskRes d L iu ii tu ti f0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(taskRes d L iu ii tu ti (scOut iu ii tu ti)
            ∗ scopedBufs (V d (cV L) (jV L)) ∗ scopedSems0 (V d (cV L) (jV L))
            ∗ ∃ W', ⌜∀ p ∈ W', p ∈ W ∨ p.2 = none⌝ ∗ owes (V d (cV L) (jV L)) O W') := by
  unfold tileProg taskRes
  rw [(K (F := F)).scopedBufs_V hF d (cV L) (jV L), SparseCore.Cfg.scopedSems0_V (Val := Elt F) d (cV L) (jV L), ownSems0_V, ownBufs_V]
  iintro ⟨#Hlv, -, ⟨Hu, Hi, Htu, Hti, Hl, Hr⟩, ⟨⟨%fl, Hlst⟩, ⟨%fr, Hrow⟩, Hbufs⟩, ⟨Hg, HsemA, HsemB, HsemC, HsemD, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  iapply (wp_fetch d (cV L) (jV L) (uidK L) cc0_scoped0.sem _ _ iu fl O W) $$ [Hu Hlst HsemA HO]
  · isplitl [Hu]; · iexact Hu
    isplitl [Hlst]; · iexact Hlst
    isplitl [HsemA]; · iexact HsemA
    isplitl [HO]; · iexact HO
    iexact Hmw
  iintro ⟨Hu, Hlst, HsemA, HO⟩
  ihave Htu := (Entails.of_eq (utab_rows d L _ tu)) $$ Htu
  iapply (wp_fourGathers d (cV L) (jV L) utabV _ _ tu fr (idsOf (F := F) L iu) (fun _ => hu _) O _) $$ [Htu Hrow Hlst Hg HO]
  · isplitl [Htu]; · iexact Htu
    isplitl [Hrow]; · iexact Hrow
    isplitl [Hlst]; · iexact Hlst
    isplitl [Hg]; · iexact Hg
    isplitl [HO]; · iexact HO
    iexact Hmw
  iintro ⟨Htu, Hrow, Hlst, Hg, HO⟩
  ihave Htu := (Entails.of_eq (utab_rows d L _ tu).symm) $$ Htu
  iapply (wp_store d (cV L) (jV L) (leftK L) cc0_scoped1.sem _ _ (gathered tu (idsOf (F := F) L iu)) f0 (scOut iu ii tu ti)
    (fun y => (left_value L iu ii tu ti y).symm) O _) $$ [Hrow Hl HsemB HO]
  · isplitl [Hrow]; · iexact Hrow
    isplitl [Hl]; · iexact Hl
    isplitl [HsemB]; · iexact HsemB
    isplitl [HO]; · iexact HO
    iexact Hmw
  iintro ⟨Hrow, Hl, HsemB, HO⟩
  iapply (wp_fetch d (cV L) (jV L) (iidK L) cc0_scoped2.sem _ _ ii (idsOf (F := F) L iu) O _) $$ [Hi Hlst HsemC HO]
  · isplitl [Hi]; · iexact Hi
    isplitl [Hlst]; · iexact Hlst
    isplitl [HsemC]; · iexact HsemC
    isplitl [HO]; · iexact HO
    iexact Hmw
  iintro ⟨Hi, Hlst, HsemC, HO⟩
  ihave Hti := (Entails.of_eq (itab_rows d L _ ti)) $$ Hti
  iapply (wp_fourGathers d (cV L) (jV L) itabV _ _ ti (gathered tu (idsOf (F := F) L iu)) (idsOf (F := F) L ii) (fun _ => hi _) O _) $$ [Hti Hrow Hlst Hg HO]
  · isplitl [Hti]; · iexact Hti
    isplitl [Hrow]; · iexact Hrow
    isplitl [Hlst]; · iexact Hlst
    isplitl [Hg]; · iexact Hg
    isplitl [HO]; · iexact HO
    iexact Hmw
  iintro ⟨Hti, Hrow, Hlst, Hg, HO⟩
  ihave Hti := (Entails.of_eq (itab_rows d L _ ti).symm) $$ Hti
  iapply (wp_store d (cV L) (jV L) (rightK L) cc0_scoped3.sem _ _ (gathered ti (idsOf (F := F) L ii)) f0 (scOut iu ii tu ti)
    (fun y => (right_value L iu ii tu ti y).symm) O _) $$ [Hrow Hr HsemD HO]
  · isplitl [Hrow]; · iexact Hrow
    isplitl [Hr]; · iexact Hr
    isplitl [HsemD]; · iexact HsemD
    isplitl [HO]; · iexact HO
    iexact Hmw
  iintro ⟨Hrow, Hr, HsemD, HO⟩
  sl_step
  isplitl [Hu Hi Htu Hti Hl Hr]
  · isplitl [Hu]; · iexact Hu
    isplitl [Hi]; · iexact Hi
    isplitl [Htu]; · iexact Htu
    isplitl [Hti]; · iexact Hti
    isplitl [Hl] <;> iassumption
  isplitl [Hlst Hrow Hbufs]
  · isplitl [Hlst]; · iexists _; iexact Hlst
    isplitl [Hrow]; · iexists _; iexact Hrow
    iexact Hbufs
  isplitl [Hg HsemA HsemB HsemC HsemD Hsems]
  · isplitl [Hg]; · iexact Hg
    isplitl [HsemA]; · iexact HsemA
    isplitl [HsemB]; · iexact HsemB
    isplitl [HsemC]; · iexact HsemC
    isplitl [HsemD]; · iexact HsemD
    iexact Hsems
  iexists _; isplitr
  swap; · iexact HO
  ipureintro; intro p hp
  simp only [Finset.mem_insert] at hp
  rcases hp with hp | hp | hp | hp | hp | hp | hp
  all_goals first | exact .inr (hp ▸ rfl) | exact .inl hp

end Run

end Cert.Proof

end
-- ==== Proof.ScCall.lean ====
/-
  THE SPARSECORE CALL as the launch theorem asks for it: what @main hands it and gets back, dealt to the 2 x 16 tiles.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 1) (Elt F) ℕ UU ℕ

/-- The task of core `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

theorem num_coordsV (c : Fin 2) (s : Fin 16) : (num (coordsV c s)).val = 2 * s.val + c.val := rfl

/-- Tiles are numbered: core `c`'s tile `s` is number `2 s + c`. -/
theorem num_bijective : Function.Bijective fun p : Fin 2 × Fin 16 => num (coordsV p.1 p.2) := by
  constructor
  · rintro ⟨c, s⟩ ⟨c', s'⟩ h
    have h : 2 * s.val + c.val = 2 * s'.val + c'.val := congrArg Fin.val h
    exact Prod.ext (Fin.ext (by show c.val = c'.val; omega)) (Fin.ext (by show s.val = s'.val; omega))
  · intro w
    refine ⟨(⟨w.val % 2, by omega⟩, ⟨w.val / 2, by omega⟩), Fin.ext ?_⟩
    show 2 * (w.val / 2) + w.val % 2 = w.val
    omega

theorem mem_iidK (L : grid0.Coords) (x : S128x128.Idx) : x ∈ (iidK L).view.set ↔ (x 0).val / 4 = (num L).val :=
  mem_uidK L x

section Operands

variable (d : Dev nD) (iu ii : S128x128.Idx → Elt F .i32) (tu ti : S100000x128.Idx → Elt F .f32)

/-- What the call takes and gives back, whole: the two arrays of ids, the two tables, the output. -/
def callRes (f : S16384x256.Idx → Elt F .f32) : sProp 𝕄 :=
  iprop(((SparseCore.T d).loc main_v0 ↦{fullShare} iu) ∗ ((SparseCore.T d).loc main_v1 ↦{fullShare} ii)
    ∗ ((SparseCore.T d).loc main_arg3 ↦{fullShare} tu) ∗ ((SparseCore.T d).loc main_arg4 ↦{fullShare} ti) ∗ ((SparseCore.T d).loc main_v2 ↦{fullShare} f))

/-- An array split over tiles. -/
theorem split_tiles (ℓ : Loc nD τ sig) (f : Buf (Elt F) ℓ) (I : Fin 2 × Fin 16 → Finset (Idx ℓ))
    (hI : ∀ p p' x, x ∈ I p → x ∈ I p' → p = p') (hc : ∀ x, ∃ p, x ∈ I p) :
    (ℓ ↦{fullShare} f : sProp 𝕄) = bigSep Finset.univ fun c : Fin 2 => bigSep Finset.univ fun i : Fin 16 => (ℓ ↦[I (c, i)]{fullShare} f) := by
  rw [← bigSep_univ_prod (fun p : Fin 2 × Fin 16 => (ℓ ↦[I p]{fullShare} f : sProp 𝕄)),
    ← pointsTo_biUnion Finset.univ (ℓ := ℓ) I (fun p _ p' _ h => Finset.disjoint_left.mpr fun x hx hx' => h (hI p p' x hx hx'))]
  congr 1
  ext x
  simp only [Finset.mem_biUnion, Finset.mem_univ, true_and, true_iff]
  exact hc x

theorem inj_num {p p' : Fin 2 × Fin 16} (h : (num (coordsV p.1 p.2)).val = (num (coordsV p'.1 p'.2)).val) : p = p' :=
  num_bijective.1 (Fin.ext h)
theorem tile_num (w : ℕ) (hw : w < 32) : ∃ p : Fin 2 × Fin 16, w = (num (coordsV p.1 p.2)).val := by
  obtain ⟨p, hp⟩ := num_bijective.2 ⟨w, hw⟩
  exact ⟨p, (congrArg Fin.val hp).symm⟩

/-- The call's operands are its tasks'. -/
theorem callRes_eq (f : S16384x256.Idx → Elt F .f32) :
    (callRes d iu ii tu ti f : sProp 𝕄)
      = bigSep Finset.univ fun c : Fin 2 => bigSep Finset.univ fun i : Fin 16 => taskRes d (coordsV c i) iu ii tu ti f := by
  have hu : ((SparseCore.T d).loc main_v0 ↦{fullShare} iu : sProp 𝕄) = bigSep Finset.univ fun c : Fin 2 => bigSep Finset.univ fun i : Fin 16 =>
      ((uidK (coordsV c i)).view.loc (V d (cV (coordsV c i)) (jV (coordsV c i))) ↦[(uidK (coordsV c i)).view.set]{fullShare} iu) :=
    split_tiles ((SparseCore.T d).loc main_v0) iu (fun p => (uidK (coordsV p.1 p.2)).view.set)
      (fun p p' (x : S128x128.Idx) h h' => inj_num (((mem_uidK _ x).mp h).symm.trans ((mem_uidK _ x).mp h')))
      (fun (x : S128x128.Idx) => (tile_num _ (by have : ((x : S128x128.Idx) 0).val < 128 := (x 0).isLt; omega)).imp fun p hp => (mem_uidK _ x).mpr hp)
  have hi : ((SparseCore.T d).loc main_v1 ↦{fullShare} ii : sProp 𝕄) = bigSep Finset.univ fun c : Fin 2 => bigSep Finset.univ fun i : Fin 16 =>
      ((iidK (coordsV c i)).view.loc (V d (cV (coordsV c i)) (jV (coordsV c i))) ↦[(iidK (coordsV c i)).view.set]{fullShare} ii) :=
    split_tiles ((SparseCore.T d).loc main_v1) ii (fun p => (iidK (coordsV p.1 p.2)).view.set)
      (fun p p' (x : S128x128.Idx) h h' => inj_num (((mem_iidK _ x).mp h).symm.trans ((mem_iidK _ x).mp h')))
      (fun (x : S128x128.Idx) => (tile_num _ (by have : ((x : S128x128.Idx) 0).val < 128 := (x 0).isLt; omega)).imp fun p hp => (mem_iidK _ x).mpr hp)
  have ht (r : Ref sig .tc) (g : Buf (Elt F) ((SparseCore.T d).loc r)) : ((SparseCore.T d).loc r ↦{fullShare} g : sProp 𝕄)
      = bigSep Finset.univ fun c : Fin 2 => bigSep Finset.univ fun i : Fin 16 =>
        ((SparseCore.T d).loc r ↦{Idealize.ShloMosaic.pieceOf fullShare 32 (by decide) (num (coordsV c i))} g) := by
    rw [pointsTo_piecesOf Finset.univ g (o := 32) (by decide) fullShare, bigSep_univ_equiv (Equiv.ofBijective _ num_bijective), bigSep_univ_prod]
    rfl
  have ho : ((SparseCore.T d).loc main_v2 ↦{fullShare} f : sProp 𝕄) = bigSep Finset.univ fun c : Fin 2 => bigSep Finset.univ fun i : Fin 16 =>
      iprop(((leftK (coordsV c i)).view.loc (V d (cV (coordsV c i)) (jV (coordsV c i))) ↦[(leftK (coordsV c i)).view.set]{fullShare} f)
        ∗ ((rightK (coordsV c i)).view.loc (V d (cV (coordsV c i)) (jV (coordsV c i))) ↦[(rightK (coordsV c i)).view.set]{fullShare} f)) := by
    have hU (p : Fin 2 × Fin 16) (x : S16384x256.Idx) : x ∈ ((leftK (coordsV p.1 p.2)).view.set ∪ (rightK (coordsV p.1 p.2)).view.set : Finset S16384x256.Idx)
        ↔ (x 0).val / 512 = (num (coordsV p.1 p.2)).val := by
      rw [Finset.mem_union, mem_leftK, mem_rightK]
      tauto
    refine (split_tiles ((SparseCore.T d).loc main_v2) f
      (fun p => ((leftK (coordsV p.1 p.2)).view.set ∪ (rightK (coordsV p.1 p.2)).view.set : Finset S16384x256.Idx))
      (fun p p' (x : S16384x256.Idx) h h' => inj_num (((hU p x).mp h).symm.trans ((hU p' x).mp h')))
      (fun (x : S16384x256.Idx) => (tile_num _ (by have : ((x : S16384x256.Idx) 0).val < 16384 := (x 0).isLt; omega)).imp fun p hp => (hU p x).mpr hp)).trans ?_
    refine bigSep_congr fun c _ => bigSep_congr fun i _ => ?_
    have hd : Disjoint ((leftK (coordsV c i)).view.set : Finset S16384x256.Idx) (rightK (coordsV c i)).view.set :=
      Finset.disjoint_left.mpr fun x h h' => ((mem_rightK _ x).mp h').2 ((mem_leftK _ x).mp h).2
    exact eqOf (pointsTo_union hd).1 (pointsTo_union hd).2
  unfold callRes taskRes
  rw [hu, hi, ht main_arg3 tu, ht main_arg4 ti, ho]
  simp only [bigSep_sep']

end Operands

/-! ## The handshakes' payloads -/

/-- What the call's operands hold, on each device. -/
structure Operands (F : FTy → Type) where
  iu : S128x128.Idx → Elt F .i32
  ii : S128x128.Idx → Elt F .i32
  tu : S100000x128.Idx → Elt F .f32
  ti : S100000x128.Idx → Elt F .f32
  f0 : S16384x256.Idx → Elt F .f32

/-- The output, the ids and the tables as given. -/
abbrev Operands.out (A : Operands F) : S16384x256.Idx → Elt F .f32 := scOut A.iu A.ii A.tu A.ti

variable (A : Dev nD → Operands F)

abbrev taskIn (d : Dev nD) (L : grid0.Coords) : sProp 𝕄 := taskRes d L (A d).iu (A d).ii (A d).tu (A d).ti (A d).f0
abbrev taskOut (d : Dev nD) (L : grid0.Coords) : sProp 𝕄 := taskRes d L (A d).iu (A d).ii (A d).tu (A d).ti (A d).out

/-- A core of the call takes its tiles' operands and gives them back, the output written. -/
def P : (K (F := F)).Pay (nD := nD) (Val := Elt F) (Name := ℕ) (U := UU) where
  st := fun q d c => match q with | 0 => bigSep Finset.univ fun i : Fin 16 => taskIn A d (coordsV c i)
  dn := fun q d c => match q with | 0 => bigSep Finset.univ fun i : Fin 16 => taskOut A d (coordsV c i)
  go := fun q d c i => match q with | 0 => taskIn A d (coordsV c i)
  td := fun q d c i => match q with | 0 => taskOut A d (coordsV c i)
  x := fun _ _ => iprop(emp)

instance P_storable : (P A).IsStorable where
  st q d c := match q with
    | 0 => haveI h (i : Fin 16) : BI.Storable (upEmb : UEmb _ 𝕄) (taskIn A d (coordsV c i)) := taskRes_storable d _ _ _ _ _ _
      Storable.bigSep (upEmb : UEmb _ 𝕄) (Finset.univ : Finset (Fin 16)) fun i => taskIn A d (coordsV c i)
  dn q d c := match q with
    | 0 => haveI h (i : Fin 16) : BI.Storable (upEmb : UEmb _ 𝕄) (taskOut A d (coordsV c i)) := taskRes_storable d _ _ _ _ _ _
      Storable.bigSep (upEmb : UEmb _ 𝕄) (Finset.univ : Finset (Fin 16)) fun i => taskOut A d (coordsV c i)
  go q d c i := match q with | 0 => (inferInstance : BI.Storable (upEmb : UEmb _ 𝕄) (taskIn A d (coordsV c i)))
  td q d c i := match q with | 0 => (inferInstance : BI.Storable (upEmb : UEmb _ 𝕄) (taskOut A d (coordsV c i)))

theorem vecSplit : (K (F := F)).VecSplit' (P A) 0 := by
  intro d c
  show (bigSep Finset.univ fun i : Fin 16 => taskIn A d (coordsV c i)) ⊢ |={Set.univ}=> iprop(
      (bigSep Finset.univ fun i : Fin 16 => taskIn A d (coordsV c i))
      ∗ ((bigSep Finset.univ fun i : Fin 16 => taskOut A d (coordsV c i))
          -∗ (bigSep Finset.univ fun i : Fin 16 => taskOut A d (coordsV c i))))
  iintro H; imodintro
  isplitl [H]; · iexact H
  iintro H; iexact H

theorem defs₀_vector (c : Fin τ.nSC) (s : Fin τ.nSub) :
    defs₀ (F := F) (.scVector c s) 0 ()
      = SparseCore.onTile hcore0 hsub0 (fun c s => cc0_gk (coordsV c s)
          uidV (Memref.isWhole_whole _) iidV (Memref.isWhole_whole _) utabV (Memref.isWhole_whole _) itabV (Memref.isWhole_whole _)
          outV (Memref.isWhole_whole _) lstV (Memref.isWhole_whole _) rowV (Memref.isWhole_whole _) cc0_scratch2 cc0_scoped0 cc0_scoped1 cc0_scoped2 cc0_scoped3) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hu : ∀ d x, ((A d).iu x).toNat < 100000) (hi : ∀ d x, ((A d).ii x).toNat < 100000) :
    (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [gk_eq]
  exact (tile_body d (coordsV ⟨_, hci.1⟩ ⟨_, hci.2⟩) (A d).iu (A d).ii (A d).tu (A d).ti facts (hu d) (hi d) (A d).f0 O W hO).trans
    (wp_mono frame _ _ fun _ => obl_post)

theorem st_eq (d : Dev nD) : (bigSep Finset.univ fun c : Fin ((K (F := F)).nCore 0) => (P A).st 0 d c)
    = callRes d (A d).iu (A d).ii (A d).tu (A d).ti (A d).f0 := (callRes_eq d (A d).iu (A d).ii (A d).tu (A d).ti (A d).f0).symm
theorem dn_eq (d : Dev nD) : (bigSep Finset.univ fun c : Fin ((K (F := F)).nCore 0) => (P A).dn 0 d c)
    = callRes d (A d).iu (A d).ii (A d).tu (A d).ti (A d).out := (callRes_eq d (A d).iu (A d).ii (A d).tu (A d).ti (A d).out).symm

end Cert.Proof

end
-- ==== Proof.MlpBody.lean ====
/-
  THE NETWORK KERNEL'S BODY, run on any staging buffers: at a tile's point it keeps the tile's first-layer rows and adds to their sums;
  at the last point it computes the predictions from what it kept.
-/
module

public import proofs.«01_k».proof.Proof.GenreBody
public import Idealize.ShloMosaic.Lib.Pipeline.Value
public import Idealize.ShloMosaic.Lib.WritesUnit
public import Idealize.ShloMosaic.Lib.VecWindow

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- A tile's rows put over rows `o`, `o + 1`, … of the kept first layer. -/
def setRows (o : ℕ) (z : Vec F S8192x256 .f32) (X : Vec F S16384x256 .f32) : Vec F S16384x256 .f32 := fun y =>
  if h : o ≤ (y 0).val ∧ (y 0).val < o + 8192 then z (ix2 ⟨(y 0).val - o, by omega⟩ (y 1)) else X y

theorem zero3 : (![0, 0, 0] : Fin 3 → Nat) = fun _ => 0 := funext fun a => by fin_cases a <;> rfl

/-- Storing a tile's rows at row `o` of the kept first layer. -/
theorem rows_put (v : View sig .tc .vmem S16384x256 .f32) (f : v.ty.Contents (Elt F)) (X : Vec F S16384x256 .f32) (hX : v.read (Elt F) f = X)
    {off : Fin 2 → ℕ} {o : ℕ} (ho : off = ![o, 0]) (inb : ∀ a, off a + S8192x256.size a ≤ S16384x256.size a) (z : Vec F S8192x256 .f32) :
    v.read (Elt F) (v.writes (Elt F) f [⟨Rect.unit off S8192x256.size inb, z⟩]) = setRows o z X := by
  funext y
  by_cases h : o ≤ (y 0).val ∧ (y 0).val < o + 8192
  · rw [View.read_writes_cons_rows_of_mem v f inb z [] y (ix2 ⟨(y 0).val - o, by omega⟩ (y 1)) ho (by show (y 0).val = o + ((y 0).val - o); omega) rfl]
    unfold setRows; rw [dif_pos h]
  · rw [View.read_writes_cons_rows_of_not_mem v f (W := 8192) inb z [] y ho rfl (by omega)]
    unfold setRows; rw [dif_neg h]; exact congrFun hX y

/-- The predictions: from the kept first layer, its sums and sums of squares, and the eleven parameter arrays after them. -/
def mlpOut (z : Vec F S16384x256 .f32) (s ss g0 b0 : Vec F S1x256 .f32) (w1 : Vec F S128x256 .f32) (c1 g1 b1 : Vec F S1x128 .f32)
    (w2 : Vec F S64x128 .f32) (c2 g2 b2 wp : Vec F S1x64 .f32) (bp : Vec F S1x1 .f32) : FVec F S1x1x16384 .f32 :=
  let h := k2_pay8 z s ss g0 b0 w1 c1
  let hs := k2_pay9 z s ss g0 b0 w1 c1
  let hss := k2_pay10 z s ss g0 b0 w1 c1
  let n : F .f32 := Scalar.ofBits .f32 0x46800000#32
  k2_pay2 (k2_pay11 h hs hss n g1 b1 w2 c2) (k2_pay12 h hs hss n g1 b1 w2 c2) (k2_pay13 h hs hss n g1 b1 w2 c2) g2 b2 wp bp

/-- The first tile's point: the sums start at zero. -/
theorem mlp_first (c : Dev nD) (i : grid2.Coords)
    (M1 : Memref sig .tc .vmem S8192x256 .f32) (h1 : M1.IsWhole)
    (M2 : Memref sig .tc .vmem S8192x32 .bf16) (h2 : M2.IsWhole)
    (M3 : Memref sig .tc .vmem S256x256 .f32) (h3 : M3.IsWhole)
    (M4 : Memref sig .tc .vmem S256x32 .f32) (h4 : M4.IsWhole)
    (M5 : Memref sig .tc .vmem S1x256 .f32) (h5 : M5.IsWhole)
    (M6 : Memref sig .tc .vmem S1x256 .f32) (h6 : M6.IsWhole)
    (M7 : Memref sig .tc .vmem S1x256 .f32) (h7 : M7.IsWhole)
    (M8 : Memref sig .tc .vmem S128x256 .f32) (h8 : M8.IsWhole)
    (M9 : Memref sig .tc .vmem S1x128 .f32) (h9 : M9.IsWhole)
    (M10 : Memref sig .tc .vmem S1x128 .f32) (h10 : M10.IsWhole)
    (M11 : Memref sig .tc .vmem S1x128 .f32) (h11 : M11.IsWhole)
    (M12 : Memref sig .tc .vmem S64x128 .f32) (h12 : M12.IsWhole)
    (M13 : Memref sig .tc .vmem S1x64 .f32) (h13 : M13.IsWhole)
    (M14 : Memref sig .tc .vmem S1x64 .f32) (h14 : M14.IsWhole)
    (M15 : Memref sig .tc .vmem S1x64 .f32) (h15 : M15.IsWhole)
    (M16 : Memref sig .tc .vmem S1x64 .f32) (h16 : M16.IsWhole)
    (M17 : Memref sig .tc .vmem S1x1 .f32) (h17 : M17.IsWhole)
    (M18 : Memref sig .tc .vmem S1x1x16384 .f32) (h18 : M18.IsWhole)
    (M19 : Memref sig .tc .vmem S16384x256 .f32) (h19 : M19.IsWhole)
    (M20 : Memref sig .tc .vmem S1x256 .f32) (h20 : M20.IsWhole)
    (M21 : Memref sig .tc .vmem S1x256 .f32) (h21 : M21.IsWhole)
    (hc1 : k2_cond1 i = 1#1) (hc2 : Scalar.cmpi .ne (Scalar.extui (Scalar.cmpi .eq (BitVec.ofNat 32 (i 0).val) 0#32) : BitVec 32) 0#32 = 1#1) (hc3 : ¬ k2_cond3 i = 1#1) (o : ℕ) (ho : k2_off1 i = ![o, 0])
    (X1 : Vec F S8192x256 .f32) (X2 : Vec F S8192x32 .bf16) (X3 : Vec F S256x256 .f32) (X4 : Vec F S256x32 .f32) (X5 : Vec F S1x256 .f32) (X19 : Vec F S16384x256 .f32) (X20 : Vec F S1x256 .f32) (X21 : Vec F S1x256 .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M19 fullShare X19 ∗ owns (c : Thread nD τ) M20 fullShare X20 ∗ owns (c : Thread nD τ) M21 fullShare X21
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M19 fullShare (setRows o (k2_pay3 X1 X3 X2 X4 X5) X19) ∗ owns (c : Thread nD τ) M20 fullShare (k2_pay7 X1 X3 X2 X4 X5 (k2_pay5 (F := F))) ∗ owns (c : Thread nD τ) M21 fullShare (k2_pay1 (k2_pay3 X1 X3 X2 X4 X5) (k2_pay6 (F := F)))) -∗ Q ⟨⟩))
      ⊢ wp frame (wpE (defs₀ (F := F)) 𝒱₀ c none) E (cc2__mlp_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  unfold owns
  iintro ⟨⟨%f1, %e1, H1⟩, ⟨%f2, %e2, H2⟩, ⟨%f3, %e3, H3⟩, ⟨%f4, %e4, H4⟩, ⟨%f5, %e5, H5⟩, ⟨%f19, %e19, H19⟩, ⟨%f20, %e20, H20⟩, ⟨%f21, %e21, H21⟩, Hk⟩
  sl_exec!
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H19]
  · iexists _; isplitr; swap; · iexact H19
    ipureintro
    sl_unfold_words
    simp only [View.readAt_eq_ld, View.ld_unit_zero (S := S8192x256) zero2, View.ld_unit_zero (S := S8192x32) zero2, View.ld_unit_zero (S := S256x256) zero2, View.ld_unit_zero (S := S256x32) zero2, View.ld_unit_zero (S := S1x256) zero2, e1, e2, e3, e4, e5, e19, e20, e21]
    exact (rows_put M19.view f19 X19 e19 (by exact ho) _ _).trans (congrArg (setRows o · X19) (shapeCast_self _ _))
  isplitl [H20]
  · iexists _; isplitr; swap; · iexact H20
    ipureintro
    sl_unfold_words
    simp only [View.readAt_eq_ld, View.ld_unit_zero (S := S8192x256) zero2, View.ld_unit_zero (S := S8192x32) zero2, View.ld_unit_zero (S := S256x256) zero2, View.ld_unit_zero (S := S256x32) zero2, View.ld_unit_zero (S := S1x256) zero2, e1, e2, e3, e4, e5, e19, e20, e21]
    rw [View.readCov_unit_zero (S := S1x256) _ zero2]
    exact read_full M20.view _ zero2 _ _ _
  iexists _; isplitr; swap; · iexact H21
  ipureintro
  sl_unfold_words
  simp only [View.readAt_eq_ld, View.ld_unit_zero (S := S8192x256) zero2, View.ld_unit_zero (S := S8192x32) zero2, View.ld_unit_zero (S := S256x256) zero2, View.ld_unit_zero (S := S256x32) zero2, View.ld_unit_zero (S := S1x256) zero2, e1, e2, e3, e4, e5, e19, e20, e21]
  rw [View.readCov_unit_zero (S := S1x256) _ zero2]
  exact read_full M21.view _ zero2 _ _ _

/-- A later tile's point. -/
theorem mlp_next (c : Dev nD) (i : grid2.Coords)
    (M1 : Memref sig .tc .vmem S8192x256 .f32) (h1 : M1.IsWhole)
    (M2 : Memref sig .tc .vmem S8192x32 .bf16) (h2 : M2.IsWhole)
    (M3 : Memref sig .tc .vmem S256x256 .f32) (h3 : M3.IsWhole)
    (M4 : Memref sig .tc .vmem S256x32 .f32) (h4 : M4.IsWhole)
    (M5 : Memref sig .tc .vmem S1x256 .f32) (h5 : M5.IsWhole)
    (M6 : Memref sig .tc .vmem S1x256 .f32) (h6 : M6.IsWhole)
    (M7 : Memref sig .tc .vmem S1x256 .f32) (h7 : M7.IsWhole)
    (M8 : Memref sig .tc .vmem S128x256 .f32) (h8 : M8.IsWhole)
    (M9 : Memref sig .tc .vmem S1x128 .f32) (h9 : M9.IsWhole)
    (M10 : Memref sig .tc .vmem S1x128 .f32) (h10 : M10.IsWhole)
    (M11 : Memref sig .tc .vmem S1x128 .f32) (h11 : M11.IsWhole)
    (M12 : Memref sig .tc .vmem S64x128 .f32) (h12 : M12.IsWhole)
    (M13 : Memref sig .tc .vmem S1x64 .f32) (h13 : M13.IsWhole)
    (M14 : Memref sig .tc .vmem S1x64 .f32) (h14 : M14.IsWhole)
    (M15 : Memref sig .tc .vmem S1x64 .f32) (h15 : M15.IsWhole)
    (M16 : Memref sig .tc .vmem S1x64 .f32) (h16 : M16.IsWhole)
    (M17 : Memref sig .tc .vmem S1x1 .f32) (h17 : M17.IsWhole)
    (M18 : Memref sig .tc .vmem S1x1x16384 .f32) (h18 : M18.IsWhole)
    (M19 : Memref sig .tc .vmem S16384x256 .f32) (h19 : M19.IsWhole)
    (M20 : Memref sig .tc .vmem S1x256 .f32) (h20 : M20.IsWhole)
    (M21 : Memref sig .tc .vmem S1x256 .f32) (h21 : M21.IsWhole)
    (hc1 : k2_cond1 i = 1#1) (hc2 : ¬ Scalar.cmpi .ne (Scalar.extui (Scalar.cmpi .eq (BitVec.ofNat 32 (i 0).val) 0#32) : BitVec 32) 0#32 = 1#1) (hc3 : ¬ k2_cond3 i = 1#1) (o : ℕ) (ho : k2_off1 i = ![o, 0])
    (X1 : Vec F S8192x256 .f32) (X2 : Vec F S8192x32 .bf16) (X3 : Vec F S256x256 .f32) (X4 : Vec F S256x32 .f32) (X5 : Vec F S1x256 .f32) (X19 : Vec F S16384x256 .f32) (X20 : Vec F S1x256 .f32) (X21 : Vec F S1x256 .f32) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M19 fullShare X19 ∗ owns (c : Thread nD τ) M20 fullShare X20 ∗ owns (c : Thread nD τ) M21 fullShare X21
        ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M19 fullShare (setRows o (k2_pay3 X1 X3 X2 X4 X5) X19) ∗ owns (c : Thread nD τ) M20 fullShare (k2_pay7 X1 X3 X2 X4 X5 X20) ∗ owns (c : Thread nD τ) M21 fullShare (k2_pay1 (k2_pay3 X1 X3 X2 X4 X5) X21)) -∗ Q ⟨⟩))
      ⊢ wp frame (wpE (defs₀ (F := F)) 𝒱₀ c none) E (cc2__mlp_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  unfold owns
  iintro ⟨⟨%f1, %e1, H1⟩, ⟨%f2, %e2, H2⟩, ⟨%f3, %e3, H3⟩, ⟨%f4, %e4, H4⟩, ⟨%f5, %e5, H5⟩, ⟨%f19, %e19, H19⟩, ⟨%f20, %e20, H20⟩, ⟨%f21, %e21, H21⟩, Hk⟩
  sl_exec!
  sl_step
  iapply Hk
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H19]
  · iexists _; isplitr; swap; · iexact H19
    ipureintro
    sl_unfold_words
    simp only [View.readAt_eq_ld, View.ld_unit_zero (S := S8192x256) zero2, View.ld_unit_zero (S := S8192x32) zero2, View.ld_unit_zero (S := S256x256) zero2, View.ld_unit_zero (S := S256x32) zero2, View.ld_unit_zero (S := S1x256) zero2, e1, e2, e3, e4, e5, e19, e20, e21]
    exact (rows_put M19.view f19 X19 e19 (by exact ho) _ _).trans (congrArg (setRows o · X19) (shapeCast_self _ _))
  isplitl [H20]
  · iexists _; isplitr; swap; · iexact H20
    ipureintro
    sl_unfold_words
    simp only [View.readAt_eq_ld, View.ld_unit_zero (S := S8192x256) zero2, View.ld_unit_zero (S := S8192x32) zero2, View.ld_unit_zero (S := S256x256) zero2, View.ld_unit_zero (S := S256x32) zero2, View.ld_unit_zero (S := S1x256) zero2, e1, e2, e3, e4, e5, e19, e20, e21]
    exact read_full M20.view _ zero2 _ _ _
  iexists _; isplitr; swap; · iexact H21
  ipureintro
  sl_unfold_words
  simp only [View.readAt_eq_ld, View.ld_unit_zero (S := S8192x256) zero2, View.ld_unit_zero (S := S8192x32) zero2, View.ld_unit_zero (S := S256x256) zero2, View.ld_unit_zero (S := S256x32) zero2, View.ld_unit_zero (S := S1x256) zero2, e1, e2, e3, e4, e5, e19, e20, e21]
  exact read_full M21.view _ zero2 _ _ _

/-- The last point. -/
theorem mlp_last (c : Dev nD) (i : grid2.Coords)
    (M1 : Memref sig .tc .vmem S8192x256 .f32) (h1 : M1.IsWhole)
    (M2 : Memref sig .tc .vmem S8192x32 .bf16) (h2 : M2.IsWhole)
    (M3 : Memref sig .tc .vmem S256x256 .f32) (h3 : M3.IsWhole)
    (M4 : Memref sig .tc .vmem S256x32 .f32) (h4 : M4.IsWhole)
    (M5 : Memref sig .tc .vmem S1x256 .f32) (h5 : M5.IsWhole)
    (M6 : Memref sig .tc .vmem S1x256 .f32) (h6 : M6.IsWhole)
    (M7 : Memref sig .tc .vmem S1x256 .f32) (h7 : M7.IsWhole)
    (M8 : Memref sig .tc .vmem S128x256 .f32) (h8 : M8.IsWhole)
    (M9 : Memref sig .tc .vmem S1x128 .f32) (h9 : M9.IsWhole)
    (M10 : Memref sig .tc .vmem S1x128 .f32) (h10 : M10.IsWhole)
    (M11 : Memref sig .tc .vmem S1x128 .f32) (h11 : M11.IsWhole)
    (M12 : Memref sig .tc .vmem S64x128 .f32) (h12 : M12.IsWhole)
    (M13 : Memref sig .tc .vmem S1x64 .f32) (h13 : M13.IsWhole)
    (M14 : Memref sig .tc .vmem S1x64 .f32) (h14 : M14.IsWhole)
    (M15 : Memref sig .tc .vmem S1x64 .f32) (h15 : M15.IsWhole)
    (M16 : Memref sig .tc .vmem S1x64 .f32) (h16 : M16.IsWhole)
    (M17 : Memref sig .tc .vmem S1x1 .f32) (h17 : M17.IsWhole)
    (M18 : Memref sig .tc .vmem S1x1x16384 .f32) (h18 : M18.IsWhole)
    (M19 : Memref sig .tc .vmem S16384x256 .f32) (h19 : M19.IsWhole)
    (M20 : Memref sig .tc .vmem S1x256 .f32) (h20 : M20.IsWhole)
    (M21 : Memref sig .tc .vmem S1x256 .f32) (h21 : M21.IsWhole)
    (hc1 : ¬ k2_cond1 i = 1#1) (hc3 : k2_cond3 i = 1#1)
    (X6 : Vec F S1x256 .f32) (X7 : Vec F S1x256 .f32) (X8 : Vec F S128x256 .f32) (X9 : Vec F S1x128 .f32) (X10 : Vec F S1x128 .f32) (X11 : Vec F S1x128 .f32) (X12 : Vec F S64x128 .f32) (X13 : Vec F S1x64 .f32) (X14 : Vec F S1x64 .f32) (X15 : Vec F S1x64 .f32) (X16 : Vec F S1x64 .f32) (X17 : Vec F S1x1 .f32) (X18 : Vec F S1x1x16384 .f32) (X19 : Vec F S16384x256 .f32) (X20 : Vec F S1x256 .f32) (X21 : Vec F S1x256 .f32) (E : Set ℕ) (Q : PUnit → sProp 𝕄) :
    iprop(owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ owns (c : Thread nD τ) M17 fullShare X17 ∗ owns (c : Thread nD τ) M18 fullShare X18 ∗ owns (c : Thread nD τ) M19 fullShare X19 ∗ owns (c : Thread nD τ) M20 fullShare X20 ∗ owns (c : Thread nD τ) M21 fullShare X21
        ∗ (iprop(owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ owns (c : Thread nD τ) M17 fullShare X17 ∗ owns (c : Thread nD τ) M18 fullShare (mlpOut X19 X20 X21 X6 X7 X8 X9 X10 X11 X12 X13 X14 X15 X16 X17) ∗ owns (c : Thread nD τ) M19 fullShare X19 ∗ owns (c : Thread nD τ) M20 fullShare X20 ∗ owns (c : Thread nD τ) M21 fullShare X21) -∗ Q ⟨⟩))
      ⊢ wp frame (wpE (defs₀ (F := F)) 𝒱₀ c none) E (cc2__mlp_body i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21) Q := by
  unfold owns
  iintro ⟨⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, ⟨%f16, %e16, H16⟩, ⟨%f17, %e17, H17⟩, ⟨%f18, %e18, H18⟩, ⟨%f19, %e19, H19⟩, ⟨%f20, %e20, H20⟩, ⟨%f21, %e21, H21⟩, Hk⟩
  sl_exec!
  sl_step
  iapply Hk
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  isplitl [H14]
  · iexists f14; isplitr; · ipureintro; exact e14
    iexact H14
  isplitl [H15]
  · iexists f15; isplitr; · ipureintro; exact e15
    iexact H15
  isplitl [H16]
  · iexists f16; isplitr; · ipureintro; exact e16
    iexact H16
  isplitl [H17]
  · iexists f17; isplitr; · ipureintro; exact e17
    iexact H17
  isplitl [H18]
  · iexists _; isplitr; swap; · iexact H18
    ipureintro
    sl_unfold_words
    simp only [View.readAt_eq_ld, View.ld_unit_zero (S := S16384x256) zero2, View.ld_unit_zero (S := S1x256) zero2, View.ld_unit_zero (S := S128x256) zero2, View.ld_unit_zero (S := S1x128) zero2, View.ld_unit_zero (S := S64x128) zero2, View.ld_unit_zero (S := S1x64) zero2, View.ld_unit_zero (S := S1x1) zero2, e6, e7, e8, e9, e10, e11, e12, e13, e14, e15, e16, e17, e18, e19, e20, e21]
    exact read_full M18.view _ zero3 _ _ _
  isplitl [H19]
  · iexists f19; isplitr; · ipureintro; exact e19
    iexact H19
  isplitl [H20]
  · iexists f20; isplitr; · ipureintro; exact e20
    iexact H20
  iexists f21; isplitr; · ipureintro; exact e21
  iexact H21

end Cert.Proof

end
-- ==== Proof.Mlp.lean ====
/-
  THE MLP CALL: its proof data from any contents of the arrays at its entry, its body's obligation point by point, and what its result ends holding.
-/
module

public import proofs.«01_k».proof.Proof.MlpBody
public import proofs.«01_k».proof.Proof.Genre

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]

local notation "𝕄" => MT nD τ sig (HIx 1) (Elt F) ℕ UU ℕ

/-! ## What the call computes, from its arrays -/

/-- Tile `k`'s first layer before its normalisation. -/
def zTile (cat : S16384x256.Idx → Elt F .f32) (gen : S16384x32.Idx → Elt F .bf16) (wA : S256x256.Idx → Elt F .f32) (wB : S256x32.Idx → Elt F .f32) (b0 : S1x256.Idx → Elt F .f32) (k : Fin 2) : Vec F S8192x256 .f32 :=
  k2_pay3 (tileRows k cat) wA (tileRows k gen) wB b0

/-- Two tiles of 8192 rows, one under the other. -/
def stack (z : Fin 2 → Vec F S8192x256 .f32) : Vec F S16384x256 .f32 := fun y =>
  z ⟨(y 0).val / 8192, by have : (y 0).val < 16384 := (y 0).isLt; omega⟩ (ix2 ⟨(y 0).val % 8192, Nat.mod_lt _ (by decide)⟩ (y 1))

/-- The columns' sums after tile 0, and after both. -/
def sumA (cat : S16384x256.Idx → Elt F .f32) (gen : S16384x32.Idx → Elt F .bf16) (wA : S256x256.Idx → Elt F .f32) (wB : S256x32.Idx → Elt F .f32) (b0 : S1x256.Idx → Elt F .f32) : Vec F S1x256 .f32 :=
  k2_pay7 (tileRows 0 cat) wA (tileRows 0 gen) wB b0 (k2_pay5 (F := F))
def sumB (cat : S16384x256.Idx → Elt F .f32) (gen : S16384x32.Idx → Elt F .bf16) (wA : S256x256.Idx → Elt F .f32) (wB : S256x32.Idx → Elt F .f32) (b0 : S1x256.Idx → Elt F .f32) : Vec F S1x256 .f32 :=
  k2_pay7 (tileRows 1 cat) wA (tileRows 1 gen) wB b0 (sumA cat gen wA wB b0)
/-- The columns' sums of squares after tile 0, and after both. -/
def sqA (cat : S16384x256.Idx → Elt F .f32) (gen : S16384x32.Idx → Elt F .bf16) (wA : S256x256.Idx → Elt F .f32) (wB : S256x32.Idx → Elt F .f32) (b0 : S1x256.Idx → Elt F .f32) : Vec F S1x256 .f32 :=
  k2_pay1 (zTile cat gen wA wB b0 0) (k2_pay6 (F := F))
def sqB (cat : S16384x256.Idx → Elt F .f32) (gen : S16384x32.Idx → Elt F .bf16) (wA : S256x256.Idx → Elt F .f32) (wB : S256x32.Idx → Elt F .f32) (b0 : S1x256.Idx → Elt F .f32) : Vec F S1x256 .f32 :=
  k2_pay1 (zTile cat gen wA wB b0 1) (sqA cat gen wA wB b0)

/-- The call's result. -/
def mlpAll (cat : S16384x256.Idx → Elt F .f32) (gen : S16384x32.Idx → Elt F .bf16) (wA : S256x256.Idx → Elt F .f32) (wB : S256x32.Idx → Elt F .f32) (b0 : S1x256.Idx → Elt F .f32) (g0 : S1x256.Idx → Elt F .f32) (e0 : S1x256.Idx → Elt F .f32) (w1 : S128x256.Idx → Elt F .f32) (b1 : S1x128.Idx → Elt F .f32) (g1 : S1x128.Idx → Elt F .f32) (e1 : S1x128.Idx → Elt F .f32) (w2 : S64x128.Idx → Elt F .f32) (b2 : S1x64.Idx → Elt F .f32) (g2 : S1x64.Idx → Elt F .f32) (e2 : S1x64.Idx → Elt F .f32) (wp : S1x64.Idx → Elt F .f32) (bp : S1x1.Idx → Elt F .f32) : FVec F S1x1x16384 .f32 :=
  mlpOut (stack (zTile cat gen wA wB b0)) (sumB cat gen wA wB b0) (sqB cat gen wA wB b0) g0 e0 w1 b1 g1 e1 w2 b2 g2 e2 wp bp

/-- Storing tile 0's rows and then tile 1's leaves the two tiles, whatever was there. -/
theorem setRows_stack (z : Fin 2 → Vec F S8192x256 .f32) (X : Vec F S16384x256 .f32) : setRows 8192 (z 1) (setRows 0 (z 0) X) = stack z := by
  funext y
  have hy : (y 0).val < 16384 := (y 0).isLt
  have key (k k' : Fin 2) (r r' : Fin 8192) (j : Fin 256) (h1 : k = k') (h2 : r = r') : z k (ix2 r j) = z k' (ix2 r' j) := by rw [h1, h2]
  by_cases h : (y 0).val < 8192
  · have e : setRows 8192 (z 1) (setRows 0 (z 0) X) y = z 0 (ix2 ⟨(y 0).val - 0, by omega⟩ (y 1)) := by
      unfold setRows
      rw [dif_neg (by omega), dif_pos (by omega)]
    rw [e]
    exact key _ _ _ _ _ (Fin.ext (by show 0 = (y 0).val / 8192; omega)) (Fin.ext (by show (y 0).val - 0 = (y 0).val % 8192; omega))
  · have e : setRows 8192 (z 1) (setRows 0 (z 0) X) y = z 1 (ix2 ⟨(y 0).val - 8192, by omega⟩ (y 1)) := by
      unfold setRows
      rw [dif_pos (by omega)]
    rw [e]
    exact key _ _ _ _ _ (Fin.ext (by show 1 = (y 0).val / 8192; omega)) (Fin.ext (by show (y 0).val - 8192 = (y 0).val % 8192; omega))

/-! ## The proof data -/

variable (A : (w : Fin 18) → (Pipeline.arrRef spec2 w).ty.Contents (Elt F))

/-- Window `w`'s block at point `t`. -/
abbrev iblk2 (w : Fin 18) (t : Fin cfg2.N) : ((cfg2.win w).xblock (cfg2.grid.coords t)).Idx → Elt F (cfg2.win w).elt :=
  ((cfg2.win w).blk t).view.read (Elt F) (A w)

/-- The scoped buffers this call does not use: the genre call's. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- Between the points: the scratch holding what the tiles so far left. -/
def mid (c : Dev nD) (Z : Vec F S16384x256 .f32 → Vec F S16384x256 .f32) (s ss : Vec F S1x256 .f32) : sProp 𝕄 :=
  iprop(others c ∗ (∃ X, owns (c : Thread nD τ) (Memref.whole cc2_scratch0) fullShare (Z X)) ∗ owns (c : Thread nD τ) (Memref.whole cc2_scratch1) fullShare s
    ∗ owns (c : Thread nD τ) (Memref.whole cc2_scratch2) fullShare ss)

theorem own_any (c : Dev nD) (b : Ref sig .tc) : iprop(∃ f : Buf (Elt F) ((c : Thread nD τ).loc b), ((c : Thread nD τ).loc b) ↦{fullShare} f)
    ⊢ (iprop(∃ X, owns (c : Thread nD τ) (Memref.whole b) fullShare X) : sProp 𝕄) := by
  iintro ⟨%f, H⟩
  iexists f
  rw [owns_whole_eq]
  iexists f
  isplitr
  · ipureintro; rfl
  iexact H

theorem any_own (c : Dev nD) (b : Ref sig .tc) (X : b.ty.Contents (Elt F)) : (owns (c : Thread nD τ) (Memref.whole b) fullShare X : sProp 𝕄)
    ⊢ iprop(∃ f : Buf (Elt F) ((c : Thread nD τ).loc b), ((c : Thread nD τ).loc b) ↦{fullShare} f) := by
  rw [owns_whole_eq]
  iintro ⟨%f, -, H⟩
  iexists f
  iexact H

theorem rest_in (c : Dev nD) : (Pipeline.scopedRest (Ix := HIx 1) (Name := ℕ) (U := UU) (Lvl := ℕ) (Val := Elt F) spec2 c : sProp 𝕄)
    ⊢ iprop(others c ∗ (∃ X, owns (c : Thread nD τ) (Memref.whole cc2_scratch0) fullShare X) ∗ (∃ X, owns (c : Thread nD τ) (Memref.whole cc2_scratch1) fullShare X)
      ∗ (∃ X, owns (c : Thread nD τ) (Memref.whole cc2_scratch2) fullShare X)) := by
  rw [scopedRest2_eq]
  unfold others
  iintro ⟨H1, H2, H3, H4, H5, H6, K1, K2, K3⟩
  ihave K1 := (own_any c cc2_scratch0) $$ K1
  ihave K2 := (own_any c cc2_scratch1) $$ K2
  ihave K3 := (own_any c cc2_scratch2) $$ K3
  isplitl [H1 H2 H3 H4 H5 H6]
  · isplitl [H1]; · iexact H1
    isplitl [H2]; · iexact H2
    isplitl [H3]; · iexact H3
    isplitl [H4]; · iexact H4
    isplitl [H5]; · iexact H5
    iexact H6
  isplitl [K1]; · iexact K1
  isplitl [K2]; · iexact K2
  iexact K3

theorem rest_out (c : Dev nD) (X : Vec F S16384x256 .f32) (s ss : Vec F S1x256 .f32) :
    iprop(others c ∗ owns (c : Thread nD τ) (Memref.whole cc2_scratch0) fullShare X ∗ owns (c : Thread nD τ) (Memref.whole cc2_scratch1) fullShare s
      ∗ owns (c : Thread nD τ) (Memref.whole cc2_scratch2) fullShare ss)
    ⊢ (Pipeline.scopedRest (Ix := HIx 1) (Name := ℕ) (U := UU) (Lvl := ℕ) (Val := Elt F) spec2 c : sProp 𝕄) := by
  rw [scopedRest2_eq]
  unfold others
  iintro ⟨⟨H1, H2, H3, H4, H5, H6⟩, K1, K2, K3⟩
  ihave K1 := (any_own c cc2_scratch0 X) $$ K1
  ihave K2 := (any_own c cc2_scratch1 s) $$ K2
  ihave K3 := (any_own c cc2_scratch2 ss) $$ K3
  isplitl [H1]; · iexact H1
  isplitl [H2]; · iexact H2
  isplitl [H3]; · iexact H3
  isplitl [H4]; · iexact H4
  isplitl [H5]; · iexact H5
  isplitl [H6]; · iexact H6
  isplitl [K1]; · iexact K1
  isplitl [K2]; · iexact K2
  iexact K3

/-- The call's proof data, entered with its arrays at `A`. -/
def dat2 (c : Dev nD) : Dat τ (Elt F) (HIx 1) ℕ UU ℕ cfg2 c where
  A w := A w
  after w t := match w with
    | ⟨0, _⟩ => iblk2 A 0 t
    | ⟨1, _⟩ => iblk2 A 1 t
    | ⟨2, _⟩ => iblk2 A 2 t
    | ⟨3, _⟩ => iblk2 A 3 t
    | ⟨4, _⟩ => iblk2 A 4 t
    | ⟨5, _⟩ => iblk2 A 5 t
    | ⟨6, _⟩ => iblk2 A 6 t
    | ⟨7, _⟩ => iblk2 A 7 t
    | ⟨8, _⟩ => iblk2 A 8 t
    | ⟨9, _⟩ => iblk2 A 9 t
    | ⟨10, _⟩ => iblk2 A 10 t
    | ⟨11, _⟩ => iblk2 A 11 t
    | ⟨12, _⟩ => iblk2 A 12 t
    | ⟨13, _⟩ => iblk2 A 13 t
    | ⟨14, _⟩ => iblk2 A 14 t
    | ⟨15, _⟩ => iblk2 A 15 t
    | ⟨16, _⟩ => iblk2 A 16 t
    | ⟨17, _⟩ => mlpAll (A 0) (A 1) (A 2) (A 3) (A 4) (A 5) (A 6) (A 7) (A 8) (A 9) (A 10) (A 11) (A 12) (A 13) (A 14) (A 15) (A 16)
    | ⟨n + 18, h⟩ => (Nat.not_lt_of_le (Nat.le_add_left 18 n) h).elim
  Φ t := match t.val with
    | 0 => Pipeline.scopedRest (Ix := HIx 1) (Name := ℕ) (U := UU) (Lvl := ℕ) (Val := Elt F) spec2 c
    | 1 => mid c (setRows 0 (zTile (A 0) (A 1) (A 2) (A 3) (A 4) 0)) (sumA (A 0) (A 1) (A 2) (A 3) (A 4)) (sqA (A 0) (A 1) (A 2) (A 3) (A 4))
    | 2 => mid c (fun _ => stack (zTile (A 0) (A 1) (A 2) (A 3) (A 4))) (sumB (A 0) (A 1) (A 2) (A 3) (A 4)) (sqB (A 0) (A 1) (A 2) (A 3) (A 4))
    | _ => Pipeline.scopedRest (Ix := HIx 1) (Name := ℕ) (U := UU) (Lvl := ℕ) (Val := Elt F) spec2 c
  q _ := fullShare
  owed _ := 0

theorem before2_0 (c : Dev nD) (t : Fin cfg2.N) (d) : (dat2 A c).before 0 t d = iblk2 A 0 t :=
  ((dat2 A c).before_in_eq_fetched 0 rfl (fun _ => rfl) (fun _ _ _ => rfl) (fun _ => rfl) t d).trans rfl
theorem before2_1 (c : Dev nD) (t : Fin cfg2.N) (d) : (dat2 A c).before 1 t d = iblk2 A 1 t :=
  ((dat2 A c).before_in_eq_fetched 1 rfl (fun _ => rfl) (fun _ _ _ => rfl) (fun _ => rfl) t d).trans rfl
theorem before2_2 (c : Dev nD) (t : Fin cfg2.N) (d) : (dat2 A c).before 2 t d = iblk2 A 2 t :=
  ((dat2 A c).before_in_eq_fetched 2 rfl (fun _ => rfl) (fun _ _ _ => rfl) (fun _ => rfl) t d).trans rfl
theorem before2_3 (c : Dev nD) (t : Fin cfg2.N) (d) : (dat2 A c).before 3 t d = iblk2 A 3 t :=
  ((dat2 A c).before_in_eq_fetched 3 rfl (fun _ => rfl) (fun _ _ _ => rfl) (fun _ => rfl) t d).trans rfl
theorem before2_4 (c : Dev nD) (t : Fin cfg2.N) (d) : (dat2 A c).before 4 t d = iblk2 A 4 t :=
  ((dat2 A c).before_in_eq_fetched 4 rfl (fun _ => rfl) (fun _ _ _ => rfl) (fun _ => rfl) t d).trans rfl
theorem before2_5 (c : Dev nD) (t : Fin cfg2.N) (d) : (dat2 A c).before 5 t d = iblk2 A 5 t :=
  ((dat2 A c).before_in_eq_fetched 5 rfl (fun _ => rfl) (fun _ _ _ => rfl) (fun _ => rfl) t d).trans rfl
theorem before2_6 (c : Dev nD) (t : Fin cfg2.N) (d) : (dat2 A c).before 6 t d = iblk2 A 6 t :=
  ((dat2 A c).before_in_eq_fetched 6 rfl (fun _ => rfl) (fun _ _ _ => rfl) (fun _ => rfl) t d).trans rfl
theorem before2_7 (c : Dev nD) (t : Fin cfg2.N) (d) : (dat2 A c).before 7 t d = iblk2 A 7 t :=
  ((dat2 A c).before_in_eq_fetched 7 rfl (fun _ => rfl) (fun _ _ _ => rfl) (fun _ => rfl) t d).trans rfl
theorem before2_8 (c : Dev nD) (t : Fin cfg2.N) (d) : (dat2 A c).before 8 t d = iblk2 A 8 t :=
  ((dat2 A c).before_in_eq_fetched 8 rfl (fun _ => rfl) (fun _ _ _ => rfl) (fun _ => rfl) t d).trans rfl
theorem before2_9 (c : Dev nD) (t : Fin cfg2.N) (d) : (dat2 A c).before 9 t d = iblk2 A 9 t :=
  ((dat2 A c).before_in_eq_fetched 9 rfl (fun _ => rfl) (fun _ _ _ => rfl) (fun _ => rfl) t d).trans rfl
theorem before2_10 (c : Dev nD) (t : Fin cfg2.N) (d) : (dat2 A c).before 10 t d = iblk2 A 10 t :=
  ((dat2 A c).before_in_eq_fetched 10 rfl (fun _ => rfl) (fun _ _ _ => rfl) (fun _ => rfl) t d).trans rfl
theorem before2_11 (c : Dev nD) (t : Fin cfg2.N) (d) : (dat2 A c).before 11 t d = iblk2 A 11 t :=
  ((dat2 A c).before_in_eq_fetched 11 rfl (fun _ => rfl) (fun _ _ _ => rfl) (fun _ => rfl) t d).trans rfl
theorem before2_12 (c : Dev nD) (t : Fin cfg2.N) (d) : (dat2 A c).before 12 t d = iblk2 A 12 t :=
  ((dat2 A c).before_in_eq_fetched 12 rfl (fun _ => rfl) (fun _ _ _ => rfl) (fun _ => rfl) t d).trans rfl
theorem before2_13 (c : Dev nD) (t : Fin cfg2.N) (d) : (dat2 A c).before 13 t d = iblk2 A 13 t :=
  ((dat2 A c).before_in_eq_fetched 13 rfl (fun _ => rfl) (fun _ _ _ => rfl) (fun _ => rfl) t d).trans rfl
theorem before2_14 (c : Dev nD) (t : Fin cfg2.N) (d) : (dat2 A c).before 14 t d = iblk2 A 14 t :=
  ((dat2 A c).before_in_eq_fetched 14 rfl (fun _ => rfl) (fun _ _ _ => rfl) (fun _ => rfl) t d).trans rfl
theorem before2_15 (c : Dev nD) (t : Fin cfg2.N) (d) : (dat2 A c).before 15 t d = iblk2 A 15 t :=
  ((dat2 A c).before_in_eq_fetched 15 rfl (fun _ => rfl) (fun _ _ _ => rfl) (fun _ => rfl) t d).trans rfl
theorem before2_16 (c : Dev nD) (t : Fin cfg2.N) (d) : (dat2 A c).before 16 t d = iblk2 A 16 t :=
  ((dat2 A c).before_in_eq_fetched 16 rfl (fun _ => rfl) (fun _ _ _ => rfl) (fun _ => rfl) t d).trans rfl

theorem iblk2_0_at0 : iblk2 A 0 t2_0 = tileRows 0 (A 0) := by
  funext y
  refine congrArg (A 0) (funext fun a => Fin.ext ?_)
  fin_cases a
  · show win2_0.index t2_0 0 * 8192 + 1 * (y 0).val = 0 * 8192 + (y 0).val
    rw [show win2_0.index t2_0 0 = 0 by decide]; omega
  · show win2_0.index t2_0 1 * 256 + 1 * (y 1).val = (y 1).val
    rw [show win2_0.index t2_0 1 = 0 by decide]; omega

theorem iblk2_0_at1 : iblk2 A 0 t2_1 = tileRows 1 (A 0) := by
  funext y
  refine congrArg (A 0) (funext fun a => Fin.ext ?_)
  fin_cases a
  · show win2_0.index t2_1 0 * 8192 + 1 * (y 0).val = 1 * 8192 + (y 0).val
    rw [show win2_0.index t2_1 0 = 1 by decide]; omega
  · show win2_0.index t2_1 1 * 256 + 1 * (y 1).val = (y 1).val
    rw [show win2_0.index t2_1 1 = 0 by decide]; omega

theorem iblk2_1_at0 : iblk2 A 1 t2_0 = tileRows 0 (A 1) := by
  funext y
  refine congrArg (A 1) (funext fun a => Fin.ext ?_)
  fin_cases a
  · show win2_1.index t2_0 0 * 8192 + 1 * (y 0).val = 0 * 8192 + (y 0).val
    rw [show win2_1.index t2_0 0 = 0 by decide]; omega
  · show win2_1.index t2_0 1 * 32 + 1 * (y 1).val = (y 1).val
    rw [show win2_1.index t2_0 1 = 0 by decide]; omega

theorem iblk2_1_at1 : iblk2 A 1 t2_1 = tileRows 1 (A 1) := by
  funext y
  refine congrArg (A 1) (funext fun a => Fin.ext ?_)
  fin_cases a
  · show win2_1.index t2_1 0 * 8192 + 1 * (y 0).val = 1 * 8192 + (y 0).val
    rw [show win2_1.index t2_1 0 = 1 by decide]; omega
  · show win2_1.index t2_1 1 * 32 + 1 * (y 1).val = (y 1).val
    rw [show win2_1.index t2_1 1 = 0 by decide]; omega

theorem iblk2_2_eq (t : Fin cfg2.N) : iblk2 A 2 t = A 2 := by
  funext y
  refine congrArg (A 2) (funext fun a => Fin.ext ?_)
  fin_cases a
  · show 0 * 256 + 1 * (y 0).val = (y 0).val; omega
  · show 0 * 256 + 1 * (y 1).val = (y 1).val; omega

theorem iblk2_3_eq (t : Fin cfg2.N) : iblk2 A 3 t = A 3 := by
  funext y
  refine congrArg (A 3) (funext fun a => Fin.ext ?_)
  fin_cases a
  · show 0 * 256 + 1 * (y 0).val = (y 0).val; omega
  · show 0 * 32 + 1 * (y 1).val = (y 1).val; omega

theorem iblk2_4_eq (t : Fin cfg2.N) : iblk2 A 4 t = A 4 := by
  funext y
  refine congrArg (A 4) (funext fun a => Fin.ext ?_)
  fin_cases a
  · show 0 * 1 + 1 * (y 0).val = (y 0).val; omega
  · show 0 * 256 + 1 * (y 1).val = (y 1).val; omega

theorem iblk2_5_eq (t : Fin cfg2.N) : iblk2 A 5 t = A 5 := by
  funext y
  refine congrArg (A 5) (funext fun a => Fin.ext ?_)
  fin_cases a
  · show 0 * 1 + 1 * (y 0).val = (y 0).val; omega
  · show 0 * 256 + 1 * (y 1).val = (y 1).val; omega

theorem iblk2_6_eq (t : Fin cfg2.N) : iblk2 A 6 t = A 6 := by
  funext y
  refine congrArg (A 6) (funext fun a => Fin.ext ?_)
  fin_cases a
  · show 0 * 1 + 1 * (y 0).val = (y 0).val; omega
  · show 0 * 256 + 1 * (y 1).val = (y 1).val; omega

theorem iblk2_7_eq (t : Fin cfg2.N) : iblk2 A 7 t = A 7 := by
  funext y
  refine congrArg (A 7) (funext fun a => Fin.ext ?_)
  fin_cases a
  · show 0 * 128 + 1 * (y 0).val = (y 0).val; omega
  · show 0 * 256 + 1 * (y 1).val = (y 1).val; omega

theorem iblk2_8_eq (t : Fin cfg2.N) : iblk2 A 8 t = A 8 := by
  funext y
  refine congrArg (A 8) (funext fun a => Fin.ext ?_)
  fin_cases a
  · show 0 * 1 + 1 * (y 0).val = (y 0).val; omega
  · show 0 * 128 + 1 * (y 1).val = (y 1).val; omega

theorem iblk2_9_eq (t : Fin cfg2.N) : iblk2 A 9 t = A 9 := by
  funext y
  refine congrArg (A 9) (funext fun a => Fin.ext ?_)
  fin_cases a
  · show 0 * 1 + 1 * (y 0).val = (y 0).val; omega
  · show 0 * 128 + 1 * (y 1).val = (y 1).val; omega

theorem iblk2_10_eq (t : Fin cfg2.N) : iblk2 A 10 t = A 10 := by
  funext y
  refine congrArg (A 10) (funext fun a => Fin.ext ?_)
  fin_cases a
  · show 0 * 1 + 1 * (y 0).val = (y 0).val; omega
  · show 0 * 128 + 1 * (y 1).val = (y 1).val; omega

theorem iblk2_11_eq (t : Fin cfg2.N) : iblk2 A 11 t = A 11 := by
  funext y
  refine congrArg (A 11) (funext fun a => Fin.ext ?_)
  fin_cases a
  · show 0 * 64 + 1 * (y 0).val = (y 0).val; omega
  · show 0 * 128 + 1 * (y 1).val = (y 1).val; omega

theorem iblk2_12_eq (t : Fin cfg2.N) : iblk2 A 12 t = A 12 := by
  funext y
  refine congrArg (A 12) (funext fun a => Fin.ext ?_)
  fin_cases a
  · show 0 * 1 + 1 * (y 0).val = (y 0).val; omega
  · show 0 * 64 + 1 * (y 1).val = (y 1).val; omega

theorem iblk2_13_eq (t : Fin cfg2.N) : iblk2 A 13 t = A 13 := by
  funext y
  refine congrArg (A 13) (funext fun a => Fin.ext ?_)
  fin_cases a
  · show 0 * 1 + 1 * (y 0).val = (y 0).val; omega
  · show 0 * 64 + 1 * (y 1).val = (y 1).val; omega

theorem iblk2_14_eq (t : Fin cfg2.N) : iblk2 A 14 t = A 14 := by
  funext y
  refine congrArg (A 14) (funext fun a => Fin.ext ?_)
  fin_cases a
  · show 0 * 1 + 1 * (y 0).val = (y 0).val; omega
  · show 0 * 64 + 1 * (y 1).val = (y 1).val; omega

theorem iblk2_15_eq (t : Fin cfg2.N) : iblk2 A 15 t = A 15 := by
  funext y
  refine congrArg (A 15) (funext fun a => Fin.ext ?_)
  fin_cases a
  · show 0 * 1 + 1 * (y 0).val = (y 0).val; omega
  · show 0 * 64 + 1 * (y 1).val = (y 1).val; omega

theorem iblk2_16_eq (t : Fin cfg2.N) : iblk2 A 16 t = A 16 := by
  funext y
  refine congrArg (A 16) (funext fun a => Fin.ext ?_)
  fin_cases a
  · show 0 * 1 + 1 * (y 0).val = (y 0).val; omega
  · show 0 * 1 + 1 * (y 1).val = (y 1).val; omega

/-! ## The body's obligation at each point -/

theorem body2_at0 (c : Dev nD) : iprop((dat2 A c).Φ t2_0.castSucc ∗ (dat2 A c).owesAt none t2_0.castSucc
      ∗ bigSep Finset.univ fun w : Fin cfg2.W => iprop(∃ d, owns (c : Thread nD τ) ((cfg2.win w).stage (cfg2.slots t2_0 w)) fullShare ((dat2 A c).before w t2_0 d)))
    ⊢ wp frame (wpE (defs₀ (F := F)) 𝒱₀ c none) Set.univ (defs₀ .tc cfg2.body (cfg2.bodyArgs t2_0 (cfg2.slots t2_0))) fun _ =>
      iprop((dat2 A c).Φ t2_0.succ ∗ (dat2 A c).owesAt none t2_0.succ
        ∗ bigSep Finset.univ fun w : Fin cfg2.W => match cfg2.idle w (cfg2.grid.coords t2_0) with
          | true => match (cfg2.win w).flush t2_0 with
            | false => iprop(∃ d, owns (c : Thread nD τ) ((cfg2.win w).stage (cfg2.slots t2_0 w)) fullShare ((dat2 A c).before w t2_0 d))
            | true => owns (c : Thread nD τ) ((cfg2.win w).stage (cfg2.slots t2_0 w)) fullShare ((dat2 A c).after w t2_0)
          | false => owns (c : Thread nD τ) ((cfg2.win w).stage (cfg2.slots t2_0 w)) fullShare ((dat2 A c).after w t2_0)) := by
  rw [bigSep_W2, bigSep_W2]
  rw [show (dat2 A c).owesAt none t2_0.succ = (dat2 A c).owesAt none t2_0.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  ihave H0 := (Entails.of_eq (congrArg (fun X => owns (c : Thread nD τ) ((cfg2.win 0).stage (cfg2.slots t2_0 0)) fullShare X) (before2_0 A c t2_0 d0))) $$ H0
  ihave H1 := (Entails.of_eq (congrArg (fun X => owns (c : Thread nD τ) ((cfg2.win 1).stage (cfg2.slots t2_0 1)) fullShare X) (before2_1 A c t2_0 d1))) $$ H1
  ihave H2 := (Entails.of_eq (congrArg (fun X => owns (c : Thread nD τ) ((cfg2.win 2).stage (cfg2.slots t2_0 2)) fullShare X) (before2_2 A c t2_0 d2))) $$ H2
  ihave H3 := (Entails.of_eq (congrArg (fun X => owns (c : Thread nD τ) ((cfg2.win 3).stage (cfg2.slots t2_0 3)) fullShare X) (before2_3 A c t2_0 d3))) $$ H3
  ihave H4 := (Entails.of_eq (congrArg (fun X => owns (c : Thread nD τ) ((cfg2.win 4).stage (cfg2.slots t2_0 4)) fullShare X) (before2_4 A c t2_0 d4))) $$ H4
  ihave H5 := (Entails.of_eq (congrArg (fun X => owns (c : Thread nD τ) ((cfg2.win 5).stage (cfg2.slots t2_0 5)) fullShare X) (before2_5 A c t2_0 d5))) $$ H5
  ihave H6 := (Entails.of_eq (congrArg (fun X => owns (c : Thread nD τ) ((cfg2.win 6).stage (cfg2.slots t2_0 6)) fullShare X) (before2_6 A c t2_0 d6))) $$ H6
  ihave H7 := (Entails.of_eq (congrArg (fun X => owns (c : Thread nD τ) ((cfg2.win 7).stage (cfg2.slots t2_0 7)) fullShare X) (before2_7 A c t2_0 d7))) $$ H7
  ihave H8 := (Entails.of_eq (congrArg (fun X => owns (c : Thread nD τ) ((cfg2.win 8).stage (cfg2.slots t2_0 8)) fullShare X) (before2_8 A c t2_0 d8))) $$ H8
  ihave H9 := (Entails.of_eq (congrArg (fun X => owns (c : Thread nD τ) ((cfg2.win 9).stage (cfg2.slots t2_0 9)) fullShare X) (before2_9 A c t2_0 d9))) $$ H9
  ihave H10 := (Entails.of_eq (congrArg (fun X => owns (c : Thread nD τ) ((cfg2.win 10).stage (cfg2.slots t2_0 10)) fullShare X) (before2_10 A c t2_0 d10))) $$ H10
  ihave H11 := (Entails.of_eq (congrArg (fun X => owns (c : Thread nD τ) ((cfg2.win 11).stage (cfg2.slots t2_0 11)) fullShare X) (before2_11 A c t2_0 d11))) $$ H11
  ihave H12 := (Entails.of_eq (congrArg (fun X => owns (c : Thread nD τ) ((cfg2.win 12).stage (cfg2.slots t2_0 12)) fullShare X) (before2_12 A c t2_0 d12))) $$ H12
  ihave H13 := (Entails.of_eq (congrArg (fun X => owns (c : Thread nD τ) ((cfg2.win 13).stage (cfg2.slots t2_0 13)) fullShare X) (before2_13 A c t2_0 d13))) $$ H13
  ihave H14 := (Entails.of_eq (congrArg (fun X => owns (c : Thread nD τ) ((cfg2.win 14).stage (cfg2.slots t2_0 14)) fullShare X) (before2_14 A c t2_0 d14))) $$ H14
  ihave H15 := (Entails.of_eq (congrArg (fun X => owns (c : Thread nD τ) ((cfg2.win 15).stage (cfg2.slots t2_0 15)) fullShare X) (before2_15 A c t2_0 d15))) $$ H15
  ihave H16 := (Entails.of_eq (congrArg (fun X => owns (c : Thread nD τ) ((cfg2.win 16).stage (cfg2.slots t2_0 16)) fullShare X) (before2_16 A c t2_0 d16))) $$ H16
  ihave HΦ := (show (dat2 A c).Φ t2_0.castSucc ⊢ _ from rest_in c) $$ HΦ
  icases HΦ with ⟨Ho, ⟨%Z, K0⟩, ⟨%s, K1⟩, ⟨%ss, K2⟩⟩
  iapply (show _ ⊢ wp frame (wpE (defs₀ (F := F)) 𝒱₀ c none) Set.univ (bodyAt2 t2_0) _ from mlp_first c (grid2.coords t2_0) _ _ _ _ _ _ _ _ _ _ _ _ _ _ _ _ _ _ _ _ _ _ _ _ _ _ _ _ _ _ _ _ _ _ _ _ _ _ _ _ _ _ (by decide) (by decide) (by decide) 0 (by decide) (iblk2 A 0 t2_0) (iblk2 A 1 t2_0) (iblk2 A 2 t2_0) (iblk2 A 3 t2_0) (iblk2 A 4 t2_0) Z s ss Set.univ _)
  isplitl [H0]
  · iexact H0
  isplitl [H1]
  · iexact H1
  isplitl [H2]
  · iexact H2
  isplitl [H3]
  · iexact H3
  isplitl [H4]
  · iexact H4
  isplitl [K0]
  · iexact K0
  isplitl [K1]
  · iexact K1
  isplitl [K2]
  · iexact K2
  iintro ⟨H0, H1, H2, H3, H4, K0, K1, K2⟩
  isplitl [Ho K0 K1 K2]
  · iapply (show iprop(others c ∗ (∃ X, owns (c : Thread nD τ) (Memref.whole cc2_scratch0) fullShare (setRows 0 (zTile (A 0) (A 1) (A 2) (A 3) (A 4) 0) X)) ∗ owns (c : Thread nD τ) (Memref.whole cc2_scratch1) fullShare (sumA (A 0) (A 1) (A 2) (A 3) (A 4)) ∗ owns (c : Thread nD τ) (Memref.whole cc2_scratch2) fullShare (sqA (A 0) (A 1) (A 2) (A 3) (A 4))) ⊢ (dat2 A c).Φ t2_0.succ from Entails.rfl)
    rw [iblk2_0_at0, iblk2_1_at0, iblk2_2_eq, iblk2_3_eq, iblk2_4_eq]
    isplitl [Ho]
    · iexact Ho
    isplitl [K0]
    · iexists Z
      iexact K0
    isplitl [K1]
    · iexact K1
    iexact K2
  isplitl [Howes]
  · iexact Howes
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  rw [show cfg2.idle 17 (cfg2.grid.coords t2_0) = true by decide, show (cfg2.win 17).flush t2_0 = false by decide]
  iexists d17
  iexact H17

theorem body2_at1 (c : Dev nD) : iprop((dat2 A c).Φ t2_1.castSucc ∗ (dat2 A c).owesAt none t2_1.castSucc
      ∗ bigSep Finset.univ fun w : Fin cfg2.W => iprop(∃ d, owns (c : Thread nD τ) ((cfg2.win w).stage (cfg2.slots t2_1 w)) fullShare ((dat2 A c).before w t2_1 d)))
    ⊢ wp frame (wpE (defs₀ (F := F)) 𝒱₀ c none) Set.univ (defs₀ .tc cfg2.body (cfg2.bodyArgs t2_1 (cfg2.slots t2_1))) fun _ =>
      iprop((dat2 A c).Φ t2_1.succ ∗ (dat2 A c).owesAt none t2_1.succ
        ∗ bigSep Finset.univ fun w : Fin cfg2.W => match cfg2.idle w (cfg2.grid.coords t2_1) with
          | true => match (cfg2.win w).flush t2_1 with
            | false => iprop(∃ d, owns (c : Thread nD τ) ((cfg2.win w).stage (cfg2.slots t2_1 w)) fullShare ((dat2 A c).before w t2_1 d))
            | true => owns (c : Thread nD τ) ((cfg2.win w).stage (cfg2.slots t2_1 w)) fullShare ((dat2 A c).after w t2_1)
          | false => owns (c : Thread nD τ) ((cfg2.win w).stage (cfg2.slots t2_1 w)) fullShare ((dat2 A c).after w t2_1)) := by
  rw [bigSep_W2, bigSep_W2]
  rw [show (dat2 A c).owesAt none t2_1.succ = (dat2 A c).owesAt none t2_1.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  ihave H0 := (Entails.of_eq (congrArg (fun X => owns (c : Thread nD τ) ((cfg2.win 0).stage (cfg2.slots t2_1 0)) fullShare X) (before2_0 A c t2_1 d0))) $$ H0
  ihave H1 := (Entails.of_eq (congrArg (fun X => owns (c : Thread nD τ) ((cfg2.win 1).stage (cfg2.slots t2_1 1)) fullShare X) (before2_1 A c t2_1 d1))) $$ H1
  ihave H2 := (Entails.of_eq (congrArg (fun X => owns (c : Thread nD τ) ((cfg2.win 2).stage (cfg2.slots t2_1 2)) fullShare X) (before2_2 A c t2_1 d2))) $$ H2
  ihave H3 := (Entails.of_eq (congrArg (fun X => owns (c : Thread nD τ) ((cfg2.win 3).stage (cfg2.slots t2_1 3)) fullShare X) (before2_3 A c t2_1 d3))) $$ H3
  ihave H4 := (Entails.of_eq (congrArg (fun X => owns (c : Thread nD τ) ((cfg2.win 4).stage (cfg2.slots t2_1 4)) fullShare X) (before2_4 A c t2_1 d4))) $$ H4
  ihave H5 := (Entails.of_eq (congrArg (fun X => owns (c : Thread nD τ) ((cfg2.win 5).stage (cfg2.slots t2_1 5)) fullShare X) (before2_5 A c t2_1 d5))) $$ H5
  ihave H6 := (Entails.of_eq (congrArg (fun X => owns (c : Thread nD τ) ((cfg2.win 6).stage (cfg2.slots t2_1 6)) fullShare X) (before2_6 A c t2_1 d6))) $$ H6
  ihave H7 := (Entails.of_eq (congrArg (fun X => owns (c : Thread nD τ) ((cfg2.win 7).stage (cfg2.slots t2_1 7)) fullShare X) (before2_7 A c t2_1 d7))) $$ H7
  ihave H8 := (Entails.of_eq (congrArg (fun X => owns (c : Thread nD τ) ((cfg2.win 8).stage (cfg2.slots t2_1 8)) fullShare X) (before2_8 A c t2_1 d8))) $$ H8
  ihave H9 := (Entails.of_eq (congrArg (fun X => owns (c : Thread nD τ) ((cfg2.win 9).stage (cfg2.slots t2_1 9)) fullShare X) (before2_9 A c t2_1 d9))) $$ H9
  ihave H10 := (Entails.of_eq (congrArg (fun X => owns (c : Thread nD τ) ((cfg2.win 10).stage (cfg2.slots t2_1 10)) fullShare X) (before2_10 A c t2_1 d10))) $$ H10
  ihave H11 := (Entails.of_eq (congrArg (fun X => owns (c : Thread nD τ) ((cfg2.win 11).stage (cfg2.slots t2_1 11)) fullShare X) (before2_11 A c t2_1 d11))) $$ H11
  ihave H12 := (Entails.of_eq (congrArg (fun X => owns (c : Thread nD τ) ((cfg2.win 12).stage (cfg2.slots t2_1 12)) fullShare X) (before2_12 A c t2_1 d12))) $$ H12
  ihave H13 := (Entails.of_eq (congrArg (fun X => owns (c : Thread nD τ) ((cfg2.win 13).stage (cfg2.slots t2_1 13)) fullShare X) (before2_13 A c t2_1 d13))) $$ H13
  ihave H14 := (Entails.of_eq (congrArg (fun X => owns (c : Thread nD τ) ((cfg2.win 14).stage (cfg2.slots t2_1 14)) fullShare X) (before2_14 A c t2_1 d14))) $$ H14
  ihave H15 := (Entails.of_eq (congrArg (fun X => owns (c : Thread nD τ) ((cfg2.win 15).stage (cfg2.slots t2_1 15)) fullShare X) (before2_15 A c t2_1 d15))) $$ H15
  ihave H16 := (Entails.of_eq (congrArg (fun X => owns (c : Thread nD τ) ((cfg2.win 16).stage (cfg2.slots t2_1 16)) fullShare X) (before2_16 A c t2_1 d16))) $$ H16
  ihave HΦ := (show (dat2 A c).Φ t2_1.castSucc ⊢ iprop(others c ∗ (∃ X, owns (c : Thread nD τ) (Memref.whole cc2_scratch0) fullShare (setRows 0 (zTile (A 0) (A 1) (A 2) (A 3) (A 4) 0) X)) ∗ owns (c : Thread nD τ) (Memref.whole cc2_scratch1) fullShare (sumA (A 0) (A 1) (A 2) (A 3) (A 4)) ∗ owns (c : Thread nD τ) (Memref.whole cc2_scratch2) fullShare (sqA (A 0) (A 1) (A 2) (A 3) (A 4))) from Entails.rfl) $$ HΦ
  icases HΦ with ⟨Ho, ⟨%Z, K0⟩, K1, K2⟩
  iapply (show _ ⊢ wp frame (wpE (defs₀ (F := F)) 𝒱₀ c none) Set.univ (bodyAt2 t2_1) _ from mlp_next c (grid2.coords t2_1) _ _ _ _ _ _ _ _ _ _ _ _ _ _ _ _ _ _ _ _ _ _ _ _ _ _ _ _ _ _ _ _ _ _ _ _ _ _ _ _ _ _ (by decide) (by decide) (by decide) 8192 (by decide) (iblk2 A 0 t2_1) (iblk2 A 1 t2_1) (iblk2 A 2 t2_1) (iblk2 A 3 t2_1) (iblk2 A 4 t2_1) (setRows 0 (zTile (A 0) (A 1) (A 2) (A 3) (A 4) 0) Z) (sumA (A 0) (A 1) (A 2) (A 3) (A 4)) (sqA (A 0) (A 1) (A 2) (A 3) (A 4)) Set.univ _)
  isplitl [H0]
  · iexact H0
  isplitl [H1]
  · iexact H1
  isplitl [H2]
  · iexact H2
  isplitl [H3]
  · iexact H3
  isplitl [H4]
  · iexact H4
  isplitl [K0]
  · iexact K0
  isplitl [K1]
  · iexact K1
  isplitl [K2]
  · iexact K2
  iintro ⟨H0, H1, H2, H3, H4, K0, K1, K2⟩
  isplitl [Ho K0 K1 K2]
  · iapply (show iprop(others c ∗ (∃ _X : Vec F S16384x256 .f32, owns (c : Thread nD τ) (Memref.whole cc2_scratch0) fullShare (stack (zTile (A 0) (A 1) (A 2) (A 3) (A 4)))) ∗ owns (c : Thread nD τ) (Memref.whole cc2_scratch1) fullShare (sumB (A 0) (A 1) (A 2) (A 3) (A 4)) ∗ owns (c : Thread nD τ) (Memref.whole cc2_scratch2) fullShare (sqB (A 0) (A 1) (A 2) (A 3) (A 4))) ⊢ (dat2 A c).Φ t2_1.succ from Entails.rfl)
    rw [iblk2_0_at1, iblk2_1_at1, iblk2_2_eq, iblk2_3_eq, iblk2_4_eq]
    isplitl [Ho]
    · iexact Ho
    isplitl [K0]
    · iexists Z
      rw [← setRows_stack (zTile (A 0) (A 1) (A 2) (A 3) (A 4)) Z]
      iexact K0
    isplitl [K1]
    · iexact K1
    iexact K2
  isplitl [Howes]
  · iexact Howes
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  rw [show cfg2.idle 17 (cfg2.grid.coords t2_1) = true by decide, show (cfg2.win 17).flush t2_1 = false by decide]
  iexists d17
  iexact H17

theorem body2_at2 (c : Dev nD) : iprop((dat2 A c).Φ t2_2.castSucc ∗ (dat2 A c).owesAt none t2_2.castSucc
      ∗ bigSep Finset.univ fun w : Fin cfg2.W => iprop(∃ d, owns (c : Thread nD τ) ((cfg2.win w).stage (cfg2.slots t2_2 w)) fullShare ((dat2 A c).before w t2_2 d)))
    ⊢ wp frame (wpE (defs₀ (F := F)) 𝒱₀ c none) Set.univ (defs₀ .tc cfg2.body (cfg2.bodyArgs t2_2 (cfg2.slots t2_2))) fun _ =>
      iprop((dat2 A c).Φ t2_2.succ ∗ (dat2 A c).owesAt none t2_2.succ
        ∗ bigSep Finset.univ fun w : Fin cfg2.W => match cfg2.idle w (cfg2.grid.coords t2_2) with
          | true => match (cfg2.win w).flush t2_2 with
            | false => iprop(∃ d, owns (c : Thread nD τ) ((cfg2.win w).stage (cfg2.slots t2_2 w)) fullShare ((dat2 A c).before w t2_2 d))
            | true => owns (c : Thread nD τ) ((cfg2.win w).stage (cfg2.slots t2_2 w)) fullShare ((dat2 A c).after w t2_2)
          | false => owns (c : Thread nD τ) ((cfg2.win w).stage (cfg2.slots t2_2 w)) fullShare ((dat2 A c).after w t2_2)) := by
  rw [bigSep_W2, bigSep_W2]
  rw [show (dat2 A c).owesAt none t2_2.succ = (dat2 A c).owesAt none t2_2.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  ihave H0 := (Entails.of_eq (congrArg (fun X => owns (c : Thread nD τ) ((cfg2.win 0).stage (cfg2.slots t2_2 0)) fullShare X) (before2_0 A c t2_2 d0))) $$ H0
  ihave H1 := (Entails.of_eq (congrArg (fun X => owns (c : Thread nD τ) ((cfg2.win 1).stage (cfg2.slots t2_2 1)) fullShare X) (before2_1 A c t2_2 d1))) $$ H1
  ihave H2 := (Entails.of_eq (congrArg (fun X => owns (c : Thread nD τ) ((cfg2.win 2).stage (cfg2.slots t2_2 2)) fullShare X) (before2_2 A c t2_2 d2))) $$ H2
  ihave H3 := (Entails.of_eq (congrArg (fun X => owns (c : Thread nD τ) ((cfg2.win 3).stage (cfg2.slots t2_2 3)) fullShare X) (before2_3 A c t2_2 d3))) $$ H3
  ihave H4 := (Entails.of_eq (congrArg (fun X => owns (c : Thread nD τ) ((cfg2.win 4).stage (cfg2.slots t2_2 4)) fullShare X) (before2_4 A c t2_2 d4))) $$ H4
  ihave H5 := (Entails.of_eq (congrArg (fun X => owns (c : Thread nD τ) ((cfg2.win 5).stage (cfg2.slots t2_2 5)) fullShare X) (before2_5 A c t2_2 d5))) $$ H5
  ihave H6 := (Entails.of_eq (congrArg (fun X => owns (c : Thread nD τ) ((cfg2.win 6).stage (cfg2.slots t2_2 6)) fullShare X) (before2_6 A c t2_2 d6))) $$ H6
  ihave H7 := (Entails.of_eq (congrArg (fun X => owns (c : Thread nD τ) ((cfg2.win 7).stage (cfg2.slots t2_2 7)) fullShare X) (before2_7 A c t2_2 d7))) $$ H7
  ihave H8 := (Entails.of_eq (congrArg (fun X => owns (c : Thread nD τ) ((cfg2.win 8).stage (cfg2.slots t2_2 8)) fullShare X) (before2_8 A c t2_2 d8))) $$ H8
  ihave H9 := (Entails.of_eq (congrArg (fun X => owns (c : Thread nD τ) ((cfg2.win 9).stage (cfg2.slots t2_2 9)) fullShare X) (before2_9 A c t2_2 d9))) $$ H9
  ihave H10 := (Entails.of_eq (congrArg (fun X => owns (c : Thread nD τ) ((cfg2.win 10).stage (cfg2.slots t2_2 10)) fullShare X) (before2_10 A c t2_2 d10))) $$ H10
  ihave H11 := (Entails.of_eq (congrArg (fun X => owns (c : Thread nD τ) ((cfg2.win 11).stage (cfg2.slots t2_2 11)) fullShare X) (before2_11 A c t2_2 d11))) $$ H11
  ihave H12 := (Entails.of_eq (congrArg (fun X => owns (c : Thread nD τ) ((cfg2.win 12).stage (cfg2.slots t2_2 12)) fullShare X) (before2_12 A c t2_2 d12))) $$ H12
  ihave H13 := (Entails.of_eq (congrArg (fun X => owns (c : Thread nD τ) ((cfg2.win 13).stage (cfg2.slots t2_2 13)) fullShare X) (before2_13 A c t2_2 d13))) $$ H13
  ihave H14 := (Entails.of_eq (congrArg (fun X => owns (c : Thread nD τ) ((cfg2.win 14).stage (cfg2.slots t2_2 14)) fullShare X) (before2_14 A c t2_2 d14))) $$ H14
  ihave H15 := (Entails.of_eq (congrArg (fun X => owns (c : Thread nD τ) ((cfg2.win 15).stage (cfg2.slots t2_2 15)) fullShare X) (before2_15 A c t2_2 d15))) $$ H15
  ihave H16 := (Entails.of_eq (congrArg (fun X => owns (c : Thread nD τ) ((cfg2.win 16).stage (cfg2.slots t2_2 16)) fullShare X) (before2_16 A c t2_2 d16))) $$ H16
  ihave HΦ := (show (dat2 A c).Φ t2_2.castSucc ⊢ iprop(others c ∗ (∃ _X : Vec F S16384x256 .f32, owns (c : Thread nD τ) (Memref.whole cc2_scratch0) fullShare (stack (zTile (A 0) (A 1) (A 2) (A 3) (A 4)))) ∗ owns (c : Thread nD τ) (Memref.whole cc2_scratch1) fullShare (sumB (A 0) (A 1) (A 2) (A 3) (A 4)) ∗ owns (c : Thread nD τ) (Memref.whole cc2_scratch2) fullShare (sqB (A 0) (A 1) (A 2) (A 3) (A 4))) from Entails.rfl) $$ HΦ
  icases HΦ with ⟨Ho, ⟨%Z, K0⟩, K1, K2⟩
  iapply (show _ ⊢ wp frame (wpE (defs₀ (F := F)) 𝒱₀ c none) Set.univ (bodyAt2 t2_2) _ from mlp_last c (grid2.coords t2_2) _ _ _ _ _ _ _ _ _ _ _ _ _ _ _ _ _ _ _ _ _ _ _ _ _ _ _ _ _ _ _ _ _ _ _ _ _ _ _ _ _ _ (by decide) (by decide) (iblk2 A 5 t2_2) (iblk2 A 6 t2_2) (iblk2 A 7 t2_2) (iblk2 A 8 t2_2) (iblk2 A 9 t2_2) (iblk2 A 10 t2_2) (iblk2 A 11 t2_2) (iblk2 A 12 t2_2) (iblk2 A 13 t2_2) (iblk2 A 14 t2_2) (iblk2 A 15 t2_2) (iblk2 A 16 t2_2) ((dat2 A c).before 17 t2_2 d17) (stack (zTile (A 0) (A 1) (A 2) (A 3) (A 4))) (sumB (A 0) (A 1) (A 2) (A 3) (A 4)) (sqB (A 0) (A 1) (A 2) (A 3) (A 4)) Set.univ _)
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [K0]
  · iexact K0
  isplitl [K1]
  · iexact K1
  isplitl [K2]
  · iexact K2
  iintro ⟨H5, H6, H7, H8, H9, H10, H11, H12, H13, H14, H15, H16, H17, K0, K1, K2⟩
  isplitl [Ho K0 K1 K2]
  · iapply (show _ ⊢ (dat2 A c).Φ t2_2.succ from rest_out c (stack (zTile (A 0) (A 1) (A 2) (A 3) (A 4))) (sumB (A 0) (A 1) (A 2) (A 3) (A 4)) (sqB (A 0) (A 1) (A 2) (A 3) (A 4)))
    isplitl [Ho]
    · iexact Ho
    isplitl [K0]
    · iexact K0
    isplitl [K1]
    · iexact K1
    iexact K2
  isplitl [Howes]
  · iexact Howes
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  rw [iblk2_5_eq, iblk2_6_eq, iblk2_7_eq, iblk2_8_eq, iblk2_9_eq, iblk2_10_eq, iblk2_11_eq, iblk2_12_eq, iblk2_13_eq, iblk2_14_eq, iblk2_15_eq, iblk2_16_eq]
  rw [show cfg2.idle 17 (cfg2.grid.coords t2_2) = false by decide]
  iexact H17

theorem body2 (c : Dev nD) : Pipeline.BodyObligation (dat2 A c) (defs₀ (F := F)) 𝒱₀ none Set.univ := fun t => by
  rcases fin_N2 t with rfl | rfl | rfl
  · exact body2_at0 A c
  · exact body2_at1 A c
  · exact body2_at2 A c

/-! ## The result -/

theorem emb2_17 (t : Fin cfg2.N) (y : S1x1x16384.Idx) : ((cfg2.win 17).blk t).view.emb y = y := by
  refine funext fun a => Fin.ext ?_
  fin_cases a
  · show 0 * 1 + 1 * (y 0).val = (y 0).val; omega
  · show 0 * 1 + 1 * (y 1).val = (y 1).val; omega
  · show 0 * 16384 + 1 * (y 2).val = (y 2).val; omega

theorem result2 (c : Dev nD) : (dat2 A c).arrAt 17 cfg2.N = mlpAll (A 0) (A 1) (A 2) (A 3) (A 4) (A 5) (A 6) (A 7) (A 8) (A 9) (A 10) (A 11) (A 12) (A 13) (A 14) (A 15) (A 16) := by
  refine (dat2 A c).arrAt_eq_of_cover 17 (mlpAll (A 0) (A 1) (A 2) (A 3) (A 4) (A 5) (A 6) (A 7) (A 8) (A 9) (A 10) (A 11) (A 12) (A 13) (A 14) (A 15) (A 16)) (fun t _ => ?_) fun x => ?_
  · funext y
    show mlpAll (A 0) (A 1) (A 2) (A 3) (A 4) (A 5) (A 6) (A 7) (A 8) (A 9) (A 10) (A 11) (A 12) (A 13) (A 14) (A 15) (A 16) y = mlpAll (A 0) (A 1) (A 2) (A 3) (A 4) (A 5) (A 6) (A 7) (A 8) (A 9) (A 10) (A 11) (A 12) (A 13) (A 14) (A 15) (A 16) (((cfg2.win 17).blk t).view.emb y)
    rw [emb2_17]
  · refine ⟨t2_2, (flush2_17 t2_2).mpr rfl, ?_⟩
    have h := ((cfg2.win 17).blk t2_2).view.emb_mem_set x
    rw [emb2_17] at h
    exact h

end Cert.Proof

end
-- ==== Proof.Values.lean ====
/-
  What the arrays hold at each point of the program: after each stretch of host operations, after the SparseCore call
  and after each TensorCore call.
-/
module

public import proofs.«01_k».proof.Proof.ScCall
public import proofs.«01_k».proof.Proof.Mlp
public import Idealize.ShloMosaic.Lib.StableHlo.Run
public import Idealize.ShloMosaic.Lib.Pipeline.RegionArraysS

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]

local notation "𝕄" => MT nD τ sig (HIx 1) (Elt F) ℕ UU ℕ

/-- The host's operations before the SparseCore call: the ids laid out as 128 rows of 128. -/
def ops0 : List (HloOp τ sig (Elt F)) :=
  [StableHlo.reshape main_arg0 main_v0 (rfl : (.i32 : EltTy) = .i32) shapeCasts_S16384_S128x128,
   StableHlo.reshape main_arg1 main_v1 (rfl : (.i32 : EltTy) = .i32) shapeCasts_S16384_S128x128]

/-- Between the SparseCore call and the genre call: the genre table padded with rows of zeros. -/
def ops1 : List (HloOp τ sig (Elt F)) :=
  [StableHlo.nullary main_cst (constant S_ .f32 0x00000000#32),
   StableHlo.unary main_cst main_v3 (broadcastInDim S24x32 ![] bcast_S_S24x32 : (⟨S_, .f32⟩ : BufTy).Contents (Elt F) → (⟨S24x32, .f32⟩ : BufTy).Contents (Elt F)),
   StableHlo.nullary main_c (constantI S_ 32 0#32),
   StableHlo.unary main_c main_v4 (broadcastInDim S1 ![] bcast_S_S1 : (⟨S_, .i32⟩ : BufTy).Contents (Elt F) → (⟨S1, .i32⟩ : BufTy).Contents (Elt F)),
   StableHlo.ternary main_v3 main_v4 main_arg5 main_v5 ((fun x i u => Host.scatter scatter_S24x32_S1_S20x32_01_n_0_0 (fun _ b => b) x i u) : (⟨S24x32, .f32⟩ : BufTy).Contents (Elt F) → (⟨S1, .i32⟩ : BufTy).Contents (Elt F) → (⟨S20x32, .f32⟩ : BufTy).Contents (Elt F) → (⟨S24x32, .f32⟩ : BufTy).Contents (Elt F))]

/-- Between the two TensorCore calls: the first weight's two column blocks, and the vectors laid out as rows. -/
def ops2 : List (HloOp τ sig (Elt F)) :=
  [StableHlo.unary main_arg8 main_v7 ((extractStridedSlice S256x256 ![0, 0] · slices_S256x288_S256x256_0_0) : (⟨S256x288, .f32⟩ : BufTy).Contents (Elt F) → (⟨S256x256, .f32⟩ : BufTy).Contents (Elt F)),
   StableHlo.unary main_arg8 main_v8 ((extractStridedSlice S256x32 ![0, 256] · slices_S256x288_S256x32_0_256) : (⟨S256x288, .f32⟩ : BufTy).Contents (Elt F) → (⟨S256x32, .f32⟩ : BufTy).Contents (Elt F)),
   StableHlo.reshape main_arg9 main_v9 (rfl : (.f32 : EltTy) = .f32) shapeCasts_S256_S1x256,
   StableHlo.reshape main_arg10 main_v10 (rfl : (.f32 : EltTy) = .f32) shapeCasts_S256_S1x256,
   StableHlo.reshape main_arg11 main_v11 (rfl : (.f32 : EltTy) = .f32) shapeCasts_S256_S1x256,
   StableHlo.reshape main_arg13 main_v12 (rfl : (.f32 : EltTy) = .f32) shapeCasts_S128_S1x128,
   StableHlo.reshape main_arg14 main_v13 (rfl : (.f32 : EltTy) = .f32) shapeCasts_S128_S1x128,
   StableHlo.reshape main_arg15 main_v14 (rfl : (.f32 : EltTy) = .f32) shapeCasts_S128_S1x128,
   StableHlo.reshape main_arg17 main_v15 (rfl : (.f32 : EltTy) = .f32) shapeCasts_S64_S1x64,
   StableHlo.reshape main_arg18 main_v16 (rfl : (.f32 : EltTy) = .f32) shapeCasts_S64_S1x64,
   StableHlo.reshape main_arg19 main_v17 (rfl : (.f32 : EltTy) = .f32) shapeCasts_S64_S1x64,
   StableHlo.reshape main_arg21 main_v18 (rfl : (.f32 : EltTy) = .f32) shapeCasts_S1_S1x1]

/-- After the last call: its result as a vector. -/
def ops3 : List (HloOp τ sig (Elt F)) :=
  [StableHlo.reshape main_v19 main_v20 (rfl : (.f32 : EltTy) = .f32) shapeCasts_S1x1x16384_S16384]

variable (m : (ℓ : Loc nD τ sig) → Buf (Elt F) ℓ)

/-- At the launch. -/
abbrev V0 (d : Dev nD) : Valuation τ sig (Elt F) := StableHlo.launchContents m d
/-- When the SparseCore call starts. -/
def V1 (d : Dev nD) : Valuation τ sig (Elt F) := StableHlo.after ops0 (V0 m d)
/-- The SparseCore call's operands. -/
def opnd (d : Dev nD) : Operands F where
  iu := V1 m d (Proc.devRef .tc main_v0)
  ii := V1 m d (Proc.devRef .tc main_v1)
  tu := V1 m d (Proc.devRef .tc main_arg3)
  ti := V1 m d (Proc.devRef .tc main_arg4)
  f0 := V1 m d (Proc.devRef .tc main_v2)
/-- When the SparseCore call is over. -/
def V2 (d : Dev nD) : Valuation τ sig (Elt F) := Function.update (V1 m d) (Proc.devRef .tc main_v2) (opnd m d).out
/-- When the genre call starts. -/
def V3 (d : Dev nD) : Valuation τ sig (Elt F) := StableHlo.after ops1 (V2 m d)
/-- The genre call's arrays. -/
def arr1 (d : Dev nD) (w : Fin 4) : (Pipeline.arrRef spec1 w).ty.Contents (Elt F) := V3 m d (Proc.devRef .tc (Pipeline.arrRef spec1 w))
/-- When the genre call is over. -/
def V4 (d : Dev nD) : Valuation τ sig (Elt F) := Pipeline.afterRegion (dat1 (arr1 m d) d) (V3 m d)
/-- When the MLP call starts. -/
def V5 (d : Dev nD) : Valuation τ sig (Elt F) := StableHlo.after ops2 (V4 m d)
/-- The MLP call's arrays. -/
def arr2 (d : Dev nD) (w : Fin 18) : (Pipeline.arrRef spec2 w).ty.Contents (Elt F) := V5 m d (Proc.devRef .tc (Pipeline.arrRef spec2 w))
/-- When the MLP call is over. -/
def V6 (d : Dev nD) : Valuation τ sig (Elt F) := Pipeline.afterRegion (dat2 (arr2 m d) d) (V5 m d)
/-- At the end. -/
def V7 (d : Dev nD) : Valuation τ sig (Elt F) := StableHlo.after ops3 (V6 m d)

end Cert.Proof

end
-- ==== Proof.Main.lean ====
/-
  The whole program's run: the host's operations, the SparseCore call and the two TensorCore calls, one after the other.
-/
module

public import proofs.«01_k».proof.Proof.Values
public import Idealize.ShloMosaic.Lib.Pipeline.Regions

@[expose] public section

noncomputable section

namespace Cert.Proof

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F]
open Idealize.ShloMosaic.Rounds
open Idealize.ShloMosaic.Pipeline (Seg HostSeg RegionSeg ucRefs)

local notation "𝕄" => MT nD τ sig (HIx 1) (Elt F) ℕ UU ℕ

/-- Where the handshakes' rounds lie. -/
abbrev EH : Emb UH (MT nD τ sig (HIx 1) (Elt F) ℕ UU ℕ) := embL
/-- Where the pipelines' rounds lie. -/
def EP : Emb UPipe (MT nD τ sig (HIx 1) (Elt F) ℕ UU ℕ) := (Emb.inl : Emb UPipe (UPipe × Counters)).trans embR

instance EP_landsIn : (EP : Emb UPipe 𝕄).LandsIn (upEmb : UEmb _ 𝕄) := by unfold EP; infer_instance

/-- No window's index map reads a table: the pipelines' configurations are closed. -/
abbrev adm (p : Fin 2) : (pcfgs (F := F) p).Adm := (cfgs p).toPCfg_adm

theorem cells_inj : Function.Injective (Pipeline.cellOf (nD := nD) (τ := τ) (Pipeline.pin (pcfgs (F := F)) adm)) :=
  launch1.toP.cellOf_inj adm

variable (m : (ℓ : Loc nD τ sig) → Buf (Elt F) ℓ) (ρ : Dev nD → PrngReg)

/-! ## The TensorCore's two calls and the host's operations around them -/

/-- Each pipeline's proof data, at the arrays it starts from. -/
def pdats (p : Fin 2) (c : Dev nD) : Dat τ (Elt F) (HIx 1) ℕ UU ℕ (Pipeline.pin (pcfgs (F := F)) adm p) c := match p with
  | 0 => dat1 (arr1 m c) c
  | 1 => dat2 (arr2 m c) c

/-- What the core owes throughout: nothing. -/
abbrev owesNone (c : Dev nD) : sProp 𝕄 := iprop((∃ Wd, owes (c : Thread nD τ) (0 : CellTallies nD τ sig (HIx 1)) Wd) ∗ emp ∗ emp)

theorem cut (p : Fin 2) : Pipeline.LevelCut (nD := nD) (τ := τ) (pcfgs (F := F)) adm none (K (F := F)).L (K (F := F)).lev p (fun _ => 0) (fun _ => 0) where
  hι _ _ _ := Finset.mem_univ _
  hιb _ _ _ := le_refl _
  hD _ _ _ h := absurd h (lt_irrefl _)

def hostSeg (ops : List (HloOp τ sig (Elt F))) (hS : ∀ op ∈ ops, op.bufs ⊆ ucRefs τ sig) (hf : ∀ op ∈ ops, op.fresh = ∅) (V : Dev nD → Valuation τ sig (Elt F)) :
    HostSeg (Name := ℕ) (U := UU) (pcfgs (F := F)) defs₀ 𝒱₀ (K (F := F)).L (K (F := F)).lev :=
  HostSeg.ofOps (pcfgs (F := F)) defs₀ 𝒱₀ (K (F := F)).L (K (F := F)).lev (ucRefs τ sig) ops hS hf V owesNone

theorem ops_in (ops : List (HloOp τ sig (Elt F))) (h : ∀ op ∈ ops, op.bufs ⊆ StableHlo.tcRefs τ sig) : ∀ op ∈ ops, op.bufs ⊆ ucRefs τ sig :=
  fun op ho => Pipeline.sub_ucRefs op (h op ho)

theorem enter1 (c : Dev nD) : iprop(Pipeline.scopedRest (Pipeline.pin (pcfgs (F := F)) adm 0).spec c ∗ emp) ⊢ (pdats m 0 c).Φ 0 :=
  show iprop(Pipeline.scopedRest spec1 c ∗ emp) ⊢ (Pipeline.scopedRest spec1 c : sProp 𝕄) from sep_elim_left
theorem leave1 (c : Dev nD) :
    (pdats m 0 c).Φ (Fin.last (Pipeline.pin (pcfgs (F := F)) adm 0).N) ⊢ iprop(Pipeline.scopedRest (Pipeline.pin (pcfgs (F := F)) adm 0).spec c ∗ emp) := by
  show (Pipeline.scopedRest spec1 c : sProp 𝕄) ⊢ iprop(Pipeline.scopedRest spec1 c ∗ emp)
  iintro H
  isplitl [H]; · iexact H
  iempintro

theorem enter2 (c : Dev nD) : iprop(Pipeline.scopedRest (Pipeline.pin (pcfgs (F := F)) adm 1).spec c ∗ emp) ⊢ (pdats m 1 c).Φ 0 :=
  show iprop(Pipeline.scopedRest spec2 c ∗ emp) ⊢ (Pipeline.scopedRest spec2 c : sProp 𝕄) from sep_elim_left
theorem leave2 (c : Dev nD) :
    (pdats m 1 c).Φ (Fin.last (Pipeline.pin (pcfgs (F := F)) adm 1).N) ⊢ iprop(Pipeline.scopedRest (Pipeline.pin (pcfgs (F := F)) adm 1).spec c ∗ emp) := by
  show (Pipeline.scopedRest spec2 c : sProp 𝕄) ⊢ iprop(Pipeline.scopedRest spec2 c ∗ emp)
  iintro H
  isplitl [H]; · iexact H
  iempintro

/-- The genre call. -/
def region1 : RegionSeg (pcfgs (F := F)) adm (pdats m) none defs₀ 𝒱₀ (K (F := F)).L (K (F := F)).lev 0 :=
  RegionSeg.ofHeldIn (pcfgs (F := F)) adm (pdats m) none defs₀ 𝒱₀ (K (F := F)).L (K (F := F)).lev 0 (fun _ => 0) (ucRefs τ sig) (fun _ => iprop(emp)) (fun _ => iprop(emp))
    launch1.toP rfl (fun c => (body1 (arr1 m c) c).loose) (fun _ _ => rfl) (fun _ => rfl) (fun c => (pdats m 0 c).share_full fun _ => rfl)
    (enter1 m) (leave1 m) (fun _ => 0) (cut 0) (fun _ => iprop(emp)) (V3 m) (fun _ _ => rfl)

/-- The MLP call. -/
def region2 : RegionSeg (pcfgs (F := F)) adm (pdats m) none defs₀ 𝒱₀ (K (F := F)).L (K (F := F)).lev 1 :=
  RegionSeg.ofHeldIn (pcfgs (F := F)) adm (pdats m) none defs₀ 𝒱₀ (K (F := F)).L (K (F := F)).lev 1 (fun _ => 0) (ucRefs τ sig) (fun _ => iprop(emp)) (fun _ => iprop(emp))
    launch2.toP rfl (fun c => (body2 (arr2 m c) c).loose) (fun _ _ => rfl) (fun _ => rfl) (fun c => (pdats m 1 c).share_full fun _ => rfl)
    (enter2 m) (leave2 m) (fun _ => 0) (cut 1) (fun _ => iprop(emp)) (V5 m) (fun _ _ => rfl)

theorem ops0_sub : ∀ op ∈ (ops0 : List (HloOp τ sig (Elt F))), op.bufs ⊆ ucRefs τ sig :=
  ops_in _ (List.forall_iff_forall_mem.mp ⟨StableHlo.reshape_bufs_sub .., StableHlo.reshape_bufs_sub ..⟩)
theorem ops1_sub : ∀ op ∈ (ops1 : List (HloOp τ sig (Elt F))), op.bufs ⊆ ucRefs τ sig :=
  ops_in _ (List.forall_iff_forall_mem.mp ⟨StableHlo.nullary_bufs_sub .., StableHlo.unary_bufs_sub .., StableHlo.nullary_bufs_sub ..,
    StableHlo.unary_bufs_sub .., StableHlo.ternary_bufs_sub ..⟩)
theorem ops2_sub : ∀ op ∈ (ops2 : List (HloOp τ sig (Elt F))), op.bufs ⊆ ucRefs τ sig :=
  ops_in _ (List.forall_iff_forall_mem.mp ⟨StableHlo.unary_bufs_sub .., StableHlo.unary_bufs_sub .., StableHlo.reshape_bufs_sub ..,
    StableHlo.reshape_bufs_sub .., StableHlo.reshape_bufs_sub .., StableHlo.reshape_bufs_sub .., StableHlo.reshape_bufs_sub ..,
    StableHlo.reshape_bufs_sub .., StableHlo.reshape_bufs_sub .., StableHlo.reshape_bufs_sub .., StableHlo.reshape_bufs_sub .., StableHlo.reshape_bufs_sub ..⟩)
theorem ops3_sub : ∀ op ∈ (ops3 : List (HloOp τ sig (Elt F))), op.bufs ⊆ ucRefs τ sig :=
  ops_in _ (List.forall_iff_forall_mem.mp (StableHlo.reshape_bufs_sub ..))
theorem ops0_old : ∀ op ∈ (ops0 : List (HloOp τ sig (Elt F))), op.fresh = ∅ := List.forall_iff_forall_mem.mp ⟨rfl, rfl⟩
theorem ops1_old : ∀ op ∈ (ops1 : List (HloOp τ sig (Elt F))), op.fresh = ∅ := List.forall_iff_forall_mem.mp ⟨rfl, rfl, rfl, rfl, rfl⟩
theorem ops2_old : ∀ op ∈ (ops2 : List (HloOp τ sig (Elt F))), op.fresh = ∅ :=
  List.forall_iff_forall_mem.mp ⟨rfl, rfl, rfl, rfl, rfl, rfl, rfl, rfl, rfl, rfl, rfl, rfl⟩
theorem ops3_old : ∀ op ∈ (ops3 : List (HloOp τ sig (Elt F))), op.fresh = ∅ := List.forall_iff_forall_mem.mp rfl

/-- What follows the SparseCore call. -/
def segs : List (Seg (pcfgs (F := F)) adm (pdats m) none defs₀ 𝒱₀ (K (F := F)).L (K (F := F)).lev) :=
  [.host (hostSeg ops1 ops1_sub ops1_old (V2 m)), .region (region1 m), .host (hostSeg ops2 ops2_sub ops2_old (V4 m)), .region (region2 m),
    .host (hostSeg ops3 ops3_sub ops3_old (V6 m))]

/-- The state after the SparseCore call, and the last one. -/
def stA (c : Dev nD) : sProp 𝕄 := iprop(StableHlo.held (c.tc : Thread nD τ) (ucRefs τ sig) (V2 m c) ∗ owesNone c)
def stZ (c : Dev nD) : sProp 𝕄 := iprop(StableHlo.held (c.tc : Thread nD τ) (ucRefs τ sig) (V7 m c) ∗ owesNone c)

theorem arrs1 : Pipeline.arrRefs (τ := τ) (pcfgs (F := F) 0).spec ⊆ ucRefs τ sig := Pipeline.arrRefs_sub_ucRefs spec1 (by decide)
theorem pre1 (c : Dev nD) : iprop(StableHlo.held (c.tc : Thread nD τ) (ucRefs τ sig) (V3 m c) ∗ owesNone c) ⊢ (region1 m).pre c :=
  RegionSeg.ofHeldIn_pre (pcs := pcfgs (F := F)) (a := adm) (pdats := pdats m) (ι := none) (defs₀ := defs₀) (𝒱₀ := 𝒱₀) (L := (K (F := F)).L) (lv := (K (F := F)).lev)
    (p := 0) (D := fun _ => 0) (S := ucRefs τ sig) arrs1 (X := fun _ => iprop(emp)) (Y := fun _ => iprop(emp)) (kit := launch1.toP) (hK := rfl)
    (hbody := fun c => (body1 (arr1 m c) c).loose) (howed := fun _ _ => rfl) (hrec := fun _ => rfl) (hshare := fun c => (pdats m 0 c).share_full fun _ => rfl)
    (hin := enter1 m) (hout := leave1 m) (b := fun _ => 0) (hcut := cut 0) (R := fun _ => iprop(emp)) (W := V3 m) (hW := fun _ _ => rfl) c
theorem post1 (c : Dev nD) : (region1 m).post c ⊢ iprop(StableHlo.held (c.tc : Thread nD τ) (ucRefs τ sig) (V4 m c) ∗ owesNone c) :=
  RegionSeg.ofHeldIn_post arrs1 c

theorem arrs2 : Pipeline.arrRefs (τ := τ) (pcfgs (F := F) 1).spec ⊆ ucRefs τ sig := Pipeline.arrRefs_sub_ucRefs spec2 (by decide)
theorem pre2 (c : Dev nD) : iprop(StableHlo.held (c.tc : Thread nD τ) (ucRefs τ sig) (V5 m c) ∗ owesNone c) ⊢ (region2 m).pre c :=
  RegionSeg.ofHeldIn_pre (pcs := pcfgs (F := F)) (a := adm) (pdats := pdats m) (ι := none) (defs₀ := defs₀) (𝒱₀ := 𝒱₀) (L := (K (F := F)).L) (lv := (K (F := F)).lev)
    (p := 1) (D := fun _ => 0) (S := ucRefs τ sig) arrs2 (X := fun _ => iprop(emp)) (Y := fun _ => iprop(emp)) (kit := launch2.toP) (hK := rfl)
    (hbody := fun c => (body2 (arr2 m c) c).loose) (howed := fun _ _ => rfl) (hrec := fun _ => rfl) (hshare := fun c => (pdats m 1 c).share_full fun _ => rfl)
    (hin := enter2 m) (hout := leave2 m) (b := fun _ => 0) (hcut := cut 1) (R := fun _ => iprop(emp)) (W := V5 m) (hW := fun _ _ => rfl) c
theorem post2 (c : Dev nD) : (region2 m).post c ⊢ iprop(StableHlo.held (c.tc : Thread nD τ) (ucRefs τ sig) (V6 m c) ∗ owesNone c) :=
  RegionSeg.ofHeldIn_post arrs2 c

theorem chains : Seg.Chains (stA m) (segs m) (stZ m) :=
  ⟨fun _ => .rfl, pre1 m, post1 m, pre2 m, post2 m, fun _ => .rfl⟩

theorem main_eq (d : Dev nD) : main (F := F) d
    = (StableHlo.seq ops0 >>= fun _ => (K (F := F)).run d 0 >>= fun _ => SparseCore.liftProg (Q := 1) (Seg.run (segs m))) := rfl

/-! ## The SparseCore call's arrays among the others -/

/-- The SparseCore call's operands and its result. -/
def scRefs : Finset (DevRef τ sig) :=
  {Proc.devRef .tc main_v0, Proc.devRef .tc main_v1, Proc.devRef .tc main_arg3, Proc.devRef .tc main_arg4, Proc.devRef .tc main_v2}

theorem scRefs_sub : scRefs ⊆ ucRefs τ sig := by decide

theorem held_scRefs (d : Dev nD) (V : Valuation τ sig (Elt F)) :
    (StableHlo.held (d.tc : Thread nD τ) scRefs V : sProp 𝕄)
      = callRes d (V (Proc.devRef .tc main_v0)) (V (Proc.devRef .tc main_v1)) (V (Proc.devRef .tc main_arg3)) (V (Proc.devRef .tc main_arg4))
          (V (Proc.devRef .tc main_v2)) := by
  unfold StableHlo.held scRefs callRes
  rw [SparseCore.bigSep_insert' (by decide), SparseCore.bigSep_insert' (by decide), SparseCore.bigSep_insert' (by decide), SparseCore.bigSep_insert' (by decide),
    bigSep_singleton]

theorem before_call (d : Dev nD) : (StableHlo.held (d.tc : Thread nD τ) (ucRefs τ sig) (V1 m d) : sProp 𝕄)
    = iprop(callRes d (opnd m d).iu (opnd m d).ii (opnd m d).tu (opnd m d).ti (opnd m d).f0 ∗ StableHlo.held (d.tc : Thread nD τ) (ucRefs τ sig \ scRefs) (V1 m d)) := by
  rw [StableHlo.held_sub_split (d.tc : Thread nD τ) scRefs_sub, held_scRefs]
  rfl

theorem v2_mem : Proc.devRef .tc main_v2 ∈ scRefs := by decide
theorem v0_ne : (Proc.devRef .tc main_v0 : DevRef τ sig) ≠ Proc.devRef .tc main_v2 := by decide
theorem v1_ne : (Proc.devRef .tc main_v1 : DevRef τ sig) ≠ Proc.devRef .tc main_v2 := by decide
theorem arg3_ne : (Proc.devRef .tc main_arg3 : DevRef τ sig) ≠ Proc.devRef .tc main_v2 := by decide
theorem arg4_ne : (Proc.devRef .tc main_arg4 : DevRef τ sig) ≠ Proc.devRef .tc main_v2 := by decide

theorem after_call (d : Dev nD) : (StableHlo.held (d.tc : Thread nD τ) (ucRefs τ sig) (V2 m d) : sProp 𝕄)
    = iprop(callRes d (opnd m d).iu (opnd m d).ii (opnd m d).tu (opnd m d).ti (opnd m d).out ∗ StableHlo.held (d.tc : Thread nD τ) (ucRefs τ sig \ scRefs) (V1 m d)) := by
  rw [StableHlo.held_sub_split (d.tc : Thread nD τ) scRefs_sub, held_scRefs]
  have hne (b : DevRef τ sig) (h : b ≠ Proc.devRef .tc main_v2) : V2 m d b = V1 m d b := Function.update_of_ne h _ _
  have hv2 : V2 m d (Proc.devRef .tc main_v2) = (opnd m d).out := Function.update_self ..
  have hr : (StableHlo.held (d.tc : Thread nD τ) (ucRefs τ sig \ scRefs) (V2 m d) : sProp 𝕄) = StableHlo.held (d.tc : Thread nD τ) (ucRefs τ sig \ scRefs) (V1 m d) :=
    StableHlo.held_congr (d.tc : Thread nD τ) fun b hb => hne b fun h => (Finset.mem_sdiff.mp hb).2 (h ▸ v2_mem)
  rw [hr, hv2, hne _ v0_ne, hne _ v1_ne, hne _ arg3_ne, hne _ arg4_ne]
  unfold opnd
  rfl

/-! ## @main -/

/-- The pipelines' share of the launch's ghost state. -/
abbrev ghost (d : Dev nD) : sProp 𝕄 := Pipeline.ghostOn (pcfgs (F := F)) adm EP Finset.univ d

/-- Nothing is left to start after the only call. -/
theorem Otc_one (d : Dev nD) : (K (F := F)).Otc (N := 1) d 1 = 0 := by
  unfold SparseCore.Cfg.Otc
  exact Finset.sum_eq_zero fun q _ => if_neg (by have := q.isLt; omega)

/-- Any waits lie below the second call's levels. -/
theorem waits_low (d : Dev nD) (W : Waits sig (HIx 1)) : (K (F := F)).WBelow (SparseCore.T d) W (8 * SparseCore.Cfg.Blocks.fst (Q := 1) (N := 1) 1) := by
  intro p _
  refine le_trans ?_ (show 8 ≤ _ from by decide)
  match h : p.2 with
  | none => exact Nat.zero_le _
  | some q =>
    have := (K (F := F)).lev_some_le (SparseCore.T d, p.1) q
    have := q.isLt
    omega

abbrev FIN (d : Dev nD) : sProp 𝕄 := StableHlo.held (d.tc : Thread nD τ) (ucRefs τ sig) (V7 m d)

set_option backward.isDefEq.respectTransparency.types false in
theorem hmain [∀ e, Nonempty (Elt F e)] (κ : GSem nD τ sig → ℕ) (d : Dev nD) :
    iprop((K (F := F)).ctx EH (P (opnd m)) κ ∗ (K (F := F)).tcSt EH d 0 ∗ (K (F := F)).tcRes m ρ d ∗ ghost d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq m d]
  iintro ⟨#Hctx, Hst, ⟨Hb, Hu, Hts, -⟩, Hg⟩
  ihave Hh := (Entails.of_eq (Pipeline.unscopedBufs_held (Ix := HIx 1) (Name := ℕ) (U := UU) (Lvl := ℕ) d (V0 m d))) $$ Hu
  have hseq := StableHlo.wp_seq (defs := (K (F := F)).defs (D (F := F))) 𝒱 none Set.univ d (ucRefs τ sig)
    (fun _ => (K (F := F)).run d 0 >>= fun _ => SparseCore.liftProg (Q := 1) (Seg.run (segs m)))
    (K := fun _ : PUnit => iprop((K (F := F)).tcSt EH d 1 ∗ FIN m d ∗ (boundary (SparseCore.T d) ∗ (K (F := F)).tcSems0 d))) ops0 ops0_sub ops0_old (V0 m d)
  iapply hseq $$ [Hb Hh]
  · isplitl [Hb] <;> iassumption
  iintro ⟨Hb, Hh⟩
  rw [show StableHlo.after ops0 (V0 m d) = V1 m d from rfl]
  ihave Hh' := (Entails.of_eq (before_call m d)) $$ Hh
  icases Hh' with ⟨Hc, Hr⟩
  rw [wp_bind]
  iapply ((K (F := F)).wp_run (D (F := F)) 𝒱 (EH := EH) (P := P (opnd m)) κ d 0) $$ [Hst Hc Hr Hb Hts Hg]
  isplitr; · iexact Hctx
  isplitl [Hst]; · iexact Hst
  isplitl [Hc]
  · rw [st_eq]; iexact Hc
  iintro ⟨Hst, Hdn⟩
  ihave Hc := (Entails.of_eq (dn_eq (opnd m) d)) $$ Hdn
  ihave Hh := (Entails.of_eq (after_call m d).symm) $$ [Hc Hr]
  · isplitl [Hc] <;> iassumption
  unfold SparseCore.Cfg.tcSt
  icases Hst with ⟨⟨%W, %hW, HO⟩, Hst⟩
  ihave HO' := (Entails.of_eq (congrArg (fun O => (owes (SparseCore.T d : Thread nD τ) O W : sProp 𝕄))
    (show (K (F := F)).Otc (N := 1) d ((0 : Fin 1).val + 1) = 0 from Otc_one d))) $$ HO
  ihave #Hlev := ((K (F := F)).ctx_levAts (EH := EH) (P := P (opnd m)) κ) $$ Hctx
  iapply ((K (F := F)).wp_liftProg (D (F := F)) 𝒱 (SparseCore.T d) Set.univ none (Seg.run (segs m)) _)
  iapply (Pipeline.wp_segs (pcfgs (F := F)) adm (pdats m) none cells_inj EP defs₀ 𝒱₀ (K (F := F)).L (K (F := F)).lev d (segs m) Finset.univ (stA m) (stZ m)
    (by show List.Nodup [(0 : Fin 2), 1]; decide) (fun _ _ => Finset.mem_univ _) (chains m))
  isplitl [Hst Hts]
  · iintro ⟨Hb, HT⟩
    unfold stZ
    icases HT with ⟨Hh, ⟨⟨%Wd, HO⟩, -, -⟩⟩
    isplitl [Hst HO]
    · isplitl [HO]
      · iexists Wd
        isplitr
        · ipureintro; exact waits_low d Wd
        iapply (Entails.of_eq (congrArg (fun O => (owes (SparseCore.T d : Thread nD τ) O Wd : sProp 𝕄)) (Otc_one d).symm)); iexact HO
      iexact Hst
    isplitl [Hh]; · iexact Hh
    isplitl [Hb] <;> iassumption
  isplitl [Hb]; · iexact Hb
  isplitl [Hh HO']
  · unfold stA
    isplitl [Hh]; · iexact Hh
    isplitl [HO']
    · iexists W; iexact HO'
    isplitr <;> iempintro
  isplitr; · iexact Hlev
  iexact Hg

/-! ## The launch -/

/-- The launch's ghost state: the handshakes' rounds, the pipelines' and no transfer. -/
def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

theorem ghost_eq : (bigSep Finset.univ fun d : Dev nD => ghost (F := F) d)
    = iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c)) :=
  (bigSep_congr fun _ _ => bigSep_sep' _ _ _).trans (bigSep_sep' _ _ _)

theorem own_pipes (b : UPipe) : (BI.own ((embR : Emb (UPipe × Counters) 𝕄) (b, (1 : Counters))) : sProp 𝕄) ⊢ BI.own ((EP : Emb UPipe 𝕄) b) := by
  unfold EP
  iintro H
  ihave H' := (own_pair_emb (embR : Emb (UPipe × Counters) 𝕄) b (1 : Counters)) $$ H
  icases H' with ⟨H, -⟩
  iexact H

/-- Nothing, for each of many. -/
theorem nothing {I : Type} (s : Finset I) : (bigSep s fun _ => iprop(emp)) = (iprop(emp) : sProp 𝕄) := bigSep_emp_const s

theorem fund : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P (opnd m)).x q thr) := by
  unfold u₀
  iintro Hu
  ihave H := (ownU_pair (initOf (K (F := F)).hsCells (K (F := F)).hsToks)
    ((initOf (Pipeline.cells (Pipeline.pin (pcfgs (F := F)) adm) cells_inj) (Pipeline.launchToks (Pipeline.pin (pcfgs (F := F)) adm) cells_inj), (1 : Counters)))) $$ Hu
  icases H with ⟨HH, HR⟩
  ihave HP := (own_pipes (initOf (Pipeline.cells (Pipeline.pin (pcfgs (F := F)) adm) cells_inj)
    (Pipeline.launchToks (Pipeline.pin (pcfgs (F := F)) adm) cells_inj))) $$ HR
  ihave HG := (Pipeline.fund_ghost (Pipeline.pin (pcfgs (F := F)) adm) EP cells_inj) $$ HP
  imod HG with ⟨Hc, Ht⟩
  imodintro
  isplitl [HH]; · iexact HH
  isplitl [Hc Ht]
  · rw [ghost_eq]
    isplitl [Hc] <;> iassumption
  rw [show (bigSep Finset.univ fun thr : Thread nD τ => bigSep Finset.univ fun q : Fin 1 => (P (opnd m)).x q thr) = bigSep Finset.univ fun _ => iprop(emp) from
    bigSep_congr fun _ _ => bigSep_univ_of_subsingleton (0 : Fin 1), nothing]
  iempintro

/-- What the memory holds at the end. -/
def fq (d : Dev nD) (s' : Phys nD τ sig (Elt F)) : Prop := ∀ b ∈ ucRefs τ sig, s'.mem.mem (d, b) = V7 m d b

theorem hfin (d : Dev nD) (s' : Phys nD τ sig (Elt F)) : iprop(FIN m d ∗ SI s') ⊢ (⌜fq m d s'⌝ : sProp 𝕄) := by
  unfold fq FIN StableHlo.held
  iintro H
  ihave H' := (pointsTo_read_all (ucRefs τ sig) (fun b => ((d, b) : Loc nD τ sig)) (V7 m d) s') $$ H
  icases H' with ⟨H, -⟩
  iexact H

/-- The program runs, ends with every array at its last contents, and every counter at zero. -/
theorem run_main [∀ e, Nonempty (Elt F e)] (hu : ∀ d x, ((opnd m d).iu x).toNat < 100000) (hi : ∀ d x, ((opnd m d).ii x).toNat < 100000) :
    θ_run (Cert.KernelIdeal.defs (F := F)) (Cert.KernelIdeal.threads (F := F)) ⟨m, fun _ => 0, ρ⟩
      fun r => (∀ d : Dev nD, ∀ b ∈ ucRefs τ sig, r.2.mem (d, b) = V7 m d b) ∧ r.2.sem = fun _ => 0 :=
  SparseCore.Cfg.θ_run_sc_quiescent (K := K (F := F)) (D := D (F := F)) (𝒱 := 𝒱) (EH := EH) (P := P (opnd m)) (A := ∅) facts v₀
    (fun q hq => match q with | 0 => nomatch hq)
    (fun q _ => match q with | 0 => tileObl (opnd m) hu hi)
    (fun q _ => match q with | 0 => SparseCore.Cfg.VecSplit.of_plain (vecSplit (opnd m)))
    m ρ main ghost (FIN m) (u₀ (F := F)) (sep_elim_left.trans (fund m)) (hmain m ρ) (fq m) (hfin m) _ (fun _ h hz => ⟨h, hz⟩)

end Cert.Proof

end
-- ==== Proof.Kept.lean ====
/-
  What the program leaves unchanged, and what its last array holds as a function of the arguments.
-/
module

public import proofs.«01_k».proof.Proof.Values
public import Idealize.ShloMosaic.Lib.StableHlo.RunRead

@[expose] public section

noncomputable section

namespace Cert.Proof

open Cert.KernelIdeal Cert.KernelIdeal.Gen

open Idealize.ShloMosaic Idealize.ShloMosaic.TcCoe
open Idealize.ShloMosaic.Tactic

variable {F : FTy → Type} [FloatOps F] (m : (ℓ : Loc nD τ sig) → Buf (Elt F) ℓ) (d : Dev nD)

theorem inj1 : Function.Injective (Pipeline.arrRef spec1) := launch1.win.arr_inj
theorem inj2 : Function.Injective (Pipeline.arrRef spec2) := launch2.win.arr_inj

theorem V1_kept (r : Ref sig .tc) (h : r ∉ [main_v0, main_v1]) : V1 m d (Proc.devRef .tc r) = V0 m d (Proc.devRef .tc r) :=
  StableHlo.after_unwritten [main_v0, main_v1] rfl h _

theorem V2_kept (r : Ref sig .tc) (h : r ≠ main_v2) : V2 m d (Proc.devRef .tc r) = V1 m d (Proc.devRef .tc r) :=
  Function.update_of_ne (fun e => h (Proc.devRef_injective _ e)) _ _

theorem V3_kept (r : Ref sig .tc) (h : r ∉ [main_cst, main_v3, main_c, main_v4, main_v5]) :
    V3 m d (Proc.devRef .tc r) = V2 m d (Proc.devRef .tc r) :=
  StableHlo.after_unwritten [main_cst, main_v3, main_c, main_v4, main_v5] rfl h _

theorem V4_kept (r : Ref sig .tc) (h : r ≠ main_v6) : V4 m d (Proc.devRef .tc r) = V3 m d (Proc.devRef .tc r) :=
  Pipeline.afterRegion_keeps (dat1 (arr1 m d) d) (V3 m d) inj1 (fun _ => rfl) r fun w e => by
    match w with
    | 0 => rfl
    | 1 => rfl
    | 2 => rfl
    | 3 => exact absurd e.symm h

theorem V4_v6 : V4 m d (Proc.devRef .tc main_v6) = genreAll (arr1 m d 0) (arr1 m d 1) (arr1 m d 2) :=
  (Pipeline.afterRegion_arr (dat1 (arr1 m d) d) (V3 m d) inj1 3).trans (result1 (arr1 m d) d)

theorem V5_kept (r : Ref sig .tc) (h : r ∉ [main_v7, main_v8, main_v9, main_v10, main_v11, main_v12, main_v13, main_v14, main_v15, main_v16, main_v17, main_v18]) :
    V5 m d (Proc.devRef .tc r) = V4 m d (Proc.devRef .tc r) :=
  StableHlo.after_unwritten [main_v7, main_v8, main_v9, main_v10, main_v11, main_v12, main_v13, main_v14, main_v15, main_v16, main_v17, main_v18] rfl h _

theorem V6_kept (r : Ref sig .tc) (h : r ≠ main_v19) : V6 m d (Proc.devRef .tc r) = V5 m d (Proc.devRef .tc r) :=
  Pipeline.afterRegion_keeps (dat2 (arr2 m d) d) (V5 m d) inj2 (fun _ => rfl) r fun w e => by
    by_cases hw : w = 17
    · subst hw
      exact absurd e.symm h
    · have key : ∀ w : Fin cfg2.W, w ≠ 17 → (cfg2.win w).isOut = false := by decide
      exact key w hw

theorem V6_v19 : V6 m d (Proc.devRef .tc main_v19)
    = mlpAll (arr2 m d 0) (arr2 m d 1) (arr2 m d 2) (arr2 m d 3) (arr2 m d 4) (arr2 m d 5) (arr2 m d 6) (arr2 m d 7) (arr2 m d 8)
        (arr2 m d 9) (arr2 m d 10) (arr2 m d 11) (arr2 m d 12) (arr2 m d 13) (arr2 m d 14) (arr2 m d 15) (arr2 m d 16) :=
  (Pipeline.afterRegion_arr (dat2 (arr2 m d) d) (V5 m d) inj2 17).trans (result2 (arr2 m d) d)

theorem V7_kept (r : Ref sig .tc) (h : r ∉ [main_v20]) : V7 m d (Proc.devRef .tc r) = V6 m d (Proc.devRef .tc r) :=
  StableHlo.after_unwritten [main_v20] rfl h _

/-- Every array the program writes. -/
abbrev written : List (Ref sig .tc) :=
  [main_v0, main_v1, main_v2, main_cst, main_v3, main_c, main_v4, main_v5, main_v6, main_v7, main_v8, main_v9, main_v10, main_v11, main_v12,
    main_v13, main_v14, main_v15, main_v16, main_v17, main_v18, main_v19, main_v20]

theorem V4_arg (r : Ref sig .tc) (h : r ∉ written) : V4 m d (Proc.devRef .tc r) = m (d, Proc.devRef .tc r) := by
  simp only [List.mem_cons, List.not_mem_nil, or_false, not_or] at h
  rw [V4_kept m d r (by tauto), V3_kept m d r (by simp; tauto), V2_kept m d r (by tauto), V1_kept m d r (by simp; tauto)]

/-- What is not written ends as it was. -/
theorem V7_arg (r : Ref sig .tc) (h : r ∉ written) : V7 m d (Proc.devRef .tc r) = m (d, Proc.devRef .tc r) := by
  have h' := h
  simp only [List.mem_cons, List.not_mem_nil, or_false, not_or] at h
  rw [V7_kept m d r (by simp; tauto), V6_kept m d r (by tauto), V5_kept m d r (by simp; tauto), V4_arg m d r h']

/-! ## The operands of each call -/

/-- A vector of 16384 ids as 128 rows of 128. -/
abbrev idRows (a : S16384.Idx → Elt F .i32) : S128x128.Idx → Elt F .i32 := shapeCast S128x128 a shapeCasts_S16384_S128x128

/-- The genre table over rows of zeros. -/
def padTable (a : S20x32.Idx → Elt F .f32) : S24x32.Idx → Elt F .f32 :=
  Host.scatter scatter_S24x32_S1_S20x32_01_n_0_0 (fun _ b => b) (broadcastInDim S24x32 ![] bcast_S_S24x32 (constant S_ .f32 0x00000000#32))
    (broadcastInDim S1 ![] bcast_S_S1 (constantI S_ 32 0#32)) a

theorem opnd_iu : (opnd m d).iu = idRows (m (d, Proc.devRef .tc main_arg0)) := by
  show V1 m d (Proc.devRef .tc main_v0) = _
  unfold V1 ops0
  after_reads_simp
  rfl

theorem opnd_ii : (opnd m d).ii = idRows (m (d, Proc.devRef .tc main_arg1)) := by
  show V1 m d (Proc.devRef .tc main_v1) = _
  unfold V1 ops0
  after_reads_simp
  rfl

theorem opnd_tu : (opnd m d).tu = m (d, Proc.devRef .tc main_arg3) := V1_kept m d main_arg3 (by decide)
theorem opnd_ti : (opnd m d).ti = m (d, Proc.devRef .tc main_arg4) := V1_kept m d main_arg4 (by decide)

theorem V3_arg (r : Ref sig .tc) (h : r ∉ written) : V3 m d (Proc.devRef .tc r) = m (d, Proc.devRef .tc r) := by
  rw [← V4_arg m d r h, V4_kept m d r (fun e => h (by rw [e]; decide))]

theorem V3_v5 : V3 m d (Proc.devRef .tc main_v5) = padTable (m (d, Proc.devRef .tc main_arg5)) := by
  have e : V2 m d (Proc.devRef .tc main_arg5) = m (d, Proc.devRef .tc main_arg5) :=
    (V2_kept m d main_arg5 (by decide)).trans (V1_kept m d main_arg5 (by decide))
  unfold V3 ops1
  after_reads_simp
  rw [e]
  rfl

theorem V3_v2 : V3 m d (Proc.devRef .tc main_v2) = (opnd m d).out :=
  (V3_kept m d main_v2 (by decide)).trans (Function.update_self _ _ _)

/-- The whole kernel, as a function of its arguments. -/
def kernelOut (a0 a1 : S16384.Idx → Elt F .i32) (a2 : S16384x5.Idx → Elt F .i32) (a3 a4 : S100000x128.Idx → Elt F .f32) (a5 : S20x32.Idx → Elt F .f32)
    (a6 : S1x32.Idx → Elt F .f32) (a8 : S256x288.Idx → Elt F .f32) (a9 a10 a11 : S256.Idx → Elt F .f32) (a12 : S128x256.Idx → Elt F .f32)
    (a13 a14 a15 : S128.Idx → Elt F .f32) (a16 : S64x128.Idx → Elt F .f32) (a17 a18 a19 : S64.Idx → Elt F .f32) (a20 : S1x64.Idx → Elt F .f32)
    (a21 : S1.Idx → Elt F .f32) : S16384.Idx → Elt F .f32 :=
  shapeCast S16384 (mlpAll (scOut (idRows a0) (idRows a1) a3 a4) (genreAll a2 (padTable a5) a6)
    (extractStridedSlice S256x256 ![0, 0] a8 slices_S256x288_S256x256_0_0) (extractStridedSlice S256x32 ![0, 256] a8 slices_S256x288_S256x32_0_256)
    (shapeCast S1x256 a9 shapeCasts_S256_S1x256) (shapeCast S1x256 a10 shapeCasts_S256_S1x256) (shapeCast S1x256 a11 shapeCasts_S256_S1x256) a12
    (shapeCast S1x128 a13 shapeCasts_S128_S1x128) (shapeCast S1x128 a14 shapeCasts_S128_S1x128) (shapeCast S1x128 a15 shapeCasts_S128_S1x128) a16
    (shapeCast S1x64 a17 shapeCasts_S64_S1x64) (shapeCast S1x64 a18 shapeCasts_S64_S1x64) (shapeCast S1x64 a19 shapeCasts_S64_S1x64) a20
    (shapeCast S1x1 a21 shapeCasts_S1_S1x1)) shapeCasts_S1x1x16384_S16384

theorem arr2_0 : arr2 m d 0 = scOut (idRows (m (d, Proc.devRef .tc main_arg0))) (idRows (m (d, Proc.devRef .tc main_arg1))) (m (d, Proc.devRef .tc main_arg3)) (m (d, Proc.devRef .tc main_arg4)) := by
  refine (V5_kept m d main_v2 (by decide)).trans ((V4_kept m d main_v2 (by decide)).trans ((V3_v2 m d).trans ?_))
  rw [Operands.out, opnd_iu, opnd_ii, opnd_tu, opnd_ti]

theorem arr2_1 : arr2 m d 1 = genreAll (m (d, Proc.devRef .tc main_arg2)) (padTable (m (d, Proc.devRef .tc main_arg5))) (m (d, Proc.devRef .tc main_arg6)) := by
  refine (V5_kept m d main_v6 (by decide)).trans ((V4_v6 m d).trans ?_)
  have e0 : arr1 m d 0 = m (d, Proc.devRef .tc main_arg2) := V3_arg m d main_arg2 (by decide)
  have e1 : arr1 m d 1 = padTable (m (d, Proc.devRef .tc main_arg5)) := V3_v5 m d
  have e2 : arr1 m d 2 = m (d, Proc.devRef .tc main_arg6) := V3_arg m d main_arg6 (by decide)
  rw [e0, e1, e2]

theorem arr2_2 : arr2 m d 2 = extractStridedSlice S256x256 ![0, 0] (m (d, Proc.devRef .tc main_arg8)) slices_S256x288_S256x256_0_0 := by
  show V5 m d (Proc.devRef .tc main_v7) = _
  have e := V4_arg m d main_arg8 (by decide)
  unfold V5 ops2
  after_reads_simp
  rw [e]

theorem arr2_3 : arr2 m d 3 = extractStridedSlice S256x32 ![0, 256] (m (d, Proc.devRef .tc main_arg8)) slices_S256x288_S256x32_0_256 := by
  show V5 m d (Proc.devRef .tc main_v8) = _
  have e := V4_arg m d main_arg8 (by decide)
  unfold V5 ops2
  after_reads_simp
  rw [e]

theorem arr2_4 : arr2 m d 4 = shapeCast S1x256 (m (d, Proc.devRef .tc main_arg9)) shapeCasts_S256_S1x256 := by
  show V5 m d (Proc.devRef .tc main_v9) = _
  have e := V4_arg m d main_arg9 (by decide)
  unfold V5 ops2
  after_reads_simp
  rw [e]
  rfl

theorem arr2_5 : arr2 m d 5 = shapeCast S1x256 (m (d, Proc.devRef .tc main_arg10)) shapeCasts_S256_S1x256 := by
  show V5 m d (Proc.devRef .tc main_v10) = _
  have e := V4_arg m d main_arg10 (by decide)
  unfold V5 ops2
  after_reads_simp
  rw [e]
  rfl

theorem arr2_6 : arr2 m d 6 = shapeCast S1x256 (m (d, Proc.devRef .tc main_arg11)) shapeCasts_S256_S1x256 := by
  show V5 m d (Proc.devRef .tc main_v11) = _
  have e := V4_arg m d main_arg11 (by decide)
  unfold V5 ops2
  after_reads_simp
  rw [e]
  rfl

theorem arr2_7 : arr2 m d 7 = m (d, Proc.devRef .tc main_arg12) := (V5_kept m d main_arg12 (by decide)).trans (V4_arg m d main_arg12 (by decide))

theorem arr2_8 : arr2 m d 8 = shapeCast S1x128 (m (d, Proc.devRef .tc main_arg13)) shapeCasts_S128_S1x128 := by
  show V5 m d (Proc.devRef .tc main_v12) = _
  have e := V4_arg m d main_arg13 (by decide)
  unfold V5 ops2
  after_reads_simp
  rw [e]
  rfl

theorem arr2_9 : arr2 m d 9 = shapeCast S1x128 (m (d, Proc.devRef .tc main_arg14)) shapeCasts_S128_S1x128 := by
  show V5 m d (Proc.devRef .tc main_v13) = _
  have e := V4_arg m d main_arg14 (by decide)
  unfold V5 ops2
  after_reads_simp
  rw [e]
  rfl

theorem arr2_10 : arr2 m d 10 = shapeCast S1x128 (m (d, Proc.devRef .tc main_arg15)) shapeCasts_S128_S1x128 := by
  show V5 m d (Proc.devRef .tc main_v14) = _
  have e := V4_arg m d main_arg15 (by decide)
  unfold V5 ops2
  after_reads_simp
  rw [e]
  rfl

theorem arr2_11 : arr2 m d 11 = m (d, Proc.devRef .tc main_arg16) := (V5_kept m d main_arg16 (by decide)).trans (V4_arg m d main_arg16 (by decide))

theorem arr2_12 : arr2 m d 12 = shapeCast S1x64 (m (d, Proc.devRef .tc main_arg17)) shapeCasts_S64_S1x64 := by
  show V5 m d (Proc.devRef .tc main_v15) = _
  have e := V4_arg m d main_arg17 (by decide)
  unfold V5 ops2
  after_reads_simp
  rw [e]
  rfl

theorem arr2_13 : arr2 m d 13 = shapeCast S1x64 (m (d, Proc.devRef .tc main_arg18)) shapeCasts_S64_S1x64 := by
  show V5 m d (Proc.devRef .tc main_v16) = _
  have e := V4_arg m d main_arg18 (by decide)
  unfold V5 ops2
  after_reads_simp
  rw [e]
  rfl

theorem arr2_14 : arr2 m d 14 = shapeCast S1x64 (m (d, Proc.devRef .tc main_arg19)) shapeCasts_S64_S1x64 := by
  show V5 m d (Proc.devRef .tc main_v17) = _
  have e := V4_arg m d main_arg19 (by decide)
  unfold V5 ops2
  after_reads_simp
  rw [e]
  rfl

theorem arr2_15 : arr2 m d 15 = m (d, Proc.devRef .tc main_arg20) := (V5_kept m d main_arg20 (by decide)).trans (V4_arg m d main_arg20 (by decide))

theorem arr2_16 : arr2 m d 16 = shapeCast S1x1 (m (d, Proc.devRef .tc main_arg21)) shapeCasts_S1_S1x1 := by
  show V5 m d (Proc.devRef .tc main_v18) = _
  have e := V4_arg m d main_arg21 (by decide)
  unfold V5 ops2
  after_reads_simp
  rw [e]
  rfl

/-- What the program returns. -/
theorem V7_v20 : V7 m d (Proc.devRef .tc main_v20)
    = kernelOut (m (d, Proc.devRef .tc main_arg0)) (m (d, Proc.devRef .tc main_arg1)) (m (d, Proc.devRef .tc main_arg2)) (m (d, Proc.devRef .tc main_arg3))
        (m (d, Proc.devRef .tc main_arg4)) (m (d, Proc.devRef .tc main_arg5)) (m (d, Proc.devRef .tc main_arg6)) (m (d, Proc.devRef .tc main_arg8))
        (m (d, Proc.devRef .tc main_arg9)) (m (d, Proc.devRef .tc main_arg10)) (m (d, Proc.devRef .tc main_arg11)) (m (d, Proc.devRef .tc main_arg12))
        (m (d, Proc.devRef .tc main_arg13)) (m (d, Proc.devRef .tc main_arg14)) (m (d, Proc.devRef .tc main_arg15)) (m (d, Proc.devRef .tc main_arg16))
        (m (d, Proc.devRef .tc main_arg17)) (m (d, Proc.devRef .tc main_arg18)) (m (d, Proc.devRef .tc main_arg19)) (m (d, Proc.devRef .tc main_arg20))
        (m (d, Proc.devRef .tc main_arg21)) := by
  have e := V6_v19 m d
  rw [arr2_0, arr2_1, arr2_2, arr2_3, arr2_4, arr2_5, arr2_6, arr2_7, arr2_8, arr2_9, arr2_10, arr2_11, arr2_12, arr2_13, arr2_14, arr2_15, arr2_16] at e
  unfold V7 ops3
  after_reads_simp
  rw [e]
  rfl

end Cert.Proof

end
-- ==== Proof.Pre.lean ====
/-
  What the two preconditions say: user and item ids inside their tables; and, for the values, genre ids too, and the
  float arguments that need it below infinity in absolute value.
-/
module

public import proofs.«01_k».proof.Defs
public import Idealize.ShloMosaic.Lib.ReduceAll
public import Idealize.ShloMosaic.Lib.StableHlo.Predicate
public import Idealize.ShloMosaic.PureOps.Ideal.Laws

@[expose] public section

noncomputable section

namespace Cert.Proof

open Idealize.ShloMosaic Cert.Pre_in_range

variable {F : FTy → Type} [FloatOps F]

/-- Every entry's absolute value compares below plus infinity. -/
def Below {s : Shape} (x : FVec F s .f32) : Prop :=
  ∀ i, FloatOps.cmpf .olt (FloatOps.hostAbsf (x i)) (FloatOps.ofBits .f32 0x7F800000#32 : F .f32) = 1#1

/-- What a run asks of the arguments: the ids the gather reads its rows by name rows of the tables. -/
structure InTable (a0 : IVec S16384 32) (a1 : IVec S16384 32) : Prop where
  u : ∀ i, (a0 i).toNat < 100000
  i : ∀ i, (a1 i).toNat < 100000

/-- What the equality of the results asks of the arguments. -/
structure InRange (a0 : IVec S16384 32) (a1 : IVec S16384 32) (a2 : IVec S16384x5 32) (a3 : FVec F S100000x128 .f32) (a4 : FVec F S100000x128 .f32) (a5 : FVec F S20x32 .f32) (a6 : FVec F S1x32 .f32) (a7 : FVec F S1 .f32) (a8 : FVec F S256x288 .f32) (a9 : FVec F S256 .f32) (a10 : FVec F S256 .f32) (a11 : FVec F S256 .f32) (a12 : FVec F S128x256 .f32) (a13 : FVec F S128 .f32) (a14 : FVec F S128 .f32) (a15 : FVec F S128 .f32) (a16 : FVec F S64x128 .f32) (a17 : FVec F S64 .f32) (a18 : FVec F S64 .f32) (a19 : FVec F S64 .f32) (a20 : FVec F S1x64 .f32) (a21 : FVec F S1 .f32) : Prop where
  u : ∀ i, (a0 i).toNat < 100000
  i : ∀ i, (a1 i).toNat < 100000
  g : ∀ i, (a2 i).toNat < 20
  f3 : Below a3
  f4 : Below a4
  f5 : Below a5
  f6 : Below a6
  f7 : Below a7
  f8 : Below a8
  f10 : Below a10
  f11 : Below a11
  f12 : Below a12
  f14 : Below a14
  f15 : Below a15
  f16 : Below a16
  f17 : Below a17
  f18 : Below a18

instance : Subsingleton S_.Idx := ⟨fun a b => funext fun k => k.elim0⟩

/-- A word that is at least 0 and below `n` as a signed number. -/
theorem below_of (n : BitVec 32) (hn : n.toNat < 2 ^ 31) (v : BitVec 32) (h0 : IntOp.cmpi .sge v 0#32 = 1#1) (h1 : IntOp.cmpi .slt v n = 1#1) : v.toNat < n.toNat := by
  have ofBool_eq (p : Bool) : (BitVec.ofBool p = 1#1) ↔ p = true := by cases p <;> decide
  simp only [IntOp.cmpi, ofBool_eq, BitVec.sle_eq_decide, BitVec.slt_eq_decide, decide_eq_true_eq, BitVec.toInt_eq_toNat_cond,
    BitVec.toNat_ofNat, Nat.reducePow, Nat.reduceMod] at h0 h1
  have := v.isLt
  have := n.isLt
  split at h1 <;> split at h1 <;> omega

/-- The comparison of a whole array, read entry by entry. -/
theorem below_of_all {s t : Shape} (hd) (x : FVec F s .f32) (init : IVec t 1) {axes} (hr) (ht) (j : t.Idx) [Subsingleton t.Idx]
    (e : Host.reduce IntOp.andi (cmpf .olt (Host.absf x) (broadcastInDim s ![] hd (constant S_ .f32 0x7F800000#32))) init (axes := axes) hr ht j = 1#1) :
    Below x := fun i => by
  have h := Host.reduce_andi_all _ _ _ _ _ e i
  simp only [cmpf, Host.absf, broadcastInDim, constant] at h
  exact h

instance table_facts : Cert.Pre_ids_in_table.Facts where
  bcast_S_S16384 := by decide
  reducesTo_S16384_S_d0 := by decide
  h_S_ := by decide

theorem inTable_of {a0 : IVec S16384 32} {a1 : IVec S16384 32} {a2 : IVec S16384x5 32} {a3 : FVec F S100000x128 .f32} {a4 : FVec F S100000x128 .f32} {a5 : FVec F S20x32 .f32} {a6 : FVec F S1x32 .f32} {a7 : FVec F S1 .f32} {a8 : FVec F S256x288 .f32} {a9 : FVec F S256 .f32} {a10 : FVec F S256 .f32} {a11 : FVec F S256 .f32} {a12 : FVec F S128x256 .f32} {a13 : FVec F S128 .f32} {a14 : FVec F S128 .f32} {a15 : FVec F S128 .f32} {a16 : FVec F S64x128 .f32} {a17 : FVec F S64 .f32} {a18 : FVec F S64 .f32} {a19 : FVec F S64 .f32} {a20 : FVec F S1x64 .f32} {a21 : FVec F S1 .f32}
    (e : Cert.Pre_ids_in_table.fn (F := F) a0 a1 a2 a3 a4 a5 a6 a7 a8 a9 a10 a11 a12 a13 a14 a15 a16 a17 a18 a19 a20 a21 = fun _ => 1#1) :
    InTable a0 a1 := by
  have e := congrFun e (fun k : Fin 0 => k.elim0)
  simp only [Cert.Pre_ids_in_table.fn, andi, IntOp.andi_eq_one] at e
  obtain ⟨⟨⟨h0, h0'⟩, h1⟩, h1'⟩ := e
  exact {
    u := fun i => below_of 100000#32 (by decide) _ (Host.reduce_andi_all _ _ _ _ _ h0 i) (Host.reduce_andi_all _ _ _ _ _ h0' i)
    i := fun i => below_of 100000#32 (by decide) _ (Host.reduce_andi_all _ _ _ _ _ h1 i) (Host.reduce_andi_all _ _ _ _ _ h1' i) }

theorem inRange_of {a0 : IVec S16384 32} {a1 : IVec S16384 32} {a2 : IVec S16384x5 32} {a3 : FVec F S100000x128 .f32} {a4 : FVec F S100000x128 .f32} {a5 : FVec F S20x32 .f32} {a6 : FVec F S1x32 .f32} {a7 : FVec F S1 .f32} {a8 : FVec F S256x288 .f32} {a9 : FVec F S256 .f32} {a10 : FVec F S256 .f32} {a11 : FVec F S256 .f32} {a12 : FVec F S128x256 .f32} {a13 : FVec F S128 .f32} {a14 : FVec F S128 .f32} {a15 : FVec F S128 .f32} {a16 : FVec F S64x128 .f32} {a17 : FVec F S64 .f32} {a18 : FVec F S64 .f32} {a19 : FVec F S64 .f32} {a20 : FVec F S1x64 .f32} {a21 : FVec F S1 .f32}
    [Cert.Pre_in_range.Facts] (e : Cert.Pre_in_range.fn (F := F) a0 a1 a2 a3 a4 a5 a6 a7 a8 a9 a10 a11 a12 a13 a14 a15 a16 a17 a18 a19 a20 a21 = fun _ => 1#1) :
    InRange a0 a1 a2 a3 a4 a5 a6 a7 a8 a9 a10 a11 a12 a13 a14 a15 a16 a17 a18 a19 a20 a21 := by
  have e := congrFun e (fun k : Fin 0 => k.elim0)
  simp only [fn, fn_part1, fn_part2, fn_part3, fn_part4, fn_part5, andi, IntOp.andi_eq_one] at e
  obtain ⟨⟨⟨⟨⟨⟨⟨⟨⟨⟨⟨⟨⟨⟨⟨⟨⟨⟨⟨h0, h0'⟩, h1⟩, h1'⟩, h2⟩, h2'⟩, h3⟩, h4⟩, h5⟩, h6⟩, h7⟩, h8⟩, h10⟩, h11⟩, h12⟩, h14⟩, h15⟩, h16⟩, h17⟩, h18⟩ := e
  exact {
    u := fun i => below_of 100000#32 (by decide) _ (Host.reduce_andi_all _ _ _ _ _ h0 i) (Host.reduce_andi_all _ _ _ _ _ h0' i)
    i := fun i => below_of 100000#32 (by decide) _ (Host.reduce_andi_all _ _ _ _ _ h1 i) (Host.reduce_andi_all _ _ _ _ _ h1' i)
    g := fun i => below_of 20#32 (by decide) _ (Host.reduce_andi_all _ _ _ _ _ h2 i) (Host.reduce_andi_all _ _ _ _ _ h2' i)
    f3 := below_of_all _ _ _ _ _ _ h3
    f4 := below_of_all _ _ _ _ _ _ h4
    f5 := below_of_all _ _ _ _ _ _ h5
    f6 := below_of_all _ _ _ _ _ _ h6
    f7 := below_of_all _ _ _ _ _ _ h7
    f8 := below_of_all _ _ _ _ _ _ h8
    f10 := below_of_all _ _ _ _ _ _ h10
    f11 := below_of_all _ _ _ _ _ _ h11
    f12 := below_of_all _ _ _ _ _ _ h12
    f14 := below_of_all _ _ _ _ _ _ h14
    f15 := below_of_all _ _ _ _ _ _ h15
    f16 := below_of_all _ _ _ _ _ _ h16
    f17 := below_of_all _ _ _ _ _ _ h17
    f18 := below_of_all _ _ _ _ _ _ h18 }

/-- Below infinity in absolute value, an ideal float is a real. -/
theorem real_of_below {s : Shape} {x : FVec Ideal s .f32} (h : Below x) (i : s.Idx) : ∃ r : ℝ, x i = (r : EReal) := by
  have ofBool_eq (p : Bool) : (BitVec.ofBool p = 1#1) ↔ p = true := by cases p <;> decide
  have htop : (FloatOps.ofBits .f32 0x7F800000#32 : Ideal .f32) = (⊤ : EReal) := by
    show Ideal.ofBits .f32 0x7F800000#32 = ⊤
    simp [Ideal.ofBits, Ideal.ieee]
  have e := h i
  rw [htop, Ideal.cmpf_def, Ideal.hostAbsf_def] at e
  simp only [Ideal.cmp, ofBool_eq, decide_eq_true_eq] at e
  have e1 := lt_of_le_of_lt (le_max_left _ _) e
  have e2 := lt_of_le_of_lt (le_max_right _ _) e
  exact ⟨EReal.toReal (x i), (EReal.coe_toReal (ne_of_lt e1) (fun hb => by rw [hb] at e2; exact absurd e2 (by simp))).symm⟩

end Cert.Proof

end
-- ==== Proof.Frames.lean ====
/-
  The program's runs: it ends, with its arguments unchanged and its counters at zero, and its last array holds `kernelOut` of the arguments.
-/
module

public import proofs.«01_k».proof.Proof.Main
public import proofs.«01_k».proof.Proof.Kept
public import proofs.«01_k».proof.Proof.Pre
public import proofs.«01_k».proof.Proof.Gen.Kernel
public import proofs.«01_k».proof.Proof.Gen.Pre_in_range

@[expose] public section

noncomputable section

namespace Cert.Proof

open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ) (ρ : Dev nD → PrngReg)

/-- The ids a memory holds on one device, inside their tables. -/
abbrev ArgsIn (m : (ℓ : Loc nD τ sig) → Buf (Elt F) ℓ) (d : Dev nD) : Prop :=
  InTable (m (d, Proc.devRef .tc main_arg0)) (m (d, Proc.devRef .tc main_arg1))

/-- An id laid out in a row is an id of the vector. -/
theorem idRows_lt (a : S16384.Idx → Elt F .i32) (h : ∀ i, BitVec.toNat (a i) < 100000) (x : S128x128.Idx) : BitVec.toNat (idRows a x) < 100000 := h _

theorem run_args [∀ e, Nonempty (Elt F e)] (h : ∀ d, ArgsIn m d) :
    θ_run (Cert.KernelIdeal.defs (F := F)) (Cert.KernelIdeal.threads (F := F)) ⟨m, fun _ => 0, ρ⟩
      fun r => (∀ d : Dev nD, ∀ b ∈ Pipeline.ucRefs τ sig, r.2.mem (d, b) = V7 m d b) ∧ r.2.sem = fun _ => 0 :=
  run_main m ρ (fun d x => by rw [opnd_iu]; exact idRows_lt _ (h d).u x) (fun d x => by rw [opnd_ii]; exact idRows_lt _ (h d).i x)

/-- An argument, read at the end of a run. -/
theorem read_arg {s' : (ℓ : Loc nD τ sig) → Buf (Elt F) ℓ} {d : Dev nD} (h : ∀ b ∈ Pipeline.ucRefs τ sig, s' (d, b) = V7 m d b)
    (r : Ref sig .tc) (hs : r.isScoped = false) (hr : r ∉ written) : s' (d, Proc.devRef .tc r) = m (d, Proc.devRef .tc r) :=
  (h _ (Pipeline.devRef_mem_ucRefs hs)).trans (V7_arg m d r hr)

theorem kept_args {s' : (ℓ : Loc nD τ sig) → Buf (Elt F) ℓ} {d : Dev nD} (h : ∀ b ∈ Pipeline.ucRefs τ sig, s' (d, b) = V7 m d b) :
    s' (d, Proc.devRef .tc main_arg0) = m (d, Proc.devRef .tc main_arg0)
    ∧ s' (d, Proc.devRef .tc main_arg1) = m (d, Proc.devRef .tc main_arg1)
    ∧ s' (d, Proc.devRef .tc main_arg2) = m (d, Proc.devRef .tc main_arg2)
    ∧ s' (d, Proc.devRef .tc main_arg3) = m (d, Proc.devRef .tc main_arg3)
    ∧ s' (d, Proc.devRef .tc main_arg4) = m (d, Proc.devRef .tc main_arg4)
    ∧ s' (d, Proc.devRef .tc main_arg5) = m (d, Proc.devRef .tc main_arg5)
    ∧ s' (d, Proc.devRef .tc main_arg6) = m (d, Proc.devRef .tc main_arg6)
    ∧ s' (d, Proc.devRef .tc main_arg7) = m (d, Proc.devRef .tc main_arg7)
    ∧ s' (d, Proc.devRef .tc main_arg8) = m (d, Proc.devRef .tc main_arg8)
    ∧ s' (d, Proc.devRef .tc main_arg9) = m (d, Proc.devRef .tc main_arg9)
    ∧ s' (d, Proc.devRef .tc main_arg10) = m (d, Proc.devRef .tc main_arg10)
    ∧ s' (d, Proc.devRef .tc main_arg11) = m (d, Proc.devRef .tc main_arg11)
    ∧ s' (d, Proc.devRef .tc main_arg12) = m (d, Proc.devRef .tc main_arg12)
    ∧ s' (d, Proc.devRef .tc main_arg13) = m (d, Proc.devRef .tc main_arg13)
    ∧ s' (d, Proc.devRef .tc main_arg14) = m (d, Proc.devRef .tc main_arg14)
    ∧ s' (d, Proc.devRef .tc main_arg15) = m (d, Proc.devRef .tc main_arg15)
    ∧ s' (d, Proc.devRef .tc main_arg16) = m (d, Proc.devRef .tc main_arg16)
    ∧ s' (d, Proc.devRef .tc main_arg17) = m (d, Proc.devRef .tc main_arg17)
    ∧ s' (d, Proc.devRef .tc main_arg18) = m (d, Proc.devRef .tc main_arg18)
    ∧ s' (d, Proc.devRef .tc main_arg19) = m (d, Proc.devRef .tc main_arg19)
    ∧ s' (d, Proc.devRef .tc main_arg20) = m (d, Proc.devRef .tc main_arg20)
    ∧ s' (d, Proc.devRef .tc main_arg21) = m (d, Proc.devRef .tc main_arg21) :=
  ⟨read_arg m h main_arg0 rfl (by decide),
   read_arg m h main_arg1 rfl (by decide),
   read_arg m h main_arg2 rfl (by decide),
   read_arg m h main_arg3 rfl (by decide),
   read_arg m h main_arg4 rfl (by decide),
   read_arg m h main_arg5 rfl (by decide),
   read_arg m h main_arg6 rfl (by decide),
   read_arg m h main_arg7 rfl (by decide),
   read_arg m h main_arg8 rfl (by decide),
   read_arg m h main_arg9 rfl (by decide),
   read_arg m h main_arg10 rfl (by decide),
   read_arg m h main_arg11 rfl (by decide),
   read_arg m h main_arg12 rfl (by decide),
   read_arg m h main_arg13 rfl (by decide),
   read_arg m h main_arg14 rfl (by decide),
   read_arg m h main_arg15 rfl (by decide),
   read_arg m h main_arg16 rfl (by decide),
   read_arg m h main_arg17 rfl (by decide),
   read_arg m h main_arg18 rfl (by decide),
   read_arg m h main_arg19 rfl (by decide),
   read_arg m h main_arg20 rfl (by decide),
   read_arg m h main_arg21 rfl (by decide)⟩

theorem read_result {s' : (ℓ : Loc nD τ sig) → Buf (Elt F) ℓ} {d : Dev nD} (h : ∀ b ∈ Pipeline.ucRefs τ sig, s' (d, b) = V7 m d b) :
    s' (d, Proc.devRef .tc main_v20) = V7 m d (Proc.devRef .tc main_v20) :=
  h _ (Pipeline.devRef_mem_ucRefs rfl)

theorem frame_ideal : Cert.quiescent_KernelIdeal := fun m ρ hP =>
  (θ_run (Cert.KernelIdeal.defs (F := Ideal)) _ _).mono (fun r h => ⟨fun d => kept_args m (h.1 d), h.2⟩) (run_args m ρ fun d => inTable_of (hP d))

/-- The same under the second precondition, which asks for more. -/
theorem frame_ideal_in_range : Cert.quiescent_KernelIdeal_pre_in_range := fun m ρ hP =>
  (θ_run (Cert.KernelIdeal.defs (F := Ideal)) _ _).mono (fun r h => ⟨fun d => kept_args m (h.1 d), h.2⟩)
    (run_args m ρ fun d => ⟨(inRange_of (hP d)).u, (inRange_of (hP d)).i⟩)

end Cert.Proof

end
-- ==== Proof.FrameKernel.lean ====
/-
  The two printed programs are one program; the floating-point one's run is the run at machine floats.
-/
module

public import proofs.«01_k».proof.Proof.Frames

@[expose] public section

set_option maxHeartbeats 4000000

noncomputable section

namespace Cert.Proof

open Idealize.ShloMosaic Idealize.SL.Sem

/-- The kernels' bodies agree on each processor. -/
theorem bodies_same : Cert.Kernel.defs₀ (F := Bits) = Cert.KernelIdeal.defs₀ (F := Bits) := by
  funext p ℓ a
  cases p with
  | tc =>
    match ℓ, a with
    | 0, a => rfl
    | 1, a => rfl
    | 2, a => rfl
  | scScalar c =>
    match ℓ, a with
    | 0, a => rfl
    | 1, a => rfl
    | 2, a => rfl
  | scVector c s =>
    match ℓ, a with
    | 0, a => rfl
    | 1, a => rfl
    | 2, a => rfl

theorem defs_same : Cert.Kernel.defs (F := Bits) = Cert.KernelIdeal.defs (F := Bits) := by
  show Cert.Kernel.sc.defs (Pipeline.defs Cert.Kernel.pcfgs Cert.Kernel.defs₀)
    = Cert.KernelIdeal.sc.defs (Pipeline.defs Cert.KernelIdeal.pcfgs Cert.KernelIdeal.defs₀)
  rw [bodies_same]
  rfl

theorem threads_same : Cert.Kernel.threads (F := Bits) = Cert.KernelIdeal.threads (F := Bits) := rfl

/-- The floating-point program's frame. -/
theorem frame_kernel : Cert.quiescent_Kernel := fun m ρ hP => by
  rw [defs_same, threads_same]
  have h := run_args (F := Bits) m ρ fun d => inTable_of (F := Bits) (hP d)
  refine (θ_run (Cert.KernelIdeal.defs (F := Bits)) _ _).mono (fun r h => ?_) h
  exact ⟨fun d => kept_args (F := Bits) m (h.1 d), h.2⟩

end Cert.Proof

end
-- ==== Proof.Scalars.lean ====
/-
  The real numbers behind the two programs: a column's mean and variance, and softmax, stated for plain reals and
  carried to the extended reals the programs compute in.
-/
module

public import Idealize.ShloMosaic.Lib.Pointwise

@[expose] public section

noncomputable section

namespace Cert.Proof

open Idealize.ShloMosaic

/-! ## The constants -/

/-- The small number added to a variance before its root is taken. -/
def tiny : ℝ := 10995116 / 2 ^ 40

theorem tiny_pos : 0 < tiny := by unfold tiny; positivity

theorem bits_tiny : Ideal.ofBits .f32 0x3727C5AC#32 = (tiny : EReal) := by
  simp [Ideal.ofBits, Ideal.ieee, tiny]
  rw [← EReal.coe_mul]
  norm_num

theorem bits_rows : Ideal.ofBits .f32 0x46800000#32 = ((16384 : ℝ) : EReal) := by
  simp [Ideal.ofBits, Ideal.ieee]
  rw [← EReal.coe_mul]
  norm_num

theorem bits_one : Ideal.ofBits .f32 0x3F800000#32 = ((1 : ℝ) : EReal) := by
  simp [Ideal.ofBits, Ideal.ieee]
  rw [← EReal.coe_one, ← EReal.coe_mul]
  norm_num

theorem bits_five : Ideal.ofBits .f32 0x40A00000#32 = ((5 : ℝ) : EReal) := by
  simp [Ideal.ofBits, Ideal.ieee]
  rw [← EReal.coe_mul]
  norm_num

theorem bits_low : Ideal.ofBits .f32 0xFF800000#32 = (⊥ : EReal) := by
  simp [Ideal.ofBits, Ideal.ieee]

/-! ## Sums of reals -/

theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s h ih => rw [Finset.sum_insert h, Finset.sum_insert h, ih, EReal.coe_add]

theorem div_real (x y : ℝ) (h : y ≠ 0) : Ideal.div (x : EReal) (y : EReal) = ((x / y : ℝ) : EReal) := by
  rw [Ideal.div_coe h, ← EReal.coe_mul, mul_one_div]

theorem max_real (x y : ℝ) : max (x : EReal) (y : EReal) = ((max x y : ℝ) : EReal) :=
  (EReal.coe_strictMono.monotone.map_max (a := x) (b := y)).symm

/-! ## Mean and variance -/

/-- The mean of a column of 16384 numbers. -/
def mean (Z : Fin 16384 → ℝ) : ℝ := (∑ b, Z b) / 16384

/-- The variance of a column: the mean of the squared distances from the mean. -/
def spread (Z : Fin 16384 → ℝ) : ℝ := (∑ b, (Z b - mean Z) * (Z b - mean Z)) / 16384

theorem spread_nonneg (Z : Fin 16384 → ℝ) : 0 ≤ spread Z := by
  unfold spread
  refine div_nonneg (Finset.sum_nonneg fun b _ => mul_self_nonneg _) (by norm_num)

/-- The variance is the mean square less the squared mean. -/
theorem spread_eq (Z : Fin 16384 → ℝ) : (∑ b, Z b * Z b) / 16384 - mean Z * mean Z = spread Z := by
  have h : ∀ b, (Z b - mean Z) * (Z b - mean Z) = Z b * Z b - 2 * mean Z * Z b + mean Z * mean Z := fun b => by ring
  have e : (∑ b, Z b) = 16384 * mean Z := by unfold mean; ring
  unfold spread
  simp only [h, Finset.sum_add_distrib, Finset.sum_sub_distrib, ← Finset.mul_sum, e, Finset.sum_const, Finset.card_univ,
    Fintype.card_fin, nsmul_eq_mul]
  push_cast
  ring

/-! ## Softmax -/

/-- The softmax weight of entry `g` among five. -/
def soft (x : Fin 5 → ℝ) (g : Fin 5) : ℝ := Real.exp (x g) / ∑ k, Real.exp (x k)

/-- The largest of finitely many reals, started below all of them, is a real. -/
theorem fold_max_real (x : Fin 5 → ℝ) : ∃ M : ℝ, Finset.univ.fold max (⊥ : EReal) (fun k => (x k : EReal)) = (M : EReal) := by
  refine ⟨max (x 0) (max (x 1) (max (x 2) (max (x 3) (x 4)))), ?_⟩
  have hu : (Finset.univ : Finset (Fin 5)) = {0, 1, 2, 3, 4} := by decide
  rw [hu]
  simp [max_real]

/-- A softmax does not change when one real is taken off every entry. -/
theorem soft_shift (x : Fin 5 → ℝ) (M : ℝ) (g : Fin 5) :
    Real.exp (x g - M) / ∑ k, Real.exp (x k - M) = soft x g := by
  unfold soft
  simp only [Real.exp_sub, ← Finset.sum_div]
  rw [div_div_div_cancel_right₀ (Real.exp_ne_zero M)]

theorem soft_add (x : Fin 5 → ℝ) (c : ℝ) (g : Fin 5) : soft (fun k => x k + c) g = soft x g := by
  have := soft_shift x (-c) g
  simpa only [soft, sub_neg_eq_add] using this

/-- The softmax as both programs compute it: any real taken off, exponentials, their quotient by their sum. -/
theorem soft_coe (x : Fin 5 → ℝ) (g : Fin 5) {m : EReal} (hm : ∃ M : ℝ, m = (M : EReal)) :
    Ideal.div (Ideal.exp ((x g : EReal) - m)) (∑ k, Ideal.exp ((x k : EReal) - m)) = (soft x g : EReal) := by
  obtain ⟨M, rfl⟩ := hm
  have h : ∀ k, Ideal.exp ((x k : EReal) - (M : EReal)) = ((Real.exp (x k - M) : ℝ) : EReal) := fun k => by
    rw [← EReal.coe_sub, Ideal.exp_coe]
  simp only [h, coe_sum]
  rw [div_real _ _ (Finset.sum_pos (fun k _ => Real.exp_pos _) Finset.univ_nonempty).ne', soft_shift]

end Cert.Proof

end
-- ==== Proof.Norm.lean ====
/-
  One column of 16384 extended reals normalised, as the kernel computes it and as the reference does. On a column of
  reals the two agree. On a column of reals plus one infinity each gives a constant, though not the same one; the next
  layer's normalisation takes a column's constant off again.
-/
module

public import proofs.«01_k».proof.Proof.Scalars

@[expose] public section

noncomputable section

namespace Cert.Proof

open Idealize.ShloMosaic

/-- The number of rows, as the programs hold it. -/
abbrev rowCount : EReal := Ideal.ofBits .f32 0x46800000#32

/-- The number added to a variance, as the programs hold it. -/
abbrev smallNumber : EReal := Ideal.ofBits .f32 0x3727C5AC#32

theorem rowCount_eq : rowCount = ((16384 : ℝ) : EReal) := bits_rows

theorem smallNumber_eq : smallNumber = (tiny : EReal) := bits_tiny

/-- The kernel's factor for a column with sum `s` and sum of squares `ss`. -/
def factor (s ss γ : EReal) : EReal :=
  Ideal.rsqrt (Ideal.div ss rowCount - Ideal.div s rowCount * Ideal.div s rowCount + smallNumber) * γ

/-- The kernel's normalisation of an entry `x`. -/
def entry (x s ss γ β : EReal) : EReal := max (x * factor s ss γ + (β - Ideal.div s rowCount * factor s ss γ)) 0

/-- The kernel's normalisation of a column. -/
def actK (f : Fin 16384 → EReal) (γ β : EReal) (b : Fin 16384) : EReal := entry (f b) (∑ b, f b) (∑ b, f b * f b) γ β

/-- The reference's variance of a column. -/
def varR (f : Fin 16384 → EReal) : EReal :=
  Ideal.div (∑ b, (f b - Ideal.div (∑ b, f b) rowCount) * (f b - Ideal.div (∑ b, f b) rowCount)) ((16384 : ℝ) : EReal)

/-- The reference's normalisation of a column. -/
def actR (f : Fin 16384 → EReal) (γ β : EReal) (b : Fin 16384) : EReal :=
  max (Ideal.div (γ * (f b - Ideal.div (∑ b, f b) rowCount)) (Ideal.sqrt (varR f + smallNumber)) + β) 0

/-! ## Columns of reals -/

/-- A column less its mean, over its deviation, times `γ`. -/
def normal (Z : Fin 16384 → ℝ) (γ : ℝ) (b : Fin 16384) : ℝ := γ * (Z b - mean Z) / Real.sqrt (spread Z + tiny)

theorem mean_add (Z : Fin 16384 → ℝ) (d : ℝ) : mean (fun b => Z b + d) = mean Z + d := by
  unfold mean
  simp only [Finset.sum_add_distrib, Finset.sum_const, Finset.card_univ, Fintype.card_fin, nsmul_eq_mul]
  push_cast
  ring

/-- A constant added to a column does not show after it is normalised. -/
theorem normal_add (Z : Fin 16384 → ℝ) (d γ : ℝ) (b : Fin 16384) : normal (fun b => Z b + d) γ b = normal Z γ b := by
  unfold normal spread
  simp only [mean_add, add_sub_add_right_eq_sub]

theorem root_pos (Z : Fin 16384 → ℝ) : 0 < spread Z + tiny := add_pos_of_nonneg_of_pos (spread_nonneg Z) tiny_pos

theorem actK_real (Z : Fin 16384 → ℝ) (γ : ℝ) (β : EReal) (b : Fin 16384) :
    actK (fun b => (Z b : EReal)) γ β b = max ((normal Z γ b : EReal) + β) 0 := by
  have hp := root_pos Z
  have hr : Ideal.rsqrt ((spread Z + tiny : ℝ) : EReal) = ((Real.sqrt (spread Z + tiny))⁻¹ : ℝ) := by
    show (if spread Z + tiny < 0 then (⊥ : EReal) else if spread Z + tiny = 0 then ⊤ else _) = _
    rw [if_neg (not_lt.mpr hp.le), if_neg hp.ne']
  have hm : Ideal.div (∑ b, (Z b : EReal)) rowCount = (mean Z : EReal) := by
    rw [coe_sum, rowCount_eq, div_real _ _ (by norm_num)]; rfl
  have hv : Ideal.div (∑ b, (Z b : EReal) * (Z b : EReal)) rowCount - (mean Z : EReal) * (mean Z : EReal) + smallNumber
      = ((spread Z + tiny : ℝ) : EReal) := by
    simp only [← EReal.coe_mul]
    rw [coe_sum, rowCount_eq, smallNumber_eq, div_real _ _ (by norm_num), ← EReal.coe_sub, ← EReal.coe_add, spread_eq]
  unfold actK entry factor
  rw [hm, hv, hr, ← EReal.coe_mul, ← EReal.coe_mul, ← EReal.coe_mul, sub_eq_add_neg, ← EReal.coe_neg, add_left_comm, ← EReal.coe_add,
    add_comm]
  congr 3
  unfold normal
  rw [div_eq_mul_inv]
  ring

theorem actR_real (Z : Fin 16384 → ℝ) (γ : ℝ) (β : EReal) (b : Fin 16384) :
    actR (fun b => (Z b : EReal)) γ β b = max ((normal Z γ b : EReal) + β) 0 := by
  have hp := root_pos Z
  have hr : Ideal.sqrt ((spread Z + tiny : ℝ) : EReal) = (Real.sqrt (spread Z + tiny) : ℝ) := by
    show (if spread Z + tiny < 0 then (⊥ : EReal) else _) = _
    rw [if_neg (not_lt.mpr hp.le)]
  have hm : Ideal.div (∑ b, (Z b : EReal)) rowCount = (mean Z : EReal) := by
    rw [coe_sum, rowCount_eq, div_real _ _ (by norm_num)]; rfl
  have hv : varR (fun b => (Z b : EReal)) = (spread Z : EReal) := by
    unfold varR
    simp only [hm, ← EReal.coe_sub, ← EReal.coe_mul]
    rw [coe_sum, div_real _ _ (by norm_num)]
    rfl
  unfold actR
  rw [hm, hv, smallNumber_eq, ← EReal.coe_add, hr, ← EReal.coe_sub, ← EReal.coe_mul, div_real _ _ (Real.sqrt_pos.mpr hp).ne']
  rfl

/-! ## Columns of one infinity -/

theorem sum_top : ∑ _b : Fin 16384, (⊤ : EReal) = ⊤ := by
  rw [Finset.sum_const, Finset.card_univ, Fintype.card_fin, EReal.nsmul_eq_mul]
  exact EReal.coe_mul_top_of_pos (x := ((16384 : ℕ) : ℝ)) (by norm_num)

theorem sum_bot : ∑ _b : Fin 16384, (⊥ : EReal) = ⊥ := by
  rw [Finset.sum_const, Finset.card_univ, Fintype.card_fin, EReal.nsmul_eq_mul]
  exact EReal.coe_mul_bot_of_pos (x := ((16384 : ℕ) : ℝ)) (by norm_num)

theorem top_div : Ideal.div ⊤ ((16384 : ℝ) : EReal) = ⊤ := by
  rw [Ideal.div_coe (by norm_num)]
  exact EReal.top_mul_coe_of_pos (by norm_num)

theorem bot_div : Ideal.div ⊥ ((16384 : ℝ) : EReal) = ⊥ := by
  rw [Ideal.div_coe (by norm_num)]
  exact EReal.bot_mul_coe_of_pos (by norm_num)

/-- An infinity times a real is 0 or an infinity. -/
theorem bot_mul_real (γ : ℝ) : (⊥ : EReal) * γ = 0 ∨ (⊥ : EReal) * γ = ⊥ ∨ (⊥ : EReal) * γ = ⊤ := by
  rcases lt_trichotomy γ 0 with h | rfl | h
  · exact .inr (.inr (EReal.bot_mul_coe_of_neg h))
  · exact .inl (by simp)
  · exact .inr (.inl (EReal.bot_mul_coe_of_pos h))

/-- The kernel's normalisation of a column of one infinity: one real. -/
theorem actK_const {c : EReal} (hc : c = ⊤ ∨ c = ⊥) (γ β : ℝ) : ∃ k : ℝ, ∀ b, actK (fun _ => c) γ β b = (k : EReal) := by
  have hs : factor (∑ _b : Fin 16384, c) (∑ _b : Fin 16384, c * c) γ = ⊥ * γ := by
    unfold factor
    rw [rowCount_eq, smallNumber_eq]
    rcases hc with rfl | rfl
    · rw [EReal.top_mul_top, sum_top, top_div, EReal.top_mul_top]; rfl
    · rw [EReal.bot_mul_bot, sum_top, sum_bot, top_div, bot_div, EReal.bot_mul_bot]; rfl
  have hm : Ideal.div (∑ _b : Fin 16384, c) rowCount = c := by
    rw [rowCount_eq]
    rcases hc with rfl | rfl
    · rw [sum_top, top_div]
    · rw [sum_bot, bot_div]
  unfold actK entry
  rw [hs, hm]
  rcases bot_mul_real γ with h | h | h
  · refine ⟨max β 0, fun _ => ?_⟩
    rw [h, mul_zero, sub_zero, zero_add, ← EReal.coe_zero, max_real]
  · refine ⟨0, fun _ => ?_⟩
    rw [h]
    rcases hc with rfl | rfl <;> simp
  · refine ⟨0, fun _ => ?_⟩
    rw [h]
    rcases hc with rfl | rfl <;> simp

/-- The reference's normalisation of a column of one infinity: one real. -/
theorem actR_const {c : EReal} (hc : c = ⊤ ∨ c = ⊥) (γ β : ℝ) : ∃ k : ℝ, ∀ b, actR (fun _ => c) γ β b = (k : EReal) := by
  have hm : Ideal.div (∑ _b : Fin 16384, c) rowCount = c := by
    rw [rowCount_eq]
    rcases hc with rfl | rfl
    · rw [sum_top, top_div]
    · rw [sum_bot, bot_div]
  have hd : c - c = ⊥ := by rcases hc with rfl | rfl <;> simp
  have hv : Ideal.sqrt (varR (fun _ => c) + smallNumber) = ⊤ := by
    unfold varR
    simp only [hm, hd, EReal.bot_mul_bot]
    rw [sum_top, top_div, smallNumber_eq]
    rfl
  refine ⟨max β 0, fun _ => ?_⟩
  unfold actR
  simp only [hm, hd, hv]
  have hq : ∀ x : EReal, Ideal.div x ⊤ = 0 := fun x => by
    unfold Ideal.div
    rw [if_neg (by simp)]
    simp
  rw [hq, zero_add, ← EReal.coe_zero, max_real]

/-! ## A column of reals plus a constant that may be infinite -/

/-- What a column of reals plus `c` is normalised to, up to a constant: nothing where `c` is infinite. -/
def part (Z : Fin 16384 → ℝ) (c : EReal) (γ β : ℝ) (b : Fin 16384) : ℝ :=
  if c = ⊤ ∨ c = ⊥ then 0 else max (normal Z γ b + β) 0

theorem shifted_top {c : EReal} (hc : c = ⊤ ∨ c = ⊥) (x : ℝ) : (x : EReal) + c = c := by
  rcases hc with rfl | rfl <;> simp

theorem real_or (c : EReal) : (c = ⊤ ∨ c = ⊥) ∨ ∃ r : ℝ, c = (r : EReal) := by
  induction c using EReal.rec with
  | bot => exact .inl (.inr rfl)
  | top => exact .inl (.inl rfl)
  | coe r => exact .inr ⟨r, rfl⟩

theorem actK_part (Z : Fin 16384 → ℝ) (d : ℝ) (c : EReal) (γ β : ℝ) :
    ∃ k : ℝ, ∀ b, actK (fun b => ((Z b + d : ℝ) : EReal) + c) γ β b = ((part Z c γ β b + k : ℝ) : EReal) := by
  rcases real_or c with hc | ⟨r, rfl⟩
  · obtain ⟨k, hk⟩ := actK_const hc γ β
    refine ⟨k, fun b => ?_⟩
    simp only [shifted_top hc, hk, part, if_pos hc, zero_add]
  · refine ⟨0, fun b => ?_⟩
    have e : (fun b => ((Z b + d : ℝ) : EReal) + (r : EReal)) = fun b => ((Z b + (d + r) : ℝ) : EReal) := funext fun b => by
      rw [← EReal.coe_add, add_assoc]
    rw [e, actK_real, normal_add, ← EReal.coe_add, ← EReal.coe_zero, max_real]
    simp [part]

theorem actR_part (Z : Fin 16384 → ℝ) (d : ℝ) (c : EReal) (γ β : ℝ) :
    ∃ k : ℝ, ∀ b, actR (fun b => ((Z b + d : ℝ) : EReal) + c) γ β b = ((part Z c γ β b + k : ℝ) : EReal) := by
  rcases real_or c with hc | ⟨r, rfl⟩
  · obtain ⟨k, hk⟩ := actR_const hc γ β
    refine ⟨k, fun b => ?_⟩
    simp only [shifted_top hc, hk, part, if_pos hc, zero_add]
  · refine ⟨0, fun b => ?_⟩
    have e : (fun b => ((Z b + d : ℝ) : EReal) + (r : EReal)) = fun b => ((Z b + (d + r) : ℝ) : EReal) := funext fun b => by
      rw [← EReal.coe_add, add_assoc]
    rw [e, actR_real, normal_add, ← EReal.coe_add, ← EReal.coe_zero, max_real]
    simp [part]

/-! ## The layers -/

/-- What the layers need of a normalisation: columns of reals, and columns of reals plus one constant. -/
structure Normalises (a : (Fin 16384 → EReal) → EReal → EReal → Fin 16384 → EReal) : Prop where
  real : ∀ (Z : Fin 16384 → ℝ) (γ : ℝ) (β : EReal) (b : Fin 16384),
    a (fun b => (Z b : EReal)) γ β b = max ((normal Z γ b : EReal) + β) 0
  part : ∀ (Z : Fin 16384 → ℝ) (d : ℝ) (c : EReal) (γ β : ℝ),
    ∃ k : ℝ, ∀ b, a (fun b => ((Z b + d : ℝ) : EReal) + c) γ β b = ((part Z c γ β b + k : ℝ) : EReal)

theorem normalises_kernel : Normalises actK := ⟨actK_real, actK_part⟩

theorem normalises_reference : Normalises actR := ⟨actR_real, actR_part⟩

/-- One layer: every column normalised, then a matrix of weights and a bias. -/
def layer (a : (Fin 16384 → EReal) → EReal → EReal → Fin 16384 → EReal) {n m : ℕ} (f : Fin 16384 → Fin n → EReal) (γ β : Fin n → EReal)
    (W : Fin m → Fin n → EReal) (c : Fin m → EReal) (b : Fin 16384) (j : Fin m) : EReal :=
  ∑ k, a (fun b => f b k) (γ k) (β k) b * W j k + c j

/-- The layers after the first, the sigmoid and the factor five. -/
def rest (a : (Fin 16384 → EReal) → EReal → EReal → Fin 16384 → EReal) (f : Fin 16384 → Fin 256 → EReal) (γ0 β0 : Fin 256 → EReal)
    (W1 : Fin 128 → Fin 256 → EReal) (C1 γ1 β1 : Fin 128 → EReal) (W2 : Fin 64 → Fin 128 → EReal) (C2 γ2 β2 WP : Fin 64 → EReal) (CP : EReal)
    (b : Fin 16384) : EReal :=
  Ideal.logistic (layer a (layer a (layer a f γ0 β0 W1 C1) γ1 β1 W2 C2) γ2 β2 (fun _ : Fin 1 => WP) (fun _ => CP) b 0) * ((5 : ℝ) : EReal)

/-- A layer's reals before its bias, up to a constant for each column. -/
def next {n m : ℕ} (Z : Fin 16384 → Fin n → ℝ) (c : Fin n → EReal) (γ β : Fin n → ℝ) (W : Fin m → Fin n → ℝ) (b : Fin 16384) (j : Fin m) : ℝ :=
  ∑ k, part (fun b => Z b k) (c k) (γ k) (β k) b * W j k

variable {a : (Fin 16384 → EReal) → EReal → EReal → Fin 16384 → EReal}

/-- A layer takes reals plus column constants to reals plus column constants. -/
theorem layer_next (ha : Normalises a) {n m : ℕ} {Z : Fin 16384 → Fin n → ℝ} {c : Fin n → EReal} {γ β : Fin n → ℝ} {W : Fin m → Fin n → ℝ}
    {f : Fin 16384 → Fin n → EReal} (hf : ∃ d : Fin n → ℝ, ∀ b k, f b k = ((Z b k + d k : ℝ) : EReal) + c k) (c' : Fin m → EReal) :
    ∃ d : Fin m → ℝ, ∀ b j, layer a f (fun k => (γ k : EReal)) (fun k => (β k : EReal)) (fun j k => (W j k : EReal)) c' b j
      = ((next Z c γ β W b j + d j : ℝ) : EReal) + c' j := by
  obtain ⟨d, hf⟩ := hf
  choose κ hκ using fun k => ha.part (fun b => Z b k) (d k) (c k) (γ k) (β k)
  refine ⟨fun j => ∑ k, κ k * W j k, fun b j => ?_⟩
  unfold layer next
  simp only [hf, hκ, ← EReal.coe_mul]
  rw [coe_sum]
  simp only [add_mul, Finset.sum_add_distrib]

/-- What the layers give, whichever of the two normalisations they use. -/
theorem rest_eq (ha : Normalises a) {Z : Fin 16384 → Fin 256 → ℝ} {c0 : Fin 256 → EReal} {γ0 β0 : Fin 256 → ℝ} {W1 : Fin 128 → Fin 256 → ℝ}
    {c1 : Fin 128 → EReal} {γ1 β1 : Fin 128 → ℝ} {W2 : Fin 64 → Fin 128 → ℝ} {C2 γ2 : Fin 64 → ℝ} {β2 WP : Fin 64 → EReal} {CP : EReal}
    (b : Fin 16384) :
    rest a (fun b k => (Z b k : EReal) + c0 k) (fun k => (γ0 k : EReal)) (fun k => (β0 k : EReal)) (fun j k => (W1 j k : EReal)) c1
        (fun k => (γ1 k : EReal)) (fun k => (β1 k : EReal)) (fun j k => (W2 j k : EReal)) (fun k => (C2 k : EReal)) (fun k => (γ2 k : EReal))
        β2 WP CP b
      = Ideal.logistic (∑ k, max ((normal (fun b => next (next Z c0 γ0 β0 W1) c1 γ1 β1 W2 b k) (γ2 k) b : EReal) + β2 k) 0 * WP k + CP)
        * ((5 : ℝ) : EReal) := by
  have h0 : ∃ d : Fin 256 → ℝ, ∀ b k, (Z b k : EReal) + c0 k = ((Z b k + d k : ℝ) : EReal) + c0 k :=
    ⟨fun _ => 0, fun b k => by rw [add_zero]⟩
  obtain ⟨d, hd⟩ := layer_next (γ := γ1) (β := β1) (W := W2) ha (layer_next (γ := γ0) (β := β0) (W := W1) ha h0 c1) fun k => (C2 k : EReal)
  unfold rest
  refine congrArg (fun x => Ideal.logistic x * ((5 : ℝ) : EReal)) ?_
  rw [layer]
  simp only [hd, ← EReal.coe_add, ha.real, add_assoc, normal_add]

end Cert.Proof

end
-- ==== Proof.KernelLayers.lean ====
/-
  The second TensorCore call's layers, column by column: each payload is the kernel's normalisation of a column, against
  a matrix.
-/
module

public import proofs.«01_k».proof.Proof.Kept
public import proofs.«01_k».proof.Proof.Norm

@[expose] public section

noncomputable section

namespace Cert.Proof

open Cert.KernelIdeal Cert.KernelIdeal.Gen
open Idealize.ShloMosaic

/-- The second layer's input: the first layer's output normalised and multiplied by the second weights. -/
theorem pay8_at {z : FVec Ideal S16384x256 .f32} {s ss : FVec Ideal S1x256 .f32} (g e : FVec Ideal S1x256 .f32) (w : FVec Ideal S128x256 .f32)
    (c : FVec Ideal S1x128 .f32) (hs : ∀ k, s (ix2 0 k) = ∑ b : Fin 16384, z (ix2 b k)) (hss : ∀ k, ss (ix2 0 k) = ∑ b : Fin 16384, z (ix2 b k) * z (ix2 b k))
    (b : Fin 16384) (j : Fin 128) :
    k2_pay8 (F := Ideal) z s ss g e w c (ix2 b j) = layer actK (fun b k => z (ix2 b k)) (fun k => g (ix2 0 k)) (fun k => e (ix2 0 k))
      (fun j k => w (ix2 j k)) (fun j => c (ix2 0 j)) b j := by
  pointwise [k2_pay8]
  simp only [hs, hss]
  rfl

section
variable (z : FVec Ideal S16384x256 .f32) (s ss g e : FVec Ideal S1x256 .f32) (w : FVec Ideal S128x256 .f32) (c : FVec Ideal S1x128 .f32)

/-- The column sums of the second layer. -/
theorem pay9_at (j : Fin 128) :
    k2_pay9 (F := Ideal) z s ss g e w c (ix2 0 j) = ∑ b, k2_pay8 (F := Ideal) z s ss g e w c (ix2 b j) := by
  pointwise [k2_pay9]

/-- The column sums of squares of the second layer. -/
theorem pay10_at (j : Fin 128) : k2_pay10 (F := Ideal) z s ss g e w c (ix2 0 j)
    = ∑ b, k2_pay8 (F := Ideal) z s ss g e w c (ix2 b j) * k2_pay8 (F := Ideal) z s ss g e w c (ix2 b j) := by
  pointwise [k2_pay10]

end

/-- The third layer's input. -/
theorem pay11_at {z : FVec Ideal S16384x128 .f32} {s ss : FVec Ideal S1x128 .f32} (g e : FVec Ideal S1x128 .f32) (w : FVec Ideal S64x128 .f32)
    (c : FVec Ideal S1x64 .f32) (hs : ∀ k, s (ix2 0 k) = ∑ b : Fin 16384, z (ix2 b k)) (hss : ∀ k, ss (ix2 0 k) = ∑ b : Fin 16384, z (ix2 b k) * z (ix2 b k))
    (b : Fin 16384) (j : Fin 64) :
    k2_pay11 (F := Ideal) z s ss (Ideal.ofBits .f32 0x46800000#32) g e w c (ix2 b j) = layer actK (fun b k => z (ix2 b k))
      (fun k => g (ix2 0 k)) (fun k => e (ix2 0 k)) (fun j k => w (ix2 j k)) (fun j => c (ix2 0 j)) b j := by
  pointwise [k2_pay11]
  simp only [hs, hss]
  rfl

section
variable (z : FVec Ideal S16384x128 .f32) (s ss g e : FVec Ideal S1x128 .f32) (n : Ideal .f32) (w : FVec Ideal S64x128 .f32) (c : FVec Ideal S1x64 .f32)

/-- The third layer's column means. -/
theorem pay12_at (j : Fin 64) : k2_pay12 (F := Ideal) z s ss n g e w c (ix2 0 j)
    = Ideal.div (∑ b, k2_pay11 (F := Ideal) z s ss n g e w c (ix2 b j)) rowCount := by
  pointwise [k2_pay12]

/-- The third layer's column variances and the small number, from the means and the sums of squares. -/
theorem pay13_at (j : Fin 64) : k2_pay13 (F := Ideal) z s ss n g e w c (ix2 0 j)
    = Ideal.div (∑ b, k2_pay11 (F := Ideal) z s ss n g e w c (ix2 b j) * k2_pay11 (F := Ideal) z s ss n g e w c (ix2 b j)) rowCount
      - Ideal.div (∑ b, k2_pay11 (F := Ideal) z s ss n g e w c (ix2 b j)) rowCount
        * Ideal.div (∑ b, k2_pay11 (F := Ideal) z s ss n g e w c (ix2 b j)) rowCount + smallNumber := by
  pointwise [k2_pay13]
  simp only [pay12_at]

end

/-- The ratings, from the third layer. -/
theorem pay2_at {z : FVec Ideal S16384x64 .f32} {m v : FVec Ideal S1x64 .f32} (g e w : FVec Ideal S1x64 .f32) (c : FVec Ideal S1x1 .f32)
    (hm : ∀ k, m (ix2 0 k) = Ideal.div (∑ b : Fin 16384, z (ix2 b k)) rowCount)
    (hv : ∀ k, v (ix2 0 k) = Ideal.div (∑ b : Fin 16384, z (ix2 b k) * z (ix2 b k)) rowCount
        - Ideal.div (∑ b : Fin 16384, z (ix2 b k)) rowCount * Ideal.div (∑ b : Fin 16384, z (ix2 b k)) rowCount + smallNumber) (b : Fin 16384) :
    k2_pay2 (F := Ideal) z m v g e w c (ix3 0 0 b)
      = Ideal.logistic (layer actK (fun b k => z (ix2 b k)) (fun k => g (ix2 0 k)) (fun k => e (ix2 0 k)) (fun (_ : Fin 1) k => w (ix2 0 k))
          (fun _ => c (ix2 0 0)) b 0) * ((5 : ℝ) : EReal) := by
  pointwise [k2_pay2]
  simp only [hm, hv]
  rw [bits_five]
  refine congrArg (fun x => Ideal.logistic (x + c (ix2 0 0)) * ((5 : ℝ) : EReal)) (Finset.sum_congr rfl fun k _ => mul_comm _ _)

/-- The whole of the layers after the first, from the first layer's rows and column sums. -/
theorem mlpOut_at {z : FVec Ideal S16384x256 .f32} {s ss : FVec Ideal S1x256 .f32} (g0 e0 : FVec Ideal S1x256 .f32) (w1 : FVec Ideal S128x256 .f32)
    (b1 g1 e1 : FVec Ideal S1x128 .f32) (w2 : FVec Ideal S64x128 .f32) (b2 g2 e2 wp : FVec Ideal S1x64 .f32) (bp : FVec Ideal S1x1 .f32)
    (hs : ∀ k, s (ix2 0 k) = ∑ b : Fin 16384, z (ix2 b k)) (hss : ∀ k, ss (ix2 0 k) = ∑ b : Fin 16384, z (ix2 b k) * z (ix2 b k)) (b : Fin 16384) :
    mlpOut (F := Ideal) z s ss g0 e0 w1 b1 g1 e1 w2 b2 g2 e2 wp bp (ix3 0 0 b)
      = rest actK (fun b k => z (ix2 b k)) (fun k => g0 (ix2 0 k)) (fun k => e0 (ix2 0 k)) (fun j k => w1 (ix2 j k)) (fun j => b1 (ix2 0 j))
        (fun k => g1 (ix2 0 k)) (fun k => e1 (ix2 0 k)) (fun j k => w2 (ix2 j k)) (fun j => b2 (ix2 0 j)) (fun k => g2 (ix2 0 k))
        (fun k => e2 (ix2 0 k)) (fun k => wp (ix2 0 k)) (bp (ix2 0 0)) b := by
  refine (pay2_at g2 e2 wp bp (pay12_at _ _ _ _ _ _ _ _) (pay13_at _ _ _ _ _ _ _ _) b).trans ?_
  have h1 := pay8_at g0 e0 w1 b1 hs hss
  have h2 := pay11_at g1 e1 w2 b2 (pay9_at z s ss g0 e0 w1 b1) (pay10_at z s ss g0 e0 w1 b1)
  simp only [h1] at h2
  exact congrArg (fun f : Fin 16384 → Fin 64 → EReal => Ideal.logistic (layer actK f (fun k => g2 (ix2 0 k)) (fun k => e2 (ix2 0 k))
    (fun (_ : Fin 1) k => wp (ix2 0 k)) (fun _ => bp (ix2 0 0)) b 0) * ((5 : ℝ) : EReal)) (funext fun b => funext fun k => h2 b k)

end Cert.Proof

end
-- ==== Proof.KernelFirst.lean ====
/-
  The first layer as the second TensorCore call computes it, entry by entry: two tiles of 8192 rows, their stack,
  and the columns' sums and sums of squares gathered tile after tile.
-/
module

public import proofs.«01_k».proof.Proof.KernelLayers

@[expose] public section

noncomputable section

namespace Cert.Proof

open Cert.KernelIdeal Cert.KernelIdeal.Gen
open Idealize.ShloMosaic

/-- Row `r` of tile `k`. -/
def rowAt (k : Fin 2) (r : Fin 8192) : Fin 16384 := ⟨k.val * 8192 + r.val, by omega⟩

/-- A sum over all rows is the two tiles' sums. -/
theorem sum_tiles (f : Fin 16384 → EReal) : ∑ b, f b = ∑ r, f (rowAt 0 r) + ∑ r, f (rowAt 1 r) := by
  refine (Fin.sum_univ_add (a := 8192) (b := 8192) f).trans (congrArg₂ (· + ·) ?_ ?_)
  · exact Finset.sum_congr rfl fun r _ => congrArg f (Fin.ext (by simp [rowAt]))
  · exact Finset.sum_congr rfl fun r _ => congrArg f (Fin.ext (by simp [rowAt, add_comm]))

/-- A user's row and an item's row side by side. -/
def joinedRow (U V : Fin 128 → ℝ) (k : Fin 256) : ℝ := if h : k.val < 128 then U ⟨k.val, h⟩ else V ⟨k.val - 128, by omega⟩

/-- The first layer before its bias: the gathered rows and the genre row by the two parts of the weights. -/
def firstLayer (C : Fin 16384 → Fin 256 → ℝ) (G : Fin 16384 → Fin 32 → ℝ) (WA : Fin 256 → Fin 256 → ℝ) (WB : Fin 256 → Fin 32 → ℝ)
    (b : Fin 16384) (j : Fin 256) : ℝ :=
  ∑ i, C b i * WA j i + ∑ i, G b i * WB j i

variable {cat : FVec Ideal S16384x256 .f32} {gen : FVec Ideal S16384x32 .bf16} {wA : FVec Ideal S256x256 .f32} {wB : FVec Ideal S256x32 .f32}
  {b0 : FVec Ideal S1x256 .f32} {C : Fin 16384 → Fin 256 → ℝ} {G : Fin 16384 → Fin 32 → ℝ} {WA : Fin 256 → Fin 256 → ℝ}
  {WB : Fin 256 → Fin 32 → ℝ}

theorem zTile_real (hcat : ∀ b i, cat (ix2 b i) = (C b i : EReal)) (hgen : ∀ b i, gen (ix2 b i) = (G b i : EReal))
    (hA : ∀ j i, wA (ix2 j i) = (WA j i : EReal)) (hB : ∀ j i, wB (ix2 j i) = (WB j i : EReal)) (k : Fin 2) (r : Fin 8192) (j : Fin 256) :
    zTile (F := Ideal) cat gen wA wB b0 k (ix2 r j) = (firstLayer C G WA WB (rowAt k r) j : EReal) + b0 (ix2 0 j) := by
  have e1 : ∀ i, tileRows (F := Ideal) (e := .f32) k cat (ix2 r i) = (C (rowAt k r) i : EReal) := fun i => hcat (rowAt k r) i
  have e2 : ∀ i, tileRows (F := Ideal) (e := .bf16) k gen (ix2 r i) = (G (rowAt k r) i : EReal) := fun i => hgen (rowAt k r) i
  unfold zTile
  pointwise [k2_pay3]
  simp only [e1, e2, hA, hB, ← EReal.coe_mul, coe_sum, ← EReal.coe_add]
  rfl

variable (hcat : ∀ b i, cat (ix2 b i) = (C b i : EReal)) (hgen : ∀ b i, gen (ix2 b i) = (G b i : EReal))
  (hA : ∀ j i, wA (ix2 j i) = (WA j i : EReal)) (hB : ∀ j i, wB (ix2 j i) = (WB j i : EReal))

include hcat hgen hA hB in
theorem stack_real (b : Fin 16384) (j : Fin 256) :
    stack (zTile (F := Ideal) cat gen wA wB b0) (ix2 b j) = (firstLayer C G WA WB b j : EReal) + b0 (ix2 0 j) := by
  have hk : b.val / 8192 < 2 := by omega
  refine (zTile_real hcat hgen hA hB ⟨b.val / 8192, hk⟩ ⟨b.val % 8192, Nat.mod_lt _ (by decide)⟩ j).trans ?_
  have e : rowAt ⟨b.val / 8192, hk⟩ ⟨b.val % 8192, Nat.mod_lt _ (by decide)⟩ = b := Fin.ext (Nat.div_add_mod' b.val 8192)
  rw [e]

variable (cat gen wA wB b0)

/-- The stack's rows are the tiles' rows. -/
theorem stack_rowAt (k : Fin 2) (r : Fin 8192) (j : Fin 256) :
    stack (zTile (F := Ideal) cat gen wA wB b0) (ix2 (rowAt k r) j) = zTile (F := Ideal) cat gen wA wB b0 k (ix2 r j) := by
  have e1 : (rowAt k r).val / 8192 = k.val := by
    show (k.val * 8192 + r.val) / 8192 = k.val
    omega
  have e2 : (rowAt k r).val % 8192 = r.val := by
    show (k.val * 8192 + r.val) % 8192 = r.val
    omega
  show zTile (F := Ideal) cat gen wA wB b0 ⟨(rowAt k r).val / 8192, _⟩ (ix2 ⟨(rowAt k r).val % 8192, _⟩ j) = _
  simp only [e1, e2]

theorem sumB_at (j : Fin 256) :
    sumB (F := Ideal) cat gen wA wB b0 (ix2 0 j) = ∑ b : Fin 16384, stack (zTile (F := Ideal) cat gen wA wB b0) (ix2 b j) := by
  have ea : sumA (F := Ideal) cat gen wA wB b0 (ix2 0 j) = ∑ r, zTile (F := Ideal) cat gen wA wB b0 0 (ix2 r j) := by
    unfold sumA
    pointwise [k2_pay7, k2_pay5]
    rfl
  rw [sum_tiles]
  simp only [stack_rowAt]
  unfold sumB
  pointwise [k2_pay7]
  rw [ea]
  rfl

theorem sqB_at (j : Fin 256) : sqB (F := Ideal) cat gen wA wB b0 (ix2 0 j)
    = ∑ b : Fin 16384, stack (zTile (F := Ideal) cat gen wA wB b0) (ix2 b j) * stack (zTile (F := Ideal) cat gen wA wB b0) (ix2 b j) := by
  have ea : sqA (F := Ideal) cat gen wA wB b0 (ix2 0 j)
      = ∑ r, zTile (F := Ideal) cat gen wA wB b0 0 (ix2 r j) * zTile (F := Ideal) cat gen wA wB b0 0 (ix2 r j) := by
    unfold sqA
    pointwise [k2_pay1, k2_pay6]
  rw [sum_tiles]
  simp only [stack_rowAt]
  unfold sqB
  pointwise [k2_pay1]
  rw [ea]

end Cert.Proof

end
-- ==== Proof.KernelGenre.lean ====
/-
  The genre call's block as real numbers: each row's five genres, weighted by the softmax of their attention scores.
-/
module

public import proofs.«01_k».proof.Proof.Kept
public import proofs.«01_k».proof.Proof.Scalars

@[expose] public section

noncomputable section

namespace Cert.Proof

open Cert.KernelIdeal Cert.KernelIdeal.Gen
open Idealize.ShloMosaic

/-- The group of 24 columns that column `x` of 120 lies in, and its place there. -/
def grp (x : Fin 120) : Fin 5 := ⟨x.val / 24, by omega⟩
def col (x : Fin 120) : Fin 24 := ⟨x.val % 24, by omega⟩

/-- A sum over the 120 columns, group by group. -/
theorem sum_groups (f : Fin 5 → Fin 24 → EReal) : ∑ x : Fin 120, f (grp x) (col x) = ∑ g, ∑ v, f g v := by
  rw [← Fintype.sum_prod_type']
  refine (Fintype.sum_equiv (finProdFinEquiv (m := 5) (n := 24)) (fun p => f p.1 p.2) (fun x : Fin 120 => f (grp x) (col x)) fun p => ?_).symm
  have h := finProdFinEquiv.symm_apply_apply p
  rw [finProdFinEquiv_symm_apply] at h
  have h1 : grp (finProdFinEquiv p) = p.1 := Fin.ext (congrArg (fun q => q.1.val) h)
  have h2 : col (finProdFinEquiv p) = p.2 := Fin.ext (congrArg (fun q => q.2.val) h)
  exact (congrArg₂ f h1 h2).symm

/-- Five copies laid end to end, read at a column: the one copy at the column's place. -/
theorem five {α : Type} (f : Fin 24 → α) (x : Fin 120) :
    (if h : x.val < 24 then f ⟨x.val, h⟩
      else if h1 : x.val - 24 < 24 then f ⟨x.val - 24, h1⟩
      else if h2 : x.val - 24 - 24 < 24 then f ⟨x.val - 24 - 24, h2⟩
      else if h3 : x.val - 24 - 24 - 24 < 24 then f ⟨x.val - 24 - 24 - 24, h3⟩
      else f ⟨x.val - 24 - 24 - 24 - 24, by omega⟩) = f (col x) := by
  split_ifs <;> exact congrArg f (Fin.ext (by show _ = x.val % 24; dsimp only; omega))

/-- The group indicator as a word. -/
theorem group_word : ∀ (i : Fin 5) (j : Fin 120),
    (BitVec.setWidth 32
        (IntOp.cmpi CmpIPredicate.eq (BitVec.ofNat 32 i.val)
          (Scalar.select
            (IntOp.andi
              (IntOp.cmpi CmpIPredicate.ne
                (IntOp.subi (BitVec.setWidth 32 (IntOp.cmpi CmpIPredicate.sgt (BitVec.ofNat 32 j.val) 0#32))
                  (BitVec.setWidth 32 (IntOp.cmpi CmpIPredicate.slt (BitVec.ofNat 32 j.val) 0#32)))
                (Scalar.subi (Scalar.extui (Scalar.cmpi CmpIPredicate.sgt 24#32 0#32))
                  (Scalar.extui (Scalar.cmpi CmpIPredicate.slt 24#32 0#32))))
              (IntOp.cmpi CmpIPredicate.ne (IntOp.remsi ArithUnit.vector (BitVec.ofNat 32 j.val) 24#32) 0#32))
            (IntOp.subi (IntOp.divsi ArithUnit.vector (BitVec.ofNat 32 j.val) 24#32) 1#32)
            (IntOp.divsi ArithUnit.vector (BitVec.ofNat 32 j.val) 24#32)))) = if i = grp j then 1#32 else 0#32 := by
  decide

/-- The place in the group as a word. -/
theorem place_word : ∀ x : Fin 120,
    Scalar.select
      (IntOp.andi
        (IntOp.xori (IntOp.cmpi CmpIPredicate.slt (IntOp.remsi ArithUnit.vector (BitVec.ofNat 32 x.val) 24#32) 0#32)
          (Scalar.cmpi CmpIPredicate.slt 24#32 0#32))
        (IntOp.cmpi CmpIPredicate.ne (IntOp.remsi ArithUnit.vector (BitVec.ofNat 32 x.val) 24#32) 0#32))
      (IntOp.addi (IntOp.remsi ArithUnit.vector (BitVec.ofNat 32 x.val) 24#32) 24#32)
      (IntOp.remsi ArithUnit.vector (BitVec.ofNat 32 x.val) 24#32) = BitVec.ofNat 32 (col x).val := by
  decide

theorem pay4_real (i : Fin 5) (j : Fin 120) : k1_pay4 (F := Ideal) (ix2 i j) = if i = grp j then (1 : EReal) else 0 := by
  pointwise [k1_pay4]
  rw [group_word i j]
  split_ifs <;> simp [FloatOps.sitofp]

/-- A small number as a word, read back as a real. -/
theorem small_real (v : Fin 24) : (((BitVec.ofNat 32 v.val).toInt : ℝ) : EReal) = ((v.val : ℝ) : EReal) := by
  have key : ∀ v : Fin 24, (BitVec.ofNat 32 v.val).toInt = (v.val : ℤ) := by decide
  rw [key v, Int.cast_natCast]

theorem small_inj (u v : Fin 24) : ((u.val : ℝ) : EReal) = ((v.val : ℝ) : EReal) ↔ u = v := by
  rw [EReal.coe_eq_coe_iff, Nat.cast_inj, Fin.ext_iff]

/-- Of a group's 24 columns only the one its genre names counts. -/
theorem hit (I : Fin 5 → Fin 24) (f : Fin 24 → EReal) (g : Fin 5) :
    ∑ x : Fin 120, (if I (grp x) = col x then f (col x) else 0) * (if g = grp x then (1 : EReal) else 0) = f (I g) := by
  rw [sum_groups fun g' v => (if I g' = v then f v else 0) * (if g = g' then (1 : EReal) else 0)]
  simp

theorem hit_all (I : Fin 5 → Fin 24) (w : Fin 5 → EReal) (f : Fin 24 → EReal) :
    ∑ x : Fin 120, (if I (grp x) = col x then w (grp x) else 0) * f (col x) = ∑ g, w g * f (I g) := by
  rw [sum_groups fun g v => (if I g = v then w g else 0) * f v]
  simp

/-- What a row of the genre call holds: its genres' rows of the table, weighted by the softmax of their scores. -/
def attended (T : Fin 24 → Fin 32 → ℝ) (A : Fin 32 → ℝ) (I : Fin 5 → Fin 24) (d : Fin 32) : ℝ :=
  ∑ g, soft (fun g => ∑ k, A k * T (I g) k) g * T (I g) d

theorem pay1_genre {v1 : FVec Ideal S24x32 .f32} {v4 : FVec Ideal S1x120 .f32} {v34 : FVec Ideal S5x120 .bf16} {v37 : FVec Ideal S8192x120 .f32}
    {T : Fin 24 → Fin 32 → ℝ} {L : Fin 24 → ℝ} {I : Fin 5 → Fin 24} (b : Fin 8192) (d : Fin 32)
    (h1 : ∀ v k, v1 (ix2 v k) = (T v k : EReal)) (h4 : ∀ x, v4 (ix2 0 x) = (L (col x) : EReal))
    (hR : ∀ g x, v34 (ix2 g x) = if g = grp x then (1 : EReal) else 0) (h37 : ∀ x, v37 (ix2 b x) = (((I (grp x)).val : ℝ) : EReal)) :
    k1_pay1 (F := Ideal) v1 v4 v34 v37 (iota .tc S8192x120 32 [1] iota_S8192x120_d1_w32) 24#32 (ix2 b d)
      = ((∑ g, soft (fun g => L (I g)) g * T (I g) d : ℝ) : EReal) := by
  have hs : ∀ x, (FloatOps.sitofp .f32 (BitVec.ofNat 32 (col x).val) : Ideal .f32) = (((col x).val : ℝ) : EReal) := fun x => small_real (col x)
  pointwise [k1_pay1]
  simp only [place_word, five (fun v => v1 (ix2 v d)), hs, h37, small_inj, h4, hR, h1, hit I (fun v => (L v : EReal)), bits_low]
  have hm := fold_max_real fun g => L (I g)
  simp only [soft_coe (fun g => L (I g)) _ hm, mul_ite, mul_one, mul_zero, Finset.sum_ite_eq', Finset.mem_univ, if_true]
  refine (hit_all I (fun g => (soft (fun g => L (I g)) g : EReal)) (fun v => (T v d : EReal))).trans ?_
  simp only [← EReal.coe_mul, coe_sum]

theorem pay3_real {tab : FVec Ideal S24x32 .f32} {att : FVec Ideal S1x32 .f32} {T : Fin 24 → Fin 32 → ℝ} {A : Fin 32 → ℝ}
    (ht : ∀ v k, tab (ix2 v k) = (T v k : EReal)) (ha : ∀ k, att (ix2 0 k) = (A k : EReal)) (x : Fin 120) :
    k1_pay3 (F := Ideal) tab att (ix2 0 x) = ((∑ k, A k * T (col x) k : ℝ) : EReal) := by
  pointwise [k1_pay3, k1_pay2]
  refine (five (fun v => ∑ k, att (ix2 0 k) * tab (ix2 v k)) x).trans ?_
  simp only [ht, ha, ← EReal.coe_mul, coe_sum]

theorem pay5_real {ids : IVec S8192x5 32} {I : Fin 5 → Fin 24} (b : Fin 8192) (hi : ∀ g, ids (ix2 b g) = BitVec.ofNat 32 (I g).val) (x : Fin 120) :
    k1_pay5 (F := Ideal) ids (ix2 b x) = (((I (grp x)).val : ℝ) : EReal) := by
  pointwise [k1_pay5]
  have hs : ∀ g, (FloatOps.sitofp .bf16 (BitVec.ofNat 32 (I g).val) : Ideal .bf16) = (((I g).val : ℝ) : EReal) := fun g => small_real (I g)
  simp only [pay4_real, hi, hs, mul_ite, mul_one, mul_zero, Finset.sum_ite_eq', Finset.mem_univ, if_true]

/-- A row of the genre call's block. -/
theorem genreBlock_real {ids : IVec S8192x5 32} {tab : FVec Ideal S24x32 .f32} {att : FVec Ideal S1x32 .f32}
    {T : Fin 24 → Fin 32 → ℝ} {A : Fin 32 → ℝ} {I : Fin 5 → Fin 24}
    (ht : ∀ v k, tab (ix2 v k) = (T v k : EReal)) (ha : ∀ k, att (ix2 0 k) = (A k : EReal))
    (b : Fin 8192) (hi : ∀ g, ids (ix2 b g) = BitVec.ofNat 32 (I g).val) (d : Fin 32) :
    genreBlock (F := Ideal) ids tab att (ix2 b d) = (attended T A I d : EReal) := by
  have h2 : ∀ v k, k1_pay2 (F := Ideal) tab (ix2 v k) = (T v k : EReal) := fun v k => by
    pointwise [k1_pay2]
    exact ht v k
  exact pay1_genre (L := fun v => ∑ k, A k * T v k) b d h2 (pay3_real ht ha) pay4_real (pay5_real b hi)

/-- A row of the genre call's result. -/
theorem genreAll_real {ids : IVec S16384x5 32} {tab : FVec Ideal S24x32 .f32} {att : FVec Ideal S1x32 .f32}
    {T : Fin 24 → Fin 32 → ℝ} {A : Fin 32 → ℝ} {I : Fin 16384 → Fin 5 → Fin 24}
    (ht : ∀ v k, tab (ix2 v k) = (T v k : EReal)) (ha : ∀ k, att (ix2 0 k) = (A k : EReal))
    (hi : ∀ b g, ids (ix2 b g) = BitVec.ofNat 32 (I b g).val) (b : Fin 16384) (d : Fin 32) :
    genreAll (F := Ideal) ids tab att (ix2 b d) = (attended T A (I b) d : EReal) := by
  have hk : b.val / 8192 < 2 := by omega
  have e : (⟨b.val / 8192 * 8192 + b.val % 8192, by omega⟩ : Fin 16384) = b := Fin.ext (Nat.div_add_mod' b.val 8192)
  refine genreBlock_real (I := I b) ht ha ⟨b.val % 8192, Nat.mod_lt _ (by decide)⟩ (fun g => ?_) d
  refine (hi ⟨b.val / 8192 * 8192 + b.val % 8192, by omega⟩ g).trans ?_
  rw [e]

end Cert.Proof

end
-- ==== Proof.Net.lean ====
/-
  The network: its parameters, what it means that arrays hold them, and the number it gives an example.
-/
module

public import proofs.«01_k».proof.Proof.KernelFirst
public import proofs.«01_k».proof.Proof.KernelGenre
public import proofs.«01_k».proof.Proof.Pre

@[expose] public section

noncomputable section

namespace Cert.Proof

open Cert.KernelIdeal Cert.KernelIdeal.Gen
open Idealize.ShloMosaic

/-- The parameters of the network: reals, but for two biases, the last shift and the last layer, which may be infinite. -/
structure Net where
  /-- the users' table -/
  users : Fin 100000 → Fin 128 → ℝ
  /-- the items' table -/
  items : Fin 100000 → Fin 128 → ℝ
  /-- the genres' table -/
  genres : Fin 20 → Fin 32 → ℝ
  /-- the attention vector -/
  att : Fin 32 → ℝ
  /-- the number added to every attention score -/
  attBias : ℝ
  W0 : Fin 256 → Fin 288 → ℝ
  C0 : Fin 256 → EReal
  γ0 : Fin 256 → ℝ
  β0 : Fin 256 → ℝ
  W1 : Fin 128 → Fin 256 → ℝ
  C1 : Fin 128 → EReal
  γ1 : Fin 128 → ℝ
  β1 : Fin 128 → ℝ
  W2 : Fin 64 → Fin 128 → ℝ
  C2 : Fin 64 → ℝ
  γ2 : Fin 64 → ℝ
  β2 : Fin 64 → EReal
  WP : Fin 64 → EReal
  CP : EReal

/-- The arrays hold the parameters of `N`. -/
structure Holds (N : Net) (a3 a4 : FVec Ideal S100000x128 .f32) (a5 : FVec Ideal S20x32 .f32) (a6 : FVec Ideal S1x32 .f32) (a7 : FVec Ideal S1 .f32)
    (a8 : FVec Ideal S256x288 .f32) (a9 a10 a11 : FVec Ideal S256 .f32) (a12 : FVec Ideal S128x256 .f32) (a13 a14 a15 : FVec Ideal S128 .f32)
    (a16 : FVec Ideal S64x128 .f32) (a17 a18 a19 : FVec Ideal S64 .f32) (a20 : FVec Ideal S1x64 .f32) (a21 : FVec Ideal S1 .f32) : Prop where
  users : ∀ r k, a3 (ix2 r k) = (N.users r k : EReal)
  items : ∀ r k, a4 (ix2 r k) = (N.items r k : EReal)
  genres : ∀ v k, a5 (ix2 v k) = (N.genres v k : EReal)
  att : ∀ k, a6 (ix2 0 k) = (N.att k : EReal)
  attBias : a7 (ix1 0) = (N.attBias : EReal)
  W0 : ∀ j k, a8 (ix2 j k) = (N.W0 j k : EReal)
  C0 : ∀ j, a9 (ix1 j) = N.C0 j
  γ0 : ∀ j, a10 (ix1 j) = (N.γ0 j : EReal)
  β0 : ∀ j, a11 (ix1 j) = (N.β0 j : EReal)
  W1 : ∀ j k, a12 (ix2 j k) = (N.W1 j k : EReal)
  C1 : ∀ j, a13 (ix1 j) = N.C1 j
  γ1 : ∀ j, a14 (ix1 j) = (N.γ1 j : EReal)
  β1 : ∀ j, a15 (ix1 j) = (N.β1 j : EReal)
  W2 : ∀ j k, a16 (ix2 j k) = (N.W2 j k : EReal)
  C2 : ∀ j, a17 (ix1 j) = (N.C2 j : EReal)
  γ2 : ∀ j, a18 (ix1 j) = (N.γ2 j : EReal)
  β2 : ∀ j, a19 (ix1 j) = N.β2 j
  WP : ∀ k, a20 (ix2 0 k) = N.WP k
  CP : a21 (ix1 0) = N.CP

/-- Arrays of reals hold the parameters of some network. -/
theorem holds_of {a0 a1 : IVec S16384 32} {a2 : IVec S16384x5 32} {a3 a4 : FVec Ideal S100000x128 .f32} {a5 : FVec Ideal S20x32 .f32} {a6 : FVec Ideal S1x32 .f32} {a7 : FVec Ideal S1 .f32}
    {a8 : FVec Ideal S256x288 .f32} {a9 a10 a11 : FVec Ideal S256 .f32} {a12 : FVec Ideal S128x256 .f32} {a13 a14 a15 : FVec Ideal S128 .f32}
    {a16 : FVec Ideal S64x128 .f32} {a17 a18 a19 : FVec Ideal S64 .f32} {a20 : FVec Ideal S1x64 .f32} {a21 : FVec Ideal S1 .f32}
    (h : InRange a0 a1 a2 a3 a4 a5 a6 a7 a8 a9 a10 a11 a12 a13 a14 a15 a16 a17 a18 a19 a20 a21) :
    ∃ N : Net, Holds N a3 a4 a5 a6 a7 a8 a9 a10 a11 a12 a13 a14 a15 a16 a17 a18 a19 a20 a21 := by
  choose r3 h3 using real_of_below h.f3
  choose r4 h4 using real_of_below h.f4
  choose r5 h5 using real_of_below h.f5
  choose r6 h6 using real_of_below h.f6
  choose r7 h7 using real_of_below h.f7
  choose r8 h8 using real_of_below h.f8
  choose r10 h10 using real_of_below h.f10
  choose r11 h11 using real_of_below h.f11
  choose r12 h12 using real_of_below h.f12
  choose r14 h14 using real_of_below h.f14
  choose r15 h15 using real_of_below h.f15
  choose r16 h16 using real_of_below h.f16
  choose r17 h17 using real_of_below h.f17
  choose r18 h18 using real_of_below h.f18
  exact ⟨{ users := fun r k => r3 (ix2 r k), items := fun r k => r4 (ix2 r k), genres := fun v k => r5 (ix2 v k),
           att := fun k => r6 (ix2 0 k), attBias := r7 (ix1 0), W0 := fun j k => r8 (ix2 j k),
           C0 := fun j => a9 (ix1 j), γ0 := fun j => r10 (ix1 j), β0 := fun j => r11 (ix1 j), W1 := fun j k => r12 (ix2 j k),
           C1 := fun j => a13 (ix1 j), γ1 := fun j => r14 (ix1 j), β1 := fun j => r15 (ix1 j), W2 := fun j k => r16 (ix2 j k),
           C2 := fun j => r17 (ix1 j), γ2 := fun j => r18 (ix1 j), β2 := fun j => a19 (ix1 j), WP := fun k => a20 (ix2 0 k),
           CP := a21 (ix1 0) },
    { users := fun _ _ => h3 _, items := fun _ _ => h4 _, genres := fun _ _ => h5 _, att := fun _ => h6 _, attBias := h7 _,
      W0 := fun _ _ => h8 _, C0 := fun _ => rfl, γ0 := fun _ => h10 _, β0 := fun _ => h11 _, W1 := fun _ _ => h12 _,
      C1 := fun _ => rfl, γ1 := fun _ => h14 _, β1 := fun _ => h15 _, W2 := fun _ _ => h16 _, C2 := fun _ => h17 _,
      γ2 := fun _ => h18 _, β2 := fun _ => rfl, WP := fun _ => rfl, CP := rfl }⟩

namespace Net

variable (N : Net) (u i : Fin 16384 → Fin 100000) (g : Fin 16384 → Fin 5 → Fin 20)

/-- The genre row of an example: its five genres' rows weighted by the softmax of their attention scores. -/
def pooled (b : Fin 16384) (d : Fin 32) : ℝ :=
  ∑ n, soft (fun n => ∑ k, N.att k * N.genres (g b n) k) n * N.genres (g b n) d

/-- The first layer of an example before its bias: its user's, item's and genres' rows against the first matrix. -/
def start (b : Fin 16384) (j : Fin 256) : ℝ :=
  firstLayer (fun b => joinedRow (N.users (u b)) (N.items (i b))) (N.pooled g)
    (fun j k => N.W0 j ⟨k.val, by omega⟩) (fun j k => N.W0 j ⟨256 + k.val, by omega⟩) b j

/-- What the network gives an example, under either normalisation. -/
def output (a : (Fin 16384 → EReal) → EReal → EReal → Fin 16384 → EReal) (b : Fin 16384) : EReal :=
  rest a (fun b k => (N.start u i g b k : EReal) + N.C0 k) (fun k => (N.γ0 k : EReal)) (fun k => (N.β0 k : EReal))
    (fun j k => (N.W1 j k : EReal)) N.C1 (fun k => (N.γ1 k : EReal)) (fun k => (N.β1 k : EReal)) (fun j k => (N.W2 j k : EReal))
    (fun k => (N.C2 k : EReal)) (fun k => (N.γ2 k : EReal)) N.β2 N.WP N.CP b

end Net

/-- The row an id names. -/
def rowOf {a : IVec S16384 32} (h : ∀ i, (a i).toNat < 100000) (b : Fin 16384) : Fin 100000 := ⟨(a (ix1 b)).toNat, h _⟩

/-- The genre an id names. -/
def genreOf {a : IVec S16384x5 32} (h : ∀ i, (a i).toNat < 20) (b : Fin 16384) (n : Fin 5) : Fin 20 := ⟨(a (ix2 b n)).toNat, h _⟩

end Cert.Proof

end
-- ==== Proof.KernelInput.lean ====
/-
  What the kernel's host-side steps make of the arguments: the padded genre table, the ids as rows, the slices and
  reshapes.
-/
module

public import proofs.«01_k».proof.Proof.Kept
public import Idealize.ShloMosaic.Lib.Pointwise
public import Idealize.ShloMosaic.Lib.Routing.OpsSet
public import Idealize.ShloMosaic.Lib.Routing.OpsPair

@[expose] public section

noncomputable section

namespace Cert.Proof

open Cert.KernelIdeal Cert.KernelIdeal.Gen
open Idealize.ShloMosaic

/-- Entry `(r, c)` of the genre table is written to entry `(r, c)` of the padded one, and nowhere else. -/
theorem pad_lands (s : IVec S1 32) (hs : s (ix1 0) = 0#32) (r : Fin 20) (c : Fin 32) (v : Fin 24) (k : Fin 32) :
    scatter_S24x32_S1_S20x32_01_n_0_0.resultIdx? (ix2 r c) s = some (ix2 v k) ↔ r.val = v.val ∧ c = k := by
  have s0 : scatter_S24x32_S1_S20x32_01_n_0_0.start (ix2 r c) s 0 = 0 := by
    unfold ScatterDims.start
    rw [dif_pos (show (0 : Fin S24x32.rank) ∈ scatter_S24x32_S1_S20x32_01_n_0_0.scatterDimsToOperandDims from List.mem_singleton.mpr rfl)]
    have e : ∀ x, s x = 0#32 := fun x => by
      rw [← hs]
      congr 1
      funext a
      match a with
      | ⟨0, _⟩ => exact Subsingleton.elim (α := Fin 1) _ _
    rw [e]
    rfl
  have s1 : scatter_S24x32_S1_S20x32_01_n_0_0.start (ix2 r c) s 1 = 0 := by
    unfold ScatterDims.start
    rw [dif_neg (show ¬ (1 : Fin S24x32.rank) ∈ scatter_S24x32_S1_S20x32_01_n_0_0.scatterDimsToOperandDims from
      fun h => absurd (List.mem_singleton.mp h) (by decide))]
  have w0 : scatter_S24x32_S1_S20x32_01_n_0_0.window (ix2 r c) 0 = r.val := rfl
  have w1 : scatter_S24x32_S1_S20x32_01_n_0_0.window (ix2 r c) 1 = c.val := rfl
  refine (Routing.resultIdx?_ix2 (R := 24) (C := 32) scatter_S24x32_S1_S20x32_01_n_0_0 (ix2 r c) s v k).trans ?_
  rw [s0, s1, w0, w1, Fin.ext_iff]
  omega

theorem padTable_at (a : S20x32.Idx → Elt Ideal .f32) (v : Fin 24) (k : Fin 32) :
    padTable (F := Ideal) a (ix2 v k) = if h : v.val < 20 then a (ix2 ⟨v.val, h⟩ k) else 0 := by
  unfold padTable
  by_cases h : v.val < 20
  · rw [dif_pos h]
    refine Routing.scatter_set_hit _ _ _ _ _ _ (fun q hq => ?_) (ix2 ⟨v.val, h⟩ k) ((pad_lands _ rfl _ _ _ _).mpr ⟨rfl, rfl⟩)
    have e : q = ix2 (q 0) (q 1) := eq_ix2 q
    rw [e] at hq ⊢
    have := (pad_lands _ rfl _ _ _ _).mp hq
    exact congrArg a (congrArg₂ ix2 (Fin.ext this.1) this.2)
  · rw [dif_neg h]
    refine (Routing.scatter_set_miss _ _ _ _ _ fun q hq => ?_).trans ?_
    · have e : q = ix2 (q 0) (q 1) := eq_ix2 q
      rw [e] at hq
      have := ((pad_lands _ rfl _ _ _ _).mp hq).1
      have hl : (q 0).val < 20 := (q 0).isLt
      omega
    · pointwise

theorem idRows_at (a : S16384.Idx → Elt Ideal .i32) (b : Fin 16384) :
    idRows (F := Ideal) a (ix2 ⟨b.val / 128, by omega⟩ ⟨b.val % 128, by omega⟩) = a (ix1 b) := by
  pointwise [idRows]

end Cert.Proof

end
-- ==== Proof.KernelValue.lean ====
/-
  The kernel's result: at every example, the number the network gives it under the kernel's normalisation.
-/
module

public import proofs.«01_k».proof.Proof.Net
public import proofs.«01_k».proof.Proof.KernelInput
public import proofs.«01_k».proof.Proof.KernelLayers

@[expose] public section

noncomputable section

namespace Cert.Proof

open Cert.KernelIdeal Cert.KernelIdeal.Gen
open Idealize.ShloMosaic

theorem rowOfId_at {a : IVec S16384 32} (h : ∀ i, (a i).toNat < 100000) (b : Fin 16384) :
    rowOfId (F := Ideal) (idRows (F := Ideal) a) b = rowOf h b := by
  have e := idRows_at a b
  unfold rowOfId
  rw [e]
  exact Fin.ext (Nat.mod_eq_of_lt (h (ix1 b)))

/-- The gathered rows: an example's user row and item row side by side. -/
theorem scOut_real {a0 a1 : IVec S16384 32} (h0 : ∀ i, (a0 i).toNat < 100000) (h1 : ∀ i, (a1 i).toNat < 100000)
    {tu ti : FVec Ideal S100000x128 .f32} {U V : Fin 100000 → Fin 128 → ℝ}
    (hu : ∀ r k, tu (ix2 r k) = (U r k : EReal)) (hi : ∀ r k, ti (ix2 r k) = (V r k : EReal)) (b : Fin 16384) (k : Fin 256) :
    scOut (F := Ideal) (idRows (F := Ideal) a0) (idRows (F := Ideal) a1) tu ti (ix2 b k)
      = (joinedRow (U (rowOf h0 b)) (V (rowOf h1 b)) k : EReal) := by
  have e0 := rowOfId_at h0 b
  have e1 := rowOfId_at h1 b
  show (if h : k.val < 128 then tu (ix2 (rowOfId (F := Ideal) (idRows (F := Ideal) a0) b) ⟨k.val, h⟩)
    else ti (ix2 (rowOfId (F := Ideal) (idRows (F := Ideal) a1) b) ⟨k.val - 128, by omega⟩)) = _
  rw [e0, e1]
  unfold joinedRow
  by_cases h : k.val < 128
  · rw [dif_pos h, dif_pos h, hu]
  · rw [dif_neg h, dif_neg h, hi]

/-- The genre call over the padded table: the pad rows are never read. -/
theorem genre_at {a2 : IVec S16384x5 32} (h2 : ∀ i, (a2 i).toNat < 20) {a5 : FVec Ideal S20x32 .f32} {a6 : FVec Ideal S1x32 .f32} {N : Net}
    (ht : ∀ v k, a5 (ix2 v k) = (N.genres v k : EReal)) (ha : ∀ k, a6 (ix2 0 k) = (N.att k : EReal)) (b : Fin 16384) (d : Fin 32) :
    genreAll (F := Ideal) a2 (padTable (F := Ideal) a5) a6 (ix2 b d) = (N.pooled (genreOf h2) b d : EReal) := by
  have hp : ∀ v k, padTable (F := Ideal) a5 (ix2 v k) = ((if h : v.val < 20 then N.genres ⟨v.val, h⟩ k else 0 : ℝ) : EReal) := fun v k => by
    rw [padTable_at]
    by_cases h : v.val < 20
    · rw [dif_pos h, dif_pos h, ht]
    · rw [dif_neg h, dif_neg h]; rfl
  have hi : ∀ b n, a2 (ix2 b n) = BitVec.ofNat 32 (Fin.castLE (by decide : 20 ≤ 24) (genreOf h2 b n)).val := fun b n =>
    BitVec.eq_of_toNat_eq (by simp [genreOf])
  rw [genreAll_real (I := fun b n => Fin.castLE (by decide : 20 ≤ 24) (genreOf h2 b n)) hp ha hi b d]
  refine congrArg _ ?_
  unfold attended Net.pooled
  have e : ∀ n k, (if h : (Fin.castLE (by decide : 20 ≤ 24) (genreOf h2 b n)).val < 20
      then N.genres ⟨(Fin.castLE (by decide : 20 ≤ 24) (genreOf h2 b n)).val, h⟩ k else 0) = N.genres (genreOf h2 b n) k :=
    fun n k => dif_pos (genreOf h2 b n).isLt
  simp only [e]

/-- The kernel's result at an example is the network's output under the kernel's normalisation. -/
theorem kernelOut_real {a0 a1 : IVec S16384 32} {a2 : IVec S16384x5 32} (h0 : ∀ i, (a0 i).toNat < 100000) (h1 : ∀ i, (a1 i).toNat < 100000)
    (h2 : ∀ i, (a2 i).toNat < 20) {a3 a4 : FVec Ideal S100000x128 .f32} {a5 : FVec Ideal S20x32 .f32} {a6 : FVec Ideal S1x32 .f32} {a7 : FVec Ideal S1 .f32}
    {a8 : FVec Ideal S256x288 .f32} {a9 a10 a11 : FVec Ideal S256 .f32} {a12 : FVec Ideal S128x256 .f32} {a13 a14 a15 : FVec Ideal S128 .f32}
    {a16 : FVec Ideal S64x128 .f32} {a17 a18 a19 : FVec Ideal S64 .f32} {a20 : FVec Ideal S1x64 .f32} {a21 : FVec Ideal S1 .f32} {N : Net}
    (hN : Holds N a3 a4 a5 a6 a7 a8 a9 a10 a11 a12 a13 a14 a15 a16 a17 a18 a19 a20 a21) (b : Fin 16384) :
    kernelOut (F := Ideal) a0 a1 a2 a3 a4 a5 a6 a8 a9 a10 a11 a12 a13 a14 a15 a16 a17 a18 a19 a20 a21 (ix1 b)
      = N.output (rowOf h0) (rowOf h1) (genreOf h2) actK b := by
  have hcat := scOut_real h0 h1 hN.users hN.items
  have hgen := genre_at h2 hN.genres hN.att
  have hA : ∀ j k, extractStridedSlice S256x256 ![0, 0] a8 slices_S256x288_S256x256_0_0 (ix2 j k) = (N.W0 j ⟨k.val, by omega⟩ : EReal) := fun j k => by
    pointwise
    exact hN.W0 _ _
  have hB : ∀ j k, extractStridedSlice S256x32 ![0, 256] a8 slices_S256x288_S256x32_0_256 (ix2 j k) = (N.W0 j ⟨256 + k.val, by omega⟩ : EReal) := fun j k => by
    pointwise
    exact hN.W0 _ _
  have r256 : ∀ (a : FVec Ideal S256 .f32) (j : Fin 256), shapeCast S1x256 a shapeCasts_S256_S1x256 (ix2 0 j) = a (ix1 j) := fun a j => by
    pointwise
  have r128 : ∀ (a : FVec Ideal S128 .f32) (j : Fin 128), shapeCast S1x128 a shapeCasts_S128_S1x128 (ix2 0 j) = a (ix1 j) := fun a j => by
    pointwise
  have r64 : ∀ (a : FVec Ideal S64 .f32) (j : Fin 64), shapeCast S1x64 a shapeCasts_S64_S1x64 (ix2 0 j) = a (ix1 j) := fun a j => by
    pointwise
  have r1 : shapeCast S1x1 a21 shapeCasts_S1_S1x1 (ix2 0 0) = a21 (ix1 0) := by
    pointwise
  have out : ∀ x : FVec Ideal S1x1x16384 .f32, shapeCast S16384 x shapeCasts_S1x1x16384_S16384 (ix1 b) = x (ix3 0 0 b) := fun x => by
    pointwise
  unfold kernelOut
  rw [out]
  unfold mlpAll
  have hs := sumB_at (scOut (F := Ideal) (idRows (F := Ideal) a0) (idRows (F := Ideal) a1) a3 a4)
    (genreAll (F := Ideal) a2 (padTable (F := Ideal) a5) a6) (extractStridedSlice S256x256 ![0, 0] a8 slices_S256x288_S256x256_0_0)
    (extractStridedSlice S256x32 ![0, 256] a8 slices_S256x288_S256x32_0_256) (shapeCast S1x256 a9 shapeCasts_S256_S1x256)
  have hss := sqB_at (scOut (F := Ideal) (idRows (F := Ideal) a0) (idRows (F := Ideal) a1) a3 a4)
    (genreAll (F := Ideal) a2 (padTable (F := Ideal) a5) a6) (extractStridedSlice S256x256 ![0, 0] a8 slices_S256x288_S256x256_0_0)
    (extractStridedSlice S256x32 ![0, 256] a8 slices_S256x288_S256x32_0_256) (shapeCast S1x256 a9 shapeCasts_S256_S1x256)
  have key := mlpOut_at (shapeCast S1x256 a10 shapeCasts_S256_S1x256) (shapeCast S1x256 a11 shapeCasts_S256_S1x256) a12
    (shapeCast S1x128 a13 shapeCasts_S128_S1x128) (shapeCast S1x128 a14 shapeCasts_S128_S1x128) (shapeCast S1x128 a15 shapeCasts_S128_S1x128) a16
    (shapeCast S1x64 a17 shapeCasts_S64_S1x64) (shapeCast S1x64 a18 shapeCasts_S64_S1x64) (shapeCast S1x64 a19 shapeCasts_S64_S1x64) a20
    (shapeCast S1x1 a21 shapeCasts_S1_S1x1) hs hss b
  refine Eq.trans key ?_
  simp only [stack_real hcat hgen hA hB, r256, r128, r64, r1, hN.C0, hN.γ0, hN.β0, hN.W1, hN.C1, hN.γ1, hN.β1, hN.W2, hN.C2, hN.γ2, hN.β2,
    hN.WP, hN.CP]
  rfl

end Cert.Proof

end
-- ==== Proof.RefGather.lean ====
/-
  The reference's lookups: a row of a table at an id below the table's height, each id guarded by a bounds check that
  never fails there.
-/
module

public import proofs.«01_k».proof.Proof.Gen.ReferenceIdeal
public import Idealize.ShloMosaic.Lib.Pointwise
public import Idealize.ShloMosaic.Lib.ReduceAll
public import Idealize.ShloMosaic.Lib.StableHlo.Predicate
public import Idealize.ShloMosaic.Lib.Routing.Ops

@[expose] public section

noncomputable section

namespace Cert.Proof.Ref

open Cert.ReferenceIdeal Cert.ReferenceIdeal.Gen
open Idealize.ShloMosaic

/-! ## An id below the table's height -/

theorem not_negative (x : BitVec 32) (h : x.toNat < 2 ^ 31) : IntOp.cmpi .slt x 0#32 = 0#1 := by
  have h1 : ¬ x.toInt < 0 := by rw [BitVec.toInt_eq_toNat_of_lt (by omega)]; omega
  simp [IntOp.cmpi, BitVec.slt_eq_decide, h1]

theorem at_least_zero (x : BitVec 32) (h : x.toNat < 2 ^ 31) : IntOp.cmpi .sge x 0#32 = 1#1 := by
  have h1 : 0 ≤ x.toInt := by rw [BitVec.toInt_eq_toNat_of_lt (by omega)]; omega
  simp [IntOp.cmpi, BitVec.sle_eq_decide, h1]

theorem at_most (x n : BitVec 32) (h : x.toNat < 2 ^ 31) (hn : n.toNat < 2 ^ 31) (hx : x.toNat ≤ n.toNat) : IntOp.cmpi .sle x n = 1#1 := by
  have h1 : x.toInt ≤ n.toInt := by
    rw [BitVec.toInt_eq_toNat_of_lt (by omega), BitVec.toInt_eq_toNat_of_lt (by omega)]; omega
  simp [IntOp.cmpi, BitVec.sle_eq_decide, h1]

/-! ## The two big tables -/

section
variable {F : FTy → Type} [FloatOps F]

/-- The ids as start indices: a negative one would count from the table's end. -/
def starts (a : IVec S16384 32) : IVec S16384x1 32 :=
  broadcastInDim S16384x1 ![0] bcast_S16384_S16384x1_0
    (select (cmpi .slt a (broadcastInDim S16384 ![] bcast_S_S16384 (constantI S_ 32 0#32)))
      (addi a (broadcastInDim S16384 ![] bcast_S_S16384 (constantI S_ 32 100000#32))) a)

/-- Which ids lie inside the table. -/
def inside (a : IVec S16384 32) : IVec S16384 1 :=
  Host.reduce IntOp.andi
    (andi (cmpi .sge (starts a) (broadcastInDim S16384x1 ![] bcast_S_S16384x1 (constantI S_ 32 0#32)))
      (cmpi .sle (starts a) (broadcastInDim S16384x1 ![0, 1] bcast_S1x1_S16384x1_0_1
        (broadcastInDim S1x1 ![1] bcast_S1_S1x1_1 (constantI S1 32 99999#32)))))
    (constantI S_ 1 1#1) reducesTo_S16384x1_S16384_d1 h_S_

/-- The table's rows at the ids. -/
def rows (tab : FVec F S100000x128 .f32) (a : IVec S16384 32) : FVec F S16384x128 .f32 :=
  select (broadcastInDim S16384x128 ![0] bcast_S16384_S16384x128_0 (inside a))
    (Host.gather gather_S100000x128_S16384x1_S16384x128_1_0_n_n_0_1_1128 tab (starts a))
    (broadcastInDim S16384x128 ![] bcast_S_S16384x128 (constant S_ .f32 0x7FC00000#32))

end

theorem starts_at {a : IVec S16384 32} (h : ∀ i, (a i).toNat < 100000) (b : Fin 16384) (z : Fin 1) : starts a (ix2 b z) = a (ix1 b) := by
  pointwise [starts]
  rw [not_negative _ (by have := h (ix1 b); omega)]
  rfl

theorem inside_all {a : IVec S16384 32} (h : ∀ i, (a i).toNat < 100000) (i : S16384.Idx) : inside a i = 1#1 := by
  unfold inside
  refine Host.reduce_andi_one _ _ _ _ _ rfl fun j => ?_
  have e : starts a j = a (ix1 (j 0)) := by
    have hj : j = ix2 (j 0) (j 1) := eq_ix2 j
    rw [hj]
    exact starts_at h (j 0) (j 1)
  have hb := h (ix1 (j 0))
  pointwise
  rw [e, at_least_zero _ (by omega), at_most _ _ (by omega) (by decide) (by show _ ≤ 99999; omega)]
  rfl

/-- Below the table's height the guarded lookup is the plain one: a row of the table at each id. -/
theorem rows_at {F : FTy → Type} [FloatOps F] (tab : FVec F S100000x128 .f32) {a : IVec S16384 32} (h : ∀ i, (a i).toNat < 100000)
    (b : Fin 16384) (d : Fin 128) : rows tab a (ix2 b d) = tab (ix2 ⟨(a (ix1 b)).toNat, h _⟩ d) := by
  have e : rows tab a (ix2 b d) = Scalar.select (inside a (ix1 b))
      (Host.gather gather_S100000x128_S16384x1_S16384x128_1_0_n_n_0_1_1128 tab (starts a) (ix2 b d)) (FloatOps.ofBits .f32 0x7FC00000#32) := by
    pointwise [rows]
  rw [e, inside_all h]
  show Host.gather _ tab (starts a) (ix2 b d) = _
  exact Routing.gather_row (nb := 100000) (B := 128) (n := 16384) _ rfl rfl rfl rfl rfl tab (starts a) b d ⟨(a (ix1 b)).toNat, h _⟩
    ((starts_at h b 0).trans (BitVec.eq_of_toNat_eq (by simp))) (by norm_num)

end Cert.Proof.Ref

end
-- ==== Proof.RefGenre.lean ====
/-
  The reference's genre part: the five genre rows of an example, their attention weights, and the weighted row sum.
-/
module

public import proofs.«01_k».proof.Proof.RefGather
public import proofs.«01_k».proof.Proof.Scalars

@[expose] public section

noncomputable section

namespace Cert.Proof.Ref

open Cert.ReferenceIdeal Cert.ReferenceIdeal.Gen
open Idealize.ShloMosaic

section
variable {F : FTy → Type} [FloatOps F]

/-- The genre ids as start indices: a negative one would count from the table's end. -/
def genreStarts (a : IVec S16384x5 32) : IVec S16384x5x1 32 :=
  broadcastInDim S16384x5x1 ![0, 1] bcast_S16384x5_S16384x5x1_0_1
    (select (cmpi .slt a (broadcastInDim S16384x5 ![] bcast_S_S16384x5 (constantI S_ 32 0#32)))
      (addi a (broadcastInDim S16384x5 ![] bcast_S_S16384x5 (constantI S_ 32 20#32))) a)

/-- Which genre ids lie inside the table. -/
def genreInside (a : IVec S16384x5 32) : IVec S16384x5 1 :=
  Host.reduce IntOp.andi
    (andi (cmpi .sge (genreStarts a) (broadcastInDim S16384x5x1 ![] bcast_S_S16384x5x1 (constantI S_ 32 0#32)))
      (cmpi .sle (genreStarts a) (broadcastInDim S16384x5x1 ![0, 1, 2] bcast_S1x1x1_S16384x5x1_0_1_2
        (broadcastInDim S1x1x1 ![2] bcast_S1_S1x1x1_2 (constantI S1 32 19#32)))))
    (constantI S_ 1 1#1) reducesTo_S16384x5x1_S16384x5_d2 h_S_

/-- Each example's five genre rows. -/
def genreRows (tab : FVec F S20x32 .f32) (a : IVec S16384x5 32) : FVec F S16384x5x32 .f32 :=
  select (broadcastInDim S16384x5x32 ![0, 1] bcast_S16384x5_S16384x5x32_0_1 (genreInside a))
    (Host.gather gather_S20x32_S16384x5x1_S16384x5x32_2_0_n_n_0_2_132 tab (genreStarts a))
    (broadcastInDim S16384x5x32 ![] bcast_S_S16384x5x32 (constant S_ .f32 0x7FC00000#32))

/-- The five scores of an example: its genre rows against the attention vector, and one added constant. -/
def scores (x : FVec F S16384x5x32 .f32) (w : FVec F S1x32 .f32) (c : FVec F S1 .f32) : FVec F S16384x5x1 .f32 :=
  addf (Host.dotGeneral dot_S16384x5x32_S1x32_S16384x5x1_2_1_01_0_n_n none x w)
    (broadcastInDim S16384x5x1 ![0, 1, 2] bcast_S1x1x1_S16384x5x1_0_1_2 (broadcastInDim S1x1x1 ![2] bcast_S1_S1x1x1_2 c))

/-- The largest of an example's five scores. -/
def top (s : FVec F S16384x5x1 .f32) : FVec F S16384x1 .f32 :=
  maximumf (broadcastInDim S16384x1 ![] bcast_S_S16384x1 (constant S_ .f32 0xFF800000#32))
    (Host.reduce FloatOps.maximumf s (constant S_ .f32 0xFF800000#32) reducesTo_S16384x5x1_S16384x1_d1 h_S_)

/-- The scores' exponentials, the largest score taken off first. -/
def weights (s : FVec F S16384x5x1 .f32) : FVec F S16384x5x1 .f32 :=
  Host.exp (subf s (broadcastInDim S16384x5x1 ![0, 1, 2] bcast_S16384x1x1_S16384x5x1_0_1_2
    (broadcastInDim S16384x1x1 ![0, 2] bcast_S16384x1_S16384x1x1_0_2 (top s))))

/-- The genre rows summed with the normalised weights `e`. -/
def pooled (x : FVec F S16384x5x32 .f32) (e : FVec F S16384x5x1 .f32) : FVec F S16384x32 .f32 :=
  Host.reduceAdd (mulf x (broadcastInDim S16384x5x32 ![0, 1, 2] bcast_S16384x5x1_S16384x5x32_0_1_2
      (Host.divf e (broadcastInDim S16384x5x1 ![0, 1, 2] bcast_S16384x1x1_S16384x5x1_0_1_2
        (broadcastInDim S16384x1x1 ![0, 2] bcast_S16384x1_S16384x1x1_0_2
          (Host.reduceAdd e (constant S_ .f32 0x00000000#32) reducesTo_S16384x5x1_S16384x1_d1 h_S_))))))
    (constant S_ .f32 0x00000000#32) reducesTo_S16384x5x32_S16384x32_d1 h_S_

end

/-! ## The lookup -/

theorem genreStarts_at {a : IVec S16384x5 32} (h : ∀ i, (a i).toNat < 20) (b : Fin 16384) (g : Fin 5) (z : Fin 1) :
    genreStarts a (ix3 b g z) = a (ix2 b g) := by
  pointwise [genreStarts]
  rw [not_negative _ (by have := h (ix2 b g); omega)]
  rfl

theorem genreInside_all {a : IVec S16384x5 32} (h : ∀ i, (a i).toNat < 20) (i : S16384x5.Idx) : genreInside a i = 1#1 := by
  unfold genreInside
  refine Host.reduce_andi_one _ _ _ _ _ rfl fun j => ?_
  have e : genreStarts a j = a (ix2 (j 0) (j 1)) := by
    have hj : j = ix3 (j 0) (j 1) (j 2) := eq_ix3 j
    rw [hj]
    exact genreStarts_at h (j 0) (j 1) (j 2)
  have hb := h (ix2 (j 0) (j 1))
  pointwise
  rw [e, at_least_zero _ (by omega), at_most _ _ (by omega) (by decide) (by show _ ≤ 19; omega)]
  rfl

theorem gather_genre {α : Type} (tab : S20x32.Idx → α) (s : IVec S16384x5x1 32) (b : Fin 16384) (g : Fin 5) (d : Fin 32) :
    Host.gather gather_S20x32_S16384x5x1_S16384x5x32_2_0_n_n_0_2_132 tab s (ix3 b g d)
      = tab (ix2 ⟨min (s (ix3 b g 0)).toInt.toNat 19, by omega⟩ d) := by
  have hsi : ∀ k, gather_S20x32_S16384x5x1_S16384x5x32_2_0_n_n_0_2_132.siIdx (ix3 b g d) k = ix3 b g 0 := by
    intro k
    funext c
    refine Fin.ext ?_
    match c with
    | ⟨0, _⟩ => rfl
    | ⟨1, _⟩ => rfl
    | ⟨2, _⟩ =>
      have := k.isLt
      show k.val = 0
      change k.val < 1 at this
      omega
  have hin : (0 : Fin S20x32.rank) ∈ gather_S20x32_S16384x5x1_S16384x5x32_2_0_n_n_0_2_132.startIndexMap := List.mem_singleton.mpr rfl
  have hout : (1 : Fin S20x32.rank) ∉ gather_S20x32_S16384x5x1_S16384x5x32_2_0_n_n_0_2_132.startIndexMap :=
    fun h => absurd (List.mem_singleton.mp h) (by decide)
  have hcut : (0 : Fin S20x32.rank) ∉ gather_S20x32_S16384x5x1_S16384x5x32_2_0_n_n_0_2_132.sKept :=
    fun h => ((GatherDims.mem_sKept _ _).mp h).1 (List.mem_singleton.mpr rfl)
  have hkept : (1 : Fin S20x32.rank) ∈ gather_S20x32_S16384x5x1_S16384x5x32_2_0_n_n_0_2_132.sKept :=
    (GatherDims.mem_sKept _ _).mpr ⟨fun h => absurd (List.mem_singleton.mp h) (by decide), fun h => absurd h List.not_mem_nil⟩
  have key0 : gather_S20x32_S16384x5x1_S16384x5x32_2_0_n_n_0_2_132.start (ix3 b g d) s 0 = min (s (ix3 b g 0)).toInt.toNat 19 := by
    unfold GatherDims.start
    rw [dif_pos hin, hsi]
    rfl
  have key1 : gather_S20x32_S16384x5x1_S16384x5x32_2_0_n_n_0_2_132.start (ix3 b g d) s 1 = 0 := by
    unfold GatherDims.start
    rw [dif_neg hout]
  have off1 : gather_S20x32_S16384x5x1_S16384x5x32_2_0_n_n_0_2_132.offCoord (ix3 b g d) 1 = d.val := by
    unfold GatherDims.offCoord
    rw [dif_pos hkept]
    rfl
  unfold Host.gather
  congr 1
  funext a
  refine Fin.ext ?_
  match a with
  | ⟨0, _⟩ =>
    show gather_S20x32_S16384x5x1_S16384x5x32_2_0_n_n_0_2_132.start (ix3 b g d) s 0
      + gather_S20x32_S16384x5x1_S16384x5x32_2_0_n_n_0_2_132.batchCoord (ix3 b g d) 0
      + gather_S20x32_S16384x5x1_S16384x5x32_2_0_n_n_0_2_132.offCoord (ix3 b g d) 0 = min (s (ix3 b g 0)).toInt.toNat 19
    rw [GatherDims.batchCoord_eq_zero _ _ _ List.not_mem_nil, GatherDims.offCoord_eq_zero _ _ _ hcut, key0]
    omega
  | ⟨1, _⟩ =>
    show gather_S20x32_S16384x5x1_S16384x5x32_2_0_n_n_0_2_132.start (ix3 b g d) s 1
      + gather_S20x32_S16384x5x1_S16384x5x32_2_0_n_n_0_2_132.batchCoord (ix3 b g d) 1
      + gather_S20x32_S16384x5x1_S16384x5x32_2_0_n_n_0_2_132.offCoord (ix3 b g d) 1 = d.val
    rw [GatherDims.batchCoord_eq_zero _ _ _ List.not_mem_nil, key1, off1]
    omega

/-- Below the table's height the guarded lookup is the plain one. -/
theorem genreRows_at {F : FTy → Type} [FloatOps F] (tab : FVec F S20x32 .f32) {a : IVec S16384x5 32} (h : ∀ i, (a i).toNat < 20)
    (b : Fin 16384) (g : Fin 5) (d : Fin 32) : genreRows tab a (ix3 b g d) = tab (ix2 ⟨(a (ix2 b g)).toNat, h _⟩ d) := by
  have e : genreRows tab a (ix3 b g d) = Scalar.select (genreInside a (ix2 b g))
      (Host.gather gather_S20x32_S16384x5x1_S16384x5x32_2_0_n_n_0_2_132 tab (genreStarts a) (ix3 b g d)) (FloatOps.ofBits .f32 0x7FC00000#32) := by
    pointwise [genreRows]
  rw [e, genreInside_all h]
  show Host.gather _ tab (genreStarts a) (ix3 b g d) = _
  rw [gather_genre]
  have hb := h (ix2 b g)
  have e2 : (genreStarts a (ix3 b g 0)).toInt.toNat = (a (ix2 b g)).toNat := by
    rw [genreStarts_at h, BitVec.toInt_eq_toNat_of_lt (by omega)]
    rfl
  have e3 : (⟨min (genreStarts a (ix3 b g 0)).toInt.toNat 19, by omega⟩ : Fin 20) = ⟨(a (ix2 b g)).toNat, h _⟩ := by
    refine Fin.ext ?_
    show min (genreStarts a (ix3 b g 0)).toInt.toNat 19 = (a (ix2 b g)).toNat
    rw [e2]
    omega
  rw [e3]

/-! ## Scores, weights and the pooled row -/

theorem scores_real {x : FVec Ideal S16384x5x32 .f32} {w : FVec Ideal S1x32 .f32} {c : FVec Ideal S1 .f32}
    {X : Fin 16384 → Fin 5 → Fin 32 → ℝ} {A : Fin 32 → ℝ} {C : ℝ}
    (hx : ∀ b g k, x (ix3 b g k) = (X b g k : EReal)) (hw : ∀ k, w (ix2 0 k) = (A k : EReal)) (hc : c (ix1 0) = (C : EReal))
    (b : Fin 16384) (g : Fin 5) : scores x w c (ix3 b g 0) = ((∑ k, X b g k * A k + C : ℝ) : EReal) := by
  pointwise [scores]
  simp only [hx, hw, hc, ← EReal.coe_mul, coe_sum, ← EReal.coe_add]

theorem top_real {s : FVec Ideal S16384x5x1 .f32} {S : Fin 16384 → Fin 5 → ℝ} (hs : ∀ b g, s (ix3 b g 0) = (S b g : EReal))
    (b : Fin 16384) : ∃ M : ℝ, top s (ix2 b 0) = (M : EReal) := by
  pointwise [top]
  simp only [hs, bits_low]
  obtain ⟨M, hM⟩ := fold_max_real fun g => S b g
  refine ⟨M, ?_⟩
  simp [hM]

theorem weights_at {s : FVec Ideal S16384x5x1 .f32} (b : Fin 16384) (g : Fin 5) :
    weights s (ix3 b g 0) = Ideal.exp (s (ix3 b g 0) - top s (ix2 b 0)) := by
  pointwise [weights]

theorem pooled_real {x : FVec Ideal S16384x5x32 .f32} {s : FVec Ideal S16384x5x1 .f32}
    {X : Fin 16384 → Fin 5 → Fin 32 → ℝ} {S : Fin 16384 → Fin 5 → ℝ}
    (hx : ∀ b g k, x (ix3 b g k) = (X b g k : EReal)) (hs : ∀ b g, s (ix3 b g 0) = (S b g : EReal))
    (b : Fin 16384) (d : Fin 32) : pooled x (weights s) (ix2 b d) = ((∑ g, soft (S b) g * X b g d : ℝ) : EReal) := by
  pointwise [pooled]
  have hm := top_real hs b
  simp only [weights_at, hs, hx, soft_coe (S b) _ hm, ← EReal.coe_mul, coe_sum]
  simp only [mul_comm]

/-- The genre part of the reference, a row: the weighted sum of its genres' rows of the table. -/
theorem genre_real {tab : FVec Ideal S20x32 .f32} {a : IVec S16384x5 32} {w : FVec Ideal S1x32 .f32} {c : FVec Ideal S1 .f32}
    {T : Fin 20 → Fin 32 → ℝ} {A : Fin 32 → ℝ} {C : ℝ} (h : ∀ i, (a i).toNat < 20)
    (ht : ∀ v k, tab (ix2 v k) = (T v k : EReal)) (hw : ∀ k, w (ix2 0 k) = (A k : EReal)) (hc : c (ix1 0) = (C : EReal))
    (b : Fin 16384) (d : Fin 32) :
    pooled (genreRows tab a) (weights (scores (genreRows tab a) w c)) (ix2 b d)
      = ((∑ g, soft (fun g => ∑ k, A k * T ⟨(a (ix2 b g)).toNat, h _⟩ k) g * T ⟨(a (ix2 b g)).toNat, h _⟩ d : ℝ) : EReal) := by
  have hx : ∀ b g k, genreRows tab a (ix3 b g k) = (T ⟨(a (ix2 b g)).toNat, h _⟩ k : EReal) := fun b g k => by
    rw [genreRows_at tab h, ht]
  rw [pooled_real hx (scores_real hx hw hc)]
  simp only [soft_add, mul_comm (A _)]

end Cert.Proof.Ref

end
-- ==== Proof.RefFirst.lean ====
/-
  The reference's first layer: the user row, the item row and the genre row side by side, against one matrix.
-/
module

public import proofs.«01_k».proof.Proof.RefGenre
public import proofs.«01_k».proof.Proof.KernelFirst

@[expose] public section

noncomputable section

namespace Cert.Proof.Ref

open Cert.ReferenceIdeal Cert.ReferenceIdeal.Gen
open Idealize.ShloMosaic

section
variable {F : FTy → Type} [FloatOps F]

/-- The user row, the item row and the genre row of every example, side by side. -/
def joined (u i : FVec F S16384x128 .f32) (g : FVec F S16384x32 .f32) : FVec F S16384x288 .f32 :=
  concatenate S16384x288 1 [⟨S16384x128, u⟩, ⟨S16384x128, i⟩, ⟨S16384x32, g⟩]
    concatenates_S16384x128_S16384x128_S16384x32_S16384x288_d1

/-- The first layer. -/
def first (x : FVec F S16384x288 .f32) (w : FVec F S256x288 .f32) (c : FVec F S256 .f32) : FVec F S16384x256 .f32 :=
  addf (Host.dotGeneral dot_S16384x288_S288x256_S16384x256_1_0_0_1_n_n none x (transpose S288x256 [1, 0] w transposes_S256x288_S288x256_1_0))
    (broadcastInDim S16384x256 ![0, 1] bcast_S1x256_S16384x256_0_1 (broadcastInDim S1x256 ![1] bcast_S256_S1x256_1 c))

end

theorem joined_left {u i : FVec Ideal S16384x128 .f32} {g : FVec Ideal S16384x32 .f32} {U V : Fin 16384 → Fin 128 → ℝ}
    (hu : ∀ b k, u (ix2 b k) = (U b k : EReal)) (hi : ∀ b k, i (ix2 b k) = (V b k : EReal)) (b : Fin 16384) (k : Fin 256) :
    joined u i g (ix2 b ⟨k.val, by omega⟩) = (joinedRow (U b) (V b) k : EReal) := by
  pointwise [joined]
  have h2 : k.val - 128 < 128 := by omega
  by_cases h : k.val < 128
  · rw [dif_pos h, hu]
    simp only [joinedRow, dif_pos h]
  · rw [dif_neg h, dif_pos h2, hi]
    simp only [joinedRow, dif_neg h]

theorem joined_right {u i : FVec Ideal S16384x128 .f32} {g : FVec Ideal S16384x32 .f32} (b : Fin 16384) (k : Fin 32) :
    joined u i g (ix2 b ⟨256 + k.val, by omega⟩) = g (ix2 b k) := by
  pointwise [joined]
  rw [dif_neg (by omega), dif_neg (by omega)]
  congr 2
  refine Fin.ext ?_
  show 256 + k.val - 128 - 128 = k.val
  omega

theorem first_real {x : FVec Ideal S16384x288 .f32} {w : FVec Ideal S256x288 .f32} {c : FVec Ideal S256 .f32}
    {C : Fin 16384 → Fin 256 → ℝ} {G : Fin 16384 → Fin 32 → ℝ} {W : Fin 256 → Fin 288 → ℝ}
    (hl : ∀ b (k : Fin 256), x (ix2 b ⟨k.val, by omega⟩) = (C b k : EReal))
    (hr : ∀ b (k : Fin 32), x (ix2 b ⟨256 + k.val, by omega⟩) = (G b k : EReal))
    (hw : ∀ j k, w (ix2 j k) = (W j k : EReal)) (b : Fin 16384) (j : Fin 256) :
    first x w c (ix2 b j)
      = (firstLayer C G (fun j k => W j ⟨k.val, by omega⟩) (fun j k => W j ⟨256 + k.val, by omega⟩) b j : EReal) + c (ix1 j) := by
  pointwise [first]
  have hx : ∀ k : Fin 288, ∃ r : ℝ, x (ix2 b k) = (r : EReal) := fun k => by
    by_cases h : k.val < 256
    · exact ⟨_, hl b ⟨k.val, h⟩⟩
    · refine ⟨G b ⟨k.val - 256, by omega⟩, ?_⟩
      rw [← hr]
      congr 2
      exact Fin.ext (by show k.val = 256 + (k.val - 256); omega)
  choose X hX using hx
  have el : ∀ k : Fin 256, X ⟨k.val, by omega⟩ = C b k := fun k => EReal.coe_injective ((hX _).symm.trans (hl b k))
  have er : ∀ k : Fin 32, X ⟨256 + k.val, by omega⟩ = G b k := fun k => EReal.coe_injective ((hX _).symm.trans (hr b k))
  simp only [hX, hw, ← EReal.coe_mul, coe_sum]
  refine congrArg (fun r : ℝ => (r : EReal) + c (ix1 j)) ?_
  unfold firstLayer
  have hs : ∑ k : Fin 288, X k * W j k
      = ∑ k : Fin 256, X ⟨k.val, by omega⟩ * W j ⟨k.val, by omega⟩ + ∑ k : Fin 32, X ⟨256 + k.val, by omega⟩ * W j ⟨256 + k.val, by omega⟩ :=
    Fin.sum_univ_add (a := 256) (b := 32) fun k : Fin (256 + 32) => X k * W j k
  rw [hs]
  simp only [el, er]

end Cert.Proof.Ref

end
-- ==== Proof.RefLayers.lean ====
/-
  The reference's layers after the first: their printed operations as functions of plain arrays, and their entries:
  each is the reference's normalisation of a column, against a matrix.
-/
module

public import proofs.«01_k».proof.Proof.Gen.ReferenceIdeal
public import proofs.«01_k».proof.Proof.Norm

@[expose] public section

noncomputable section

namespace Cert.Proof.Ref

open Cert.ReferenceIdeal Cert.ReferenceIdeal.Gen
open Idealize.ShloMosaic

section
variable {F : FTy → Type} [FloatOps F]

/-- The number of rows less the zero degrees of freedom taken off. -/
def count : FVec F S_ .f32 := subf (constant S_ .f32 0x46800000#32) (sitofp .f32 (constantI S_ 32 0#32))

end

theorem count_real (i : S_.Idx) : count (F := Ideal) i = ((16384 : ℝ) : EReal) := by
  unfold count
  pointwise
  rw [bits_rows]
  simp [FloatOps.sitofp]

theorem count_pos : (0 : EReal) < ((16384 : ℝ) : EReal) := by exact_mod_cast (by norm_num : (0 : ℝ) < 16384)

/-! ## Width 256 -/

section
variable {F : FTy → Type} [FloatOps F]

/-- The columns' means. -/
def mean256 (z : FVec F S16384x256 .f32) : FVec F S256 .f32 :=
  Host.divf (Host.reduceAdd z (constant S_ .f32 0x00000000#32) reducesTo_S16384x256_S256_d0 h_S_)
    (broadcastInDim S256 ![] bcast_S_S256 (constant S_ .f32 0x46800000#32))

/-- The entries less their column's mean. -/
def centred256 (z : FVec F S16384x256 .f32) : FVec F S16384x256 .f32 :=
  subf z (broadcastInDim S16384x256 ![0, 1] bcast_S1x256_S16384x256_0_1
    (Host.divf (broadcastInDim S1x256 ![1] bcast_S256_S1x256_1
        (Host.reduceAdd z (constant S_ .f32 0x00000000#32) reducesTo_S16384x256_S256_d0 h_S_))
      (broadcastInDim S1x256 ![] bcast_S_S1x256 (constant S_ .f32 0x46800000#32))))

/-- The columns' variances. -/
def var256 (z : FVec F S16384x256 .f32) : FVec F S256 .f32 :=
  select (broadcastInDim S256 ![] bcast_S_S256 (cmpf .ogt (count (F := F)) (constant S_ .f32 0x00000000#32)))
    (Host.divf (Host.reduceAdd (mulf (centred256 z) (centred256 z)) (constant S_ .f32 0x00000000#32) reducesTo_S16384x256_S256_d0 h_S_)
      (broadcastInDim S256 ![] bcast_S_S256 (count (F := F))))
    (broadcastInDim S256 ![] bcast_S_S256 (id (constant S_ .f32 0x7FC00000#32)))

/-- The normalised entries, cut at zero. -/
def act256 (z : FVec F S16384x256 .f32) (g e : FVec F S256 .f32) : FVec F S16384x256 .f32 :=
  maximumf (addf (Host.divf
      (mulf (broadcastInDim S16384x256 ![0, 1] bcast_S1x256_S16384x256_0_1 (broadcastInDim S1x256 ![1] bcast_S256_S1x256_1 g))
        (subf z (broadcastInDim S16384x256 ![0, 1] bcast_S1x256_S16384x256_0_1 (broadcastInDim S1x256 ![1] bcast_S256_S1x256_1 (mean256 z)))))
      (broadcastInDim S16384x256 ![0, 1] bcast_S1x256_S16384x256_0_1 (broadcastInDim S1x256 ![1] bcast_S256_S1x256_1
        (Host.sqrt (addf (var256 z) (broadcastInDim S256 ![] bcast_S_S256 (constant S_ .f32 0x3727C5AC#32)))))))
      (broadcastInDim S16384x256 ![0, 1] bcast_S1x256_S16384x256_0_1 (broadcastInDim S1x256 ![1] bcast_S256_S1x256_1 e)))
    (broadcastInDim S16384x256 ![] bcast_S_S16384x256 (constant S_ .f32 0x00000000#32))

end

theorem mean256_at (z : FVec Ideal S16384x256 .f32) (k : Fin 256) : mean256 z (ix1 k) = Ideal.div (∑ b, z (ix2 b k)) rowCount := by
  pointwise [mean256]

theorem centred256_at (z : FVec Ideal S16384x256 .f32) (b : Fin 16384) (k : Fin 256) :
    centred256 z (ix2 b k) = z (ix2 b k) - Ideal.div (∑ b, z (ix2 b k)) rowCount := by
  pointwise [centred256]

theorem var256_at (z : FVec Ideal S16384x256 .f32) (k : Fin 256) : var256 z (ix1 k) = varR fun b => z (ix2 b k) := by
  have h := centred256_at z
  pointwise [var256]
  simp only [h, zero_add, count_real]
  rw [if_pos count_pos]
  rfl

theorem act256_at (z : FVec Ideal S16384x256 .f32) (g e : FVec Ideal S256 .f32) (b : Fin 16384) (k : Fin 256) :
    act256 z g e (ix2 b k) = actR (fun b => z (ix2 b k)) (g (ix1 k)) (e (ix1 k)) b := by
  pointwise [act256]
  simp only [mean256_at, var256_at]
  rfl

/-- The next layer, of width 128. -/
def layer128 {F : FTy → Type} [FloatOps F] (z : FVec F S16384x256 .f32) (g e : FVec F S256 .f32) (w : FVec F S128x256 .f32) (c : FVec F S128 .f32) :
    FVec F S16384x128 .f32 :=
  addf (Host.dotGeneral dot_S16384x256_S256x128_S16384x128_1_0_0_1_n_n none (act256 z g e) (transpose S256x128 [1, 0] w transposes_S128x256_S256x128_1_0))
    (broadcastInDim S16384x128 ![0, 1] bcast_S1x128_S16384x128_0_1 (broadcastInDim S1x128 ![1] bcast_S128_S1x128_1 c))

theorem layer128_at (z : FVec Ideal S16384x256 .f32) (g e : FVec Ideal S256 .f32) (w : FVec Ideal S128x256 .f32) (c : FVec Ideal S128 .f32)
    (b : Fin 16384) (j : Fin 128) :
    layer128 z g e w c (ix2 b j) = layer actR (fun b k => z (ix2 b k)) (fun k => g (ix1 k)) (fun k => e (ix1 k)) (fun j k => w (ix2 j k))
      (fun j => c (ix1 j)) b j := by
  have ha := act256_at z g e
  pointwise [layer128]
  simp only [ha]
  rfl

/-! ## Width 128 -/

section
variable {F : FTy → Type} [FloatOps F]

/-- The columns' means. -/
def mean128 (z : FVec F S16384x128 .f32) : FVec F S128 .f32 :=
  Host.divf (Host.reduceAdd z (constant S_ .f32 0x00000000#32) reducesTo_S16384x128_S128_d0 h_S_)
    (broadcastInDim S128 ![] bcast_S_S128 (constant S_ .f32 0x46800000#32))

/-- The entries less their column's mean. -/
def centred128 (z : FVec F S16384x128 .f32) : FVec F S16384x128 .f32 :=
  subf z (broadcastInDim S16384x128 ![0, 1] bcast_S1x128_S16384x128_0_1
    (Host.divf (broadcastInDim S1x128 ![1] bcast_S128_S1x128_1
        (Host.reduceAdd z (constant S_ .f32 0x00000000#32) reducesTo_S16384x128_S128_d0 h_S_))
      (broadcastInDim S1x128 ![] bcast_S_S1x128 (constant S_ .f32 0x46800000#32))))

/-- The columns' variances. -/
def var128 (z : FVec F S16384x128 .f32) : FVec F S128 .f32 :=
  select (broadcastInDim S128 ![] bcast_S_S128 (cmpf .ogt (count (F := F)) (constant S_ .f32 0x00000000#32)))
    (Host.divf (Host.reduceAdd (mulf (centred128 z) (centred128 z)) (constant S_ .f32 0x00000000#32) reducesTo_S16384x128_S128_d0 h_S_)
      (broadcastInDim S128 ![] bcast_S_S128 (count (F := F))))
    (broadcastInDim S128 ![] bcast_S_S128 (id (constant S_ .f32 0x7FC00000#32)))

/-- The normalised entries, cut at zero. -/
def act128 (z : FVec F S16384x128 .f32) (g e : FVec F S128 .f32) : FVec F S16384x128 .f32 :=
  maximumf (addf (Host.divf
      (mulf (broadcastInDim S16384x128 ![0, 1] bcast_S1x128_S16384x128_0_1 (broadcastInDim S1x128 ![1] bcast_S128_S1x128_1 g))
        (subf z (broadcastInDim S16384x128 ![0, 1] bcast_S1x128_S16384x128_0_1 (broadcastInDim S1x128 ![1] bcast_S128_S1x128_1 (mean128 z)))))
      (broadcastInDim S16384x128 ![0, 1] bcast_S1x128_S16384x128_0_1 (broadcastInDim S1x128 ![1] bcast_S128_S1x128_1
        (Host.sqrt (addf (var128 z) (broadcastInDim S128 ![] bcast_S_S128 (constant S_ .f32 0x3727C5AC#32)))))))
      (broadcastInDim S16384x128 ![0, 1] bcast_S1x128_S16384x128_0_1 (broadcastInDim S1x128 ![1] bcast_S128_S1x128_1 e)))
    (broadcastInDim S16384x128 ![] bcast_S_S16384x128 (constant S_ .f32 0x00000000#32))

end

theorem mean128_at (z : FVec Ideal S16384x128 .f32) (k : Fin 128) : mean128 z (ix1 k) = Ideal.div (∑ b, z (ix2 b k)) rowCount := by
  pointwise [mean128]

theorem centred128_at (z : FVec Ideal S16384x128 .f32) (b : Fin 16384) (k : Fin 128) :
    centred128 z (ix2 b k) = z (ix2 b k) - Ideal.div (∑ b, z (ix2 b k)) rowCount := by
  pointwise [centred128]

theorem var128_at (z : FVec Ideal S16384x128 .f32) (k : Fin 128) : var128 z (ix1 k) = varR fun b => z (ix2 b k) := by
  have h := centred128_at z
  pointwise [var128]
  simp only [h, zero_add, count_real]
  rw [if_pos count_pos]
  rfl

theorem act128_at (z : FVec Ideal S16384x128 .f32) (g e : FVec Ideal S128 .f32) (b : Fin 16384) (k : Fin 128) :
    act128 z g e (ix2 b k) = actR (fun b => z (ix2 b k)) (g (ix1 k)) (e (ix1 k)) b := by
  pointwise [act128]
  simp only [mean128_at, var128_at]
  rfl

/-- The next layer, of width 64. -/
def layer64 {F : FTy → Type} [FloatOps F] (z : FVec F S16384x128 .f32) (g e : FVec F S128 .f32) (w : FVec F S64x128 .f32) (c : FVec F S64 .f32) :
    FVec F S16384x64 .f32 :=
  addf (Host.dotGeneral dot_S16384x128_S128x64_S16384x64_1_0_0_1_n_n none (act128 z g e) (transpose S128x64 [1, 0] w transposes_S64x128_S128x64_1_0))
    (broadcastInDim S16384x64 ![0, 1] bcast_S1x64_S16384x64_0_1 (broadcastInDim S1x64 ![1] bcast_S64_S1x64_1 c))

theorem layer64_at (z : FVec Ideal S16384x128 .f32) (g e : FVec Ideal S128 .f32) (w : FVec Ideal S64x128 .f32) (c : FVec Ideal S64 .f32)
    (b : Fin 16384) (j : Fin 64) :
    layer64 z g e w c (ix2 b j) = layer actR (fun b k => z (ix2 b k)) (fun k => g (ix1 k)) (fun k => e (ix1 k)) (fun j k => w (ix2 j k))
      (fun j => c (ix1 j)) b j := by
  have ha := act128_at z g e
  pointwise [layer64]
  simp only [ha]
  rfl

/-! ## Width 64 -/

section
variable {F : FTy → Type} [FloatOps F]

/-- The columns' means. -/
def mean64 (z : FVec F S16384x64 .f32) : FVec F S64 .f32 :=
  Host.divf (Host.reduceAdd z (constant S_ .f32 0x00000000#32) reducesTo_S16384x64_S64_d0 h_S_)
    (broadcastInDim S64 ![] bcast_S_S64 (constant S_ .f32 0x46800000#32))

/-- The entries less their column's mean. -/
def centred64 (z : FVec F S16384x64 .f32) : FVec F S16384x64 .f32 :=
  subf z (broadcastInDim S16384x64 ![0, 1] bcast_S1x64_S16384x64_0_1
    (Host.divf (broadcastInDim S1x64 ![1] bcast_S64_S1x64_1
        (Host.reduceAdd z (constant S_ .f32 0x00000000#32) reducesTo_S16384x64_S64_d0 h_S_))
      (broadcastInDim S1x64 ![] bcast_S_S1x64 (constant S_ .f32 0x46800000#32))))

/-- The columns' variances. -/
def var64 (z : FVec F S16384x64 .f32) : FVec F S64 .f32 :=
  select (broadcastInDim S64 ![] bcast_S_S64 (cmpf .ogt (count (F := F)) (constant S_ .f32 0x00000000#32)))
    (Host.divf (Host.reduceAdd (mulf (centred64 z) (centred64 z)) (constant S_ .f32 0x00000000#32) reducesTo_S16384x64_S64_d0 h_S_)
      (broadcastInDim S64 ![] bcast_S_S64 (count (F := F))))
    (broadcastInDim S64 ![] bcast_S_S64 (id (constant S_ .f32 0x7FC00000#32)))

/-- The normalised entries, cut at zero. -/
def act64 (z : FVec F S16384x64 .f32) (g e : FVec F S64 .f32) : FVec F S16384x64 .f32 :=
  maximumf (addf (Host.divf
      (mulf (broadcastInDim S16384x64 ![0, 1] bcast_S1x64_S16384x64_0_1 (broadcastInDim S1x64 ![1] bcast_S64_S1x64_1 g))
        (subf z (broadcastInDim S16384x64 ![0, 1] bcast_S1x64_S16384x64_0_1 (broadcastInDim S1x64 ![1] bcast_S64_S1x64_1 (mean64 z)))))
      (broadcastInDim S16384x64 ![0, 1] bcast_S1x64_S16384x64_0_1 (broadcastInDim S1x64 ![1] bcast_S64_S1x64_1
        (Host.sqrt (addf (var64 z) (broadcastInDim S64 ![] bcast_S_S64 (constant S_ .f32 0x3727C5AC#32)))))))
      (broadcastInDim S16384x64 ![0, 1] bcast_S1x64_S16384x64_0_1 (broadcastInDim S1x64 ![1] bcast_S64_S1x64_1 e)))
    (broadcastInDim S16384x64 ![] bcast_S_S16384x64 (constant S_ .f32 0x00000000#32))

end

theorem mean64_at (z : FVec Ideal S16384x64 .f32) (k : Fin 64) : mean64 z (ix1 k) = Ideal.div (∑ b, z (ix2 b k)) rowCount := by
  pointwise [mean64]

theorem centred64_at (z : FVec Ideal S16384x64 .f32) (b : Fin 16384) (k : Fin 64) :
    centred64 z (ix2 b k) = z (ix2 b k) - Ideal.div (∑ b, z (ix2 b k)) rowCount := by
  pointwise [centred64]

theorem var64_at (z : FVec Ideal S16384x64 .f32) (k : Fin 64) : var64 z (ix1 k) = varR fun b => z (ix2 b k) := by
  have h := centred64_at z
  pointwise [var64]
  simp only [h, zero_add, count_real]
  rw [if_pos count_pos]
  rfl

theorem act64_at (z : FVec Ideal S16384x64 .f32) (g e : FVec Ideal S64 .f32) (b : Fin 16384) (k : Fin 64) :
    act64 z g e (ix2 b k) = actR (fun b => z (ix2 b k)) (g (ix1 k)) (e (ix1 k)) b := by
  pointwise [act64]
  simp only [mean64_at, var64_at]
  rfl

/-- The next layer, of width 1. -/
def layer1 {F : FTy → Type} [FloatOps F] (z : FVec F S16384x64 .f32) (g e : FVec F S64 .f32) (w : FVec F S1x64 .f32) (c : FVec F S1 .f32) :
    FVec F S16384x1 .f32 :=
  addf (Host.dotGeneral dot_S16384x64_S64x1_S16384x1_1_0_0_1_n_n none (act64 z g e) (transpose S64x1 [1, 0] w transposes_S1x64_S64x1_1_0))
    (broadcastInDim S16384x1 ![0, 1] bcast_S1x1_S16384x1_0_1 (broadcastInDim S1x1 ![1] bcast_S1_S1x1_1 c))

theorem layer1_at (z : FVec Ideal S16384x64 .f32) (g e : FVec Ideal S64 .f32) (w : FVec Ideal S1x64 .f32) (c : FVec Ideal S1 .f32)
    (b : Fin 16384) (j : Fin 1) :
    layer1 z g e w c (ix2 b j) = layer actR (fun b k => z (ix2 b k)) (fun k => g (ix1 k)) (fun k => e (ix1 k)) (fun j k => w (ix2 j k))
      (fun j => c (ix1 j)) b j := by
  have ha := act64_at z g e
  obtain rfl : j = 0 := Subsingleton.elim j 0
  pointwise [layer1]
  simp only [ha]
  rfl

/-! ## The ratings -/

/-- The sigmoid of a column, laid flat, times five. -/
def ratings {F : FTy → Type} [FloatOps F] (x : FVec F S16384x1 .f32) : FVec F S16384 .f32 :=
  mulf (shapeCast _ (Host.divf (broadcastInDim S16384x1 ![] bcast_S_S16384x1 (constant S_ .f32 0x3F800000#32))
      (addf (broadcastInDim S16384x1 ![] bcast_S_S16384x1 (constant S_ .f32 0x3F800000#32)) (Host.exp (Host.negf x)))) shapeCasts_S16384x1_S16384)
    (broadcastInDim S16384 ![] bcast_S_S16384 (constant S_ .f32 0x40A00000#32))

theorem ratings_at (x : FVec Ideal S16384x1 .f32) (b : Fin 16384) :
    ratings x (ix1 b) = Ideal.logistic (x (ix2 b 0)) * ((5 : ℝ) : EReal) := by
  pointwise [ratings]
  simp only [bits_one, EReal.coe_one, bits_five]
  rfl

end Cert.Proof.Ref

end
-- ==== Proof.RefValue.lean ====
/-
  The reference's result: at every example, the number the network gives it under the reference's normalisation.
-/
module

public import proofs.«01_k».proof.Proof.Gen.ReferenceIdeal.Run
public import proofs.«01_k».proof.Proof.RefFirst
public import proofs.«01_k».proof.Proof.RefLayers
public import proofs.«01_k».proof.Proof.Net

@[expose] public section

noncomputable section

namespace Cert.Proof.Ref

open Cert.ReferenceIdeal Cert.ReferenceIdeal.Gen
open Idealize.ShloMosaic Idealize.ShloMosaic.StableHlo

section
variable {F : FTy → Type} [FloatOps F]

/-- The reference's result as a function of its arguments. -/
def refOut (a0 a1 : IVec S16384 32) (a2 : IVec S16384x5 32) (a3 a4 : FVec F S100000x128 .f32) (a5 : FVec F S20x32 .f32)
    (a6 : FVec F S1x32 .f32) (a7 : FVec F S1 .f32) (a8 : FVec F S256x288 .f32) (a9 a10 a11 : FVec F S256 .f32) (a12 : FVec F S128x256 .f32)
    (a13 a14 a15 : FVec F S128 .f32) (a16 : FVec F S64x128 .f32) (a17 a18 a19 : FVec F S64 .f32) (a20 : FVec F S1x64 .f32)
    (a21 : FVec F S1 .f32) : FVec F S16384 .f32 :=
  ratings (layer1 (layer64 (layer128
    (first (joined (rows a3 a0) (rows a4 a1) (pooled (genreRows a5 a2) (weights (scores (genreRows a5 a2) a6 a7)))) a8 a9)
    a10 a11 a12 a13) a14 a15 a16 a17) a18 a19 a20 a21)

variable (V : Valuation τ sig (Elt F))

theorem rows_v2 : Value.res_main_v2 V = genreRows (V (Proc.devRef .tc main_arg5)) (V (Proc.devRef .tc main_arg2)) := rfl

theorem scores_v6 : Value.res_main_v6 V = scores (Value.res_main_v2 V) (V (Proc.devRef .tc main_arg6)) (V (Proc.devRef .tc main_arg7)) := rfl

theorem weights_v13 : Value.res_main_v13 V = weights (Value.res_main_v6 V) := rfl

theorem first_v26 : Value.res_main_v26 V
    = first (joined (rows (V (Proc.devRef .tc main_arg3)) (V (Proc.devRef .tc main_arg0)))
        (rows (V (Proc.devRef .tc main_arg4)) (V (Proc.devRef .tc main_arg1))) (pooled (Value.res_main_v2 V) (Value.res_main_v13 V)))
      (V (Proc.devRef .tc main_arg8)) (V (Proc.devRef .tc main_arg9)) := rfl

theorem layer_v51 : Value.res_main_v51 V = layer128 (Value.res_main_v26 V) (V (Proc.devRef .tc main_arg10)) (V (Proc.devRef .tc main_arg11))
    (V (Proc.devRef .tc main_arg12)) (V (Proc.devRef .tc main_arg13)) := rfl

theorem layer_v76 : Value.res_main_v76 V = layer64 (Value.res_main_v51 V) (V (Proc.devRef .tc main_arg14)) (V (Proc.devRef .tc main_arg15))
    (V (Proc.devRef .tc main_arg16)) (V (Proc.devRef .tc main_arg17)) := rfl

theorem result_v110 : Value.val3 V (Proc.devRef .tc main_v110)
    = ratings (layer1 (Value.res_main_v76 V) (V (Proc.devRef .tc main_arg18)) (V (Proc.devRef .tc main_arg19))
        (V (Proc.devRef .tc main_arg20)) (V (Proc.devRef .tc main_arg21))) := (Value.val3_main_v110 V).trans rfl

theorem result_eq : Value.val3 V (Proc.devRef .tc main_v110)
    = refOut (V (Proc.devRef .tc main_arg0)) (V (Proc.devRef .tc main_arg1)) (V (Proc.devRef .tc main_arg2)) (V (Proc.devRef .tc main_arg3))
        (V (Proc.devRef .tc main_arg4)) (V (Proc.devRef .tc main_arg5)) (V (Proc.devRef .tc main_arg6)) (V (Proc.devRef .tc main_arg7))
        (V (Proc.devRef .tc main_arg8)) (V (Proc.devRef .tc main_arg9)) (V (Proc.devRef .tc main_arg10)) (V (Proc.devRef .tc main_arg11))
        (V (Proc.devRef .tc main_arg12)) (V (Proc.devRef .tc main_arg13)) (V (Proc.devRef .tc main_arg14)) (V (Proc.devRef .tc main_arg15))
        (V (Proc.devRef .tc main_arg16)) (V (Proc.devRef .tc main_arg17)) (V (Proc.devRef .tc main_arg18)) (V (Proc.devRef .tc main_arg19))
        (V (Proc.devRef .tc main_arg20)) (V (Proc.devRef .tc main_arg21)) := by
  rw [result_v110, layer_v76, layer_v51, first_v26, weights_v13, scores_v6, rows_v2]
  rfl

end

/-- The reference's result at an example is the network's output under the reference's normalisation. -/
theorem refOut_real {a0 a1 : IVec S16384 32} {a2 : IVec S16384x5 32} (h0 : ∀ i, (a0 i).toNat < 100000) (h1 : ∀ i, (a1 i).toNat < 100000)
    (h2 : ∀ i, (a2 i).toNat < 20) {a3 a4 : FVec Ideal S100000x128 .f32} {a5 : FVec Ideal S20x32 .f32} {a6 : FVec Ideal S1x32 .f32} {a7 : FVec Ideal S1 .f32}
    {a8 : FVec Ideal S256x288 .f32} {a9 a10 a11 : FVec Ideal S256 .f32} {a12 : FVec Ideal S128x256 .f32} {a13 a14 a15 : FVec Ideal S128 .f32}
    {a16 : FVec Ideal S64x128 .f32} {a17 a18 a19 : FVec Ideal S64 .f32} {a20 : FVec Ideal S1x64 .f32} {a21 : FVec Ideal S1 .f32} {N : Net}
    (hN : Holds N a3 a4 a5 a6 a7 a8 a9 a10 a11 a12 a13 a14 a15 a16 a17 a18 a19 a20 a21) (b : Fin 16384) :
    refOut a0 a1 a2 a3 a4 a5 a6 a7 a8 a9 a10 a11 a12 a13 a14 a15 a16 a17 a18 a19 a20 a21 (ix1 b)
      = N.output (rowOf h0) (rowOf h1) (genreOf h2) actR b := by
  have hu : ∀ b k, rows a3 a0 (ix2 b k) = (N.users (rowOf h0 b) k : EReal) := fun b k => (rows_at a3 h0 b k).trans (hN.users _ _)
  have hi : ∀ b k, rows a4 a1 (ix2 b k) = (N.items (rowOf h1 b) k : EReal) := fun b k => (rows_at a4 h1 b k).trans (hN.items _ _)
  have hg : ∀ b d, pooled (genreRows a5 a2) (weights (scores (genreRows a5 a2) a6 a7)) (ix2 b d) = (N.pooled (genreOf h2) b d : EReal) :=
    fun b d => genre_real h2 hN.genres hN.att hN.attBias b d
  have hz := first_real (c := a9) (joined_left hu hi) (fun b k => (joined_right b k).trans (hg b k)) hN.W0
  have hc : ∀ j, a21 (ix1 j) = N.CP := fun j => by
    obtain rfl : j = 0 := Subsingleton.elim j 0
    exact hN.CP
  have hw : ∀ j k, a20 (ix2 j k) = N.WP k := fun j k => by
    obtain rfl : j = 0 := Subsingleton.elim j 0
    exact hN.WP k
  unfold refOut
  rw [ratings_at, layer1_at]
  simp only [layer64_at, layer128_at, hz, hw, hc, hN.C0, hN.γ0, hN.β0, hN.W1, hN.C1, hN.γ1, hN.β1, hN.W2, hN.C2, hN.γ2, hN.β2]
  rfl

end Cert.Proof.Ref

end
-- ==== Proof.Equation.lean ====
/-
  The two results are one: both are, at every example, the network's number, which does not depend on the normalisation.
-/
module

public import proofs.«01_k».proof.Proof.KernelValue
public import proofs.«01_k».proof.Proof.RefValue

@[expose] public section

noncomputable section

namespace Cert.Proof

open Cert.KernelIdeal Cert.KernelIdeal.Gen
open Idealize.ShloMosaic

/-- In range the reference's result is the kernel's. -/
theorem results_eq {a0 a1 : IVec S16384 32} {a2 : IVec S16384x5 32} {a3 a4 : FVec Ideal S100000x128 .f32} {a5 : FVec Ideal S20x32 .f32} {a6 : FVec Ideal S1x32 .f32} {a7 : FVec Ideal S1 .f32}
    {a8 : FVec Ideal S256x288 .f32} {a9 a10 a11 : FVec Ideal S256 .f32} {a12 : FVec Ideal S128x256 .f32} {a13 a14 a15 : FVec Ideal S128 .f32}
    {a16 : FVec Ideal S64x128 .f32} {a17 a18 a19 : FVec Ideal S64 .f32} {a20 : FVec Ideal S1x64 .f32} {a21 : FVec Ideal S1 .f32}
    (h : InRange a0 a1 a2 a3 a4 a5 a6 a7 a8 a9 a10 a11 a12 a13 a14 a15 a16 a17 a18 a19 a20 a21) :
    Ref.refOut a0 a1 a2 a3 a4 a5 a6 a7 a8 a9 a10 a11 a12 a13 a14 a15 a16 a17 a18 a19 a20 a21
      = kernelOut (F := Ideal) a0 a1 a2 a3 a4 a5 a6 a8 a9 a10 a11 a12 a13 a14 a15 a16 a17 a18 a19 a20 a21 := by
  obtain ⟨N, hN⟩ := holds_of h
  funext x
  obtain ⟨b, rfl⟩ : ∃ b, x = ix1 b := ⟨x 0, eq_ix1 x⟩
  rw [Ref.refOut_real h.u h.i h.g hN b, kernelOut_real h.u h.i h.g hN b]
  exact (rest_eq normalises_reference b).trans (rest_eq normalises_kernel b).symm

end Cert.Proof

end
-- ==== Proof.lean ====
/-
  The proof of `Cert.Claim`: the frames of the three programs, the preservation of the text, and the
  equality of the kernel's result and the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.FrameKernel
public import proofs.«01_k».proof.Proof.Equation
public import Idealize.ShloMosaic.Adequacy
public import Idealize.ShloMosaic.Init

@[expose] public section

noncomputable section

namespace Cert.Proof

open Idealize.ShloMosaic Idealize.SL.Sem

/-- The reference ends with its arguments unchanged; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which the reference's frame does not need. -/
theorem frame_reference_in_range : Cert.quiescent_ReferenceIdeal_pre_in_range := fun m ρ _ => frame_reference m ρ trivial

/-- From one set of arguments in range, the kernel and the reference end with the same result. -/
theorem algebraic : Cert.algebraic_KernelIdeal_ReferenceIdeal_pre_in_range := fun m g m' g' hP hA => by
  refine ⟨fun c => V7 m c (Proc.devRef .tc Cert.KernelIdeal.main_v20), ?_, ?_⟩
  · exact (θ_run (Cert.KernelIdeal.defs (F := Ideal)) _ _).mono (fun r h c => ⟨read_result m (h.1 c), kept_args m (h.1 c)⟩)
      (run_args m g fun d => ⟨(inRange_of (hP d)).u, (inRange_of (hP d)).i⟩)
  · refine (θ_run Cert.ReferenceIdeal.defs _ _).mono (fun r h c => ⟨(h c).1.trans ?_, (h c).2⟩)
      (Cert.ReferenceIdeal.Value.run (F := Ideal) m' g')
    refine (Cert.ReferenceIdeal.Value.val3_main_v110 (StableHlo.launchContents m' c)).symm.trans ((Ref.result_eq _).trans ?_)
    have hin := inRange_of (hP c)
    have key := (results_eq hin).trans (V7_v20 m c).symm
    obtain ⟨e0, e1, e2, e3, e4, e5, e6, e7, e8, e9, e10, e11, e12, e13, e14, e15, e16, e17, e18, e19, e20, e21⟩ := hA c
    show Ref.refOut (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        (m' ((c.tc : Thread Cert.ReferenceIdeal.nD Cert.ReferenceIdeal.τ).loc Cert.ReferenceIdeal.main_arg15))
        (m' ((c.tc : Thread Cert.ReferenceIdeal.nD Cert.ReferenceIdeal.τ).loc Cert.ReferenceIdeal.main_arg16))
        (m' ((c.tc : Thread Cert.ReferenceIdeal.nD Cert.ReferenceIdeal.τ).loc Cert.ReferenceIdeal.main_arg17))
        (m' ((c.tc : Thread Cert.ReferenceIdeal.nD Cert.ReferenceIdeal.τ).loc Cert.ReferenceIdeal.main_arg18))
        (m' ((c.tc : Thread Cert.ReferenceIdeal.nD Cert.ReferenceIdeal.τ).loc Cert.ReferenceIdeal.main_arg19))
        (m' ((c.tc : Thread Cert.ReferenceIdeal.nD Cert.ReferenceIdeal.τ).loc Cert.ReferenceIdeal.main_arg20))
        (m' ((c.tc : Thread Cert.ReferenceIdeal.nD Cert.ReferenceIdeal.τ).loc Cert.ReferenceIdeal.main_arg21)) = _
    rw [e0, e1, e2, e3, e4, e5, e6, e7, e8, e9, e10, e11, e12, e13, e14, e15, e16, e17, e18, e19, e20, e21]
    exact key

theorem claim : Cert.Claim :=
  ⟨Cert.Kernel.Gen.facts, Cert.KernelIdeal.Gen.facts, Cert.ReferenceIdeal.Gen.facts, table_facts, Cert.Pre_in_range.Gen.facts,
    frame_kernel, frame_ideal, frame_ideal_in_range, frame_reference, frame_reference_in_range, trivial, algebraic⟩

end Cert.Proof

end
